-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite_rows [hPre_finite_rows : Cert.Pre_finite_rows.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite_rows.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite_rows [hPre_finite_rows : Cert.Pre_finite_rows.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite_rows.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite_rows [hKernel5Ideal : Cert.Kernel5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite_rows m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite_rows [hReference5Ideal : Cert.Reference5Ideal.Facts] [hPre_finite_rows : Cert.Pre_finite_rows.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite_rows m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v8)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v23) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v23) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal_pre_finite_rows [hKernel5Ideal : Cert.Kernel5Ideal.Facts] [hReference5Ideal : Cert.Reference5Ideal.Facts] [hPre_finite_rows : Cert.Pre_finite_rows.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite_rows m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v13_0)) (v1 : (c : Dev Cert.Kernel5Ideal.nD) → Buf (Elt Ideal) ((c.tc : Thread Cert.Kernel5Ideal.nD Cert.Kernel5Ideal.τ).loc Cert.Kernel5Ideal.main_v13_1)) (v2 : (c : Dev Cert.Kernel5Ideal.nD) → Buf (Elt Ideal) ((c.tc : Thread Cert.Kernel5Ideal.nD Cert.Kernel5Ideal.τ).loc Cert.Kernel5Ideal.main_v13_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v13_0) = v0 c
          ∧ r.2.mem ((c.tc : Thread Cert.Kernel5Ideal.nD Cert.Kernel5Ideal.τ).loc Cert.Kernel5Ideal.main_v13_1) = v1 c
          ∧ r.2.mem ((c.tc : Thread Cert.Kernel5Ideal.nD Cert.Kernel5Ideal.τ).loc Cert.Kernel5Ideal.main_v13_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v110) = v0 c
          ∧ r.2.mem ((c.tc : Thread Cert.Reference5Ideal.nD Cert.Reference5Ideal.τ).loc Cert.Reference5Ideal.main_v111) = v1 c
          ∧ r.2.mem ((c.tc : Thread Cert.Reference5Ideal.nD Cert.Reference5Ideal.τ).loc Cert.Reference5Ideal.main_v112) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite : Cert.Pre_finite.Facts) (hPre_finite_rows : Cert.Pre_finite_rows.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite_rows (hKernel5Ideal := hKernel5Ideal) (hPre_finite_rows := hPre_finite_rows)
    ∧ quiescent_Reference5Ideal (hReference5Ideal := hReference5Ideal)
    ∧ quiescent_Reference5Ideal_pre_finite_rows (hReference5Ideal := hReference5Ideal) (hPre_finite_rows := hPre_finite_rows)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite_rows (hKernel5Ideal := hKernel5Ideal) (hReference5Ideal := hReference5Ideal) (hPre_finite_rows := hPre_finite_rows)
-- ==== Pre_finite.lean ====
abbrev S16x8x2048x128 : Shape := ⟨4, ![16, 8, 2048, 128]⟩
abbrev S_ : Shape := ⟨0, ![]⟩

class Facts : Prop where
  bcast_S_S16x8x2048x128 : S_.BroadcastsInDim S16x8x2048x128 (![] : Fin 0 → Fin S16x8x2048x128.rank)

variable [Facts]

def fn {F : FTy → Type} [FloatOps F] (main_arg0 : FVec F S16x8x2048x128 .f32) (main_arg1 : FVec F S16x8x2048x128 .f32) (main_arg2 : FVec F S16x8x2048x128 .f32) : IVec S16x8x2048x128 1 :=
  let main_v0 : FVec F S16x8x2048x128 .f32 := Host.absf main_arg0
  let main_cst : FVec F S_ .f32 := constant S_ .f32 0x7F800000#32
  let main_v1 : FVec F S16x8x2048x128 .f32 := broadcastInDim S16x8x2048x128 ![] bcast_S_S16x8x2048x128 main_cst
  let main_v2 : IVec S16x8x2048x128 1 := cmpf .olt main_v0 main_v1
  let main_v3 : FVec F S16x8x2048x128 .f32 := Host.absf main_arg1
  let main_cst_0 : FVec F S_ .f32 := constant S_ .f32 0x7F800000#32
  let main_v4 : FVec F S16x8x2048x128 .f32 := broadcastInDim S16x8x2048x128 ![] bcast_S_S16x8x2048x128 main_cst_0
  let main_v5 : IVec S16x8x2048x128 1 := cmpf .olt main_v3 main_v4
  let main_v6 : IVec S16x8x2048x128 1 := andi main_v2 main_v5
  main_v6
-- ==== Pre_finite_rows.lean ====
abbrev S16x2048x1024 : Shape := ⟨3, ![16, 2048, 1024]⟩
abbrev S16x2048 : Shape := ⟨2, ![16, 2048]⟩
abbrev S1024 : Shape := ⟨1, ![1024]⟩
abbrev S1024x3072 : Shape := ⟨2, ![1024, 3072]⟩
abbrev S128 : Shape := ⟨1, ![128]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S16x2048x1024 .f32) (main_arg1 : IVec S16x2048 32) (main_arg2 : FVec F S1024 .f32) (main_arg3 : FVec F S1024x3072 .f32) (main_arg4 : FVec F S128 .f32) (main_arg5 : FVec F S128 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x3072 .f32 := Host.absf main_arg3
  let main_cst_2 : FVec F S_ .f32 := constant S_ .f32 0x7F800000#32
  let main_v10 : FVec F S1024x3072 .f32 := broadcastInDim S1024x3072 ![] bcast_S_S1024x3072 main_cst_2
  let main_v11 : IVec S1024x3072 1 := cmpf .olt main_v9 main_v10
  let main_c_3 : IVec S_ 1 := constantI S_ 1 1#1
  let main_v12 : IVec S_ 1 := (fun x v => Host.reduce IntOp.andi x v reducesTo_S1024x3072_S_d0_1 h_S_) main_v11 main_c_3
  let main_v13 : IVec S_ 1 := andi main_v8 main_v12
  main_v13
-- ==== Kernel.lean ====
abbrev S16x8x2048x128 : Shape := ⟨4, ![16, 8, 2048, 128]⟩
abbrev S_ : Shape := ⟨0, ![]⟩
abbrev S16x2048x1024 : Shape := ⟨3, ![16, 2048, 1024]⟩
abbrev S1x1x2048x128 : Shape := ⟨4, ![1, 1, 2048, 128]⟩
abbrev S1x2048x128 : Shape := ⟨3, ![1, 2048, 128]⟩
abbrev S128x2048 : Shape := ⟨2, ![128, 2048]⟩
abbrev S2x2048x256 : Shape := ⟨3, ![2, 2048, 256]⟩
abbrev S2048x128 : Shape := ⟨2, ![2048, 128]⟩
abbrev S1x1x256x128 : Shape := ⟨4, ![1, 1, 256, 128]⟩
abbrev S256x128 : Shape := ⟨2, ![256, 128]⟩
abbrev S128 : Shape := ⟨1, ![128]⟩
abbrev S1x128 : Shape := ⟨2, ![1, 128]⟩
abbrev S8x128 : Shape := ⟨2, ![8, 128]⟩
abbrev S8x2048 : Shape := ⟨2, ![8, 2048]⟩
abbrev S1x2048 : Shape := ⟨2, ![1, 2048]⟩
abbrev S256x256 : Shape := ⟨2, ![256, 256]⟩
abbrev S1x256x256 : Shape := ⟨3, ![1, 256, 256]⟩
abbrev S256 : Shape := ⟨1, ![256]⟩
abbrev S1x256 : Shape := ⟨2, ![1, 256]⟩
abbrev S128x256 : Shape := ⟨2, ![128, 256]⟩
abbrev S1x256x128 : Shape := ⟨3, ![1, 256, 128]⟩
abbrev S128x512 : Shape := ⟨2, ![128, 512]⟩
abbrev S1x512x256 : Shape := ⟨3, ![1, 512, 256]⟩
abbrev S512x256 : Shape := ⟨2, ![512, 256]⟩
abbrev S128x768 : Shape := ⟨2, ![128, 768]⟩
abbrev S1x768x256 : Shape := ⟨3, ![1, 768, 256]⟩
abbrev S768x256 : Shape := ⟨2, ![768, 256]⟩
abbrev S128x1024 : Shape := ⟨2, ![128, 1024]⟩
abbrev S1x1024x256 : Shape := ⟨3, ![1, 1024, 256]⟩
abbrev S1024x256 : Shape := ⟨2, ![1024, 256]⟩
abbrev S128x1280 : Shape := ⟨2, ![128, 1280]⟩
abbrev S1x1280x256 : Shape := ⟨3, ![1, 1280, 256]⟩
abbrev S1280x256 : Shape := ⟨2, ![1280, 256]⟩
abbrev S128x1536 : Shape := ⟨2, ![128, 1536]⟩
abbrev S1x1536x256 : Shape := ⟨3, ![1, 1536, 256]⟩
abbrev S1536x256 : Shape := ⟨2, ![1536, 256]⟩
abbrev S128x1792 : Shape := ⟨2, ![128, 1792]⟩
abbrev S1x1792x256 : Shape := ⟨3, ![1, 1792, 256]⟩
abbrev S1792x256 : Shape := ⟨2, ![1792, 256]⟩
abbrev S1x2048x256 : Shape := ⟨3, ![1, 2048, 256]⟩
abbrev S2048x256 : Shape := ⟨2, ![2048, 256]⟩

abbrev nBuf : Space → Nat
  | .hbm => 13
  | .vmem => 11
  | .smem => 0
  | _ => 0

abbrev bufTy : (tb : Table) → Fin (tcTables nBuf tb) → BufTy
  | .hbm, ⟨0, _⟩ => ⟨S16x8x2048x128, .f32⟩
  | .hbm, ⟨1, _⟩ => ⟨S16x8x2048x128, .f32⟩
  | .hbm, ⟨2, _⟩ => ⟨S16x8x2048x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S16x8x2048x128, .f32⟩
  | .hbm, ⟨8, _⟩ => ⟨S16x8x2048x128, .f32⟩
  | .hbm, ⟨9, _⟩ => ⟨S16x8x2048x128, .bf16⟩
  | .hbm, ⟨10, _⟩ => ⟨S16x8x2048x128, .bf16⟩
  | .hbm, ⟨11, _⟩ => ⟨S16x8x2048x128, .bf16⟩
  | .hbm, ⟨12, _⟩ => ⟨S16x2048x1024, .bf16⟩
  | .local _ .vmem, ⟨0, _⟩ => ⟨S1x1x2048x128, .bf16⟩
  | .local _ .vmem, ⟨1, _⟩ => ⟨S1x1x2048x128, .bf16⟩
  | .local _ .vmem, ⟨2, _⟩ => ⟨S1x1x2048x128, .bf16⟩
  | .local _ .vmem, ⟨3, _⟩ => ⟨S1x1x2048x128, .bf16⟩
  | .local _ .vmem, ⟨4, _⟩ => ⟨S1x1x2048x128, .bf16⟩
  | .local _ .vmem, ⟨5, _⟩ => ⟨S1x1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S128x2048, .bf16⟩
  | .local _ .vmem, ⟨9, _⟩ => ⟨S2x2048x256, .f32⟩
  | .local _ .vmem, ⟨10, _⟩ => ⟨S2x2048x256, .bf16⟩
  | _, _ => ⟨S16x8x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S16x8x2048x128 : Shape := ⟨4, ![16, 8, 2048, 128]⟩
abbrev S16x8x8x256x128 : Shape := ⟨5, ![16, 8, 8, 256, 128]⟩
abbrev S2048 : Shape := ⟨1, ![2048]⟩
abbrev S_ : Shape := ⟨0, ![]⟩
abbrev S16x8x8x128 : Shape := ⟨4, ![16, 8, 8, 128]⟩
abbrev S16x8x2048x8 : Shape := ⟨4, ![16, 8, 2048, 8]⟩
abbrev S8 : Shape := ⟨1, ![8]⟩
abbrev S1x8 : Shape := ⟨2, ![1, 8]⟩
abbrev S2048x1 : Shape := ⟨2, ![2048, 1]⟩
abbrev S2048x8 : Shape := ⟨2, ![2048, 8]⟩
abbrev S16x8x2048x3 : Shape := ⟨4, ![16, 8, 2048, 3]⟩
abbrev S1x1x2048x1 : Shape := ⟨4, ![1, 1, 2048, 1]⟩
abbrev S256 : Shape := ⟨1, ![256]⟩
abbrev S16x8x8x256x256 : Shape := ⟨5, ![16, 8, 8, 256, 256]⟩
abbrev S1x256 : Shape := ⟨2, ![1, 256]⟩
abbrev S256x1 : Shape := ⟨2, ![256, 1]⟩
abbrev S256x256 : Shape := ⟨2, ![256, 256]⟩
abbrev S16x8x2048x256 : Shape := ⟨4, ![16, 8, 2048, 256]⟩
abbrev S16 : Shape := ⟨1, ![16]⟩
abbrev S16x1x1x1 : Shape := ⟨4, ![16, 1, 1, 1]⟩
abbrev S1x8x1x1 : Shape := ⟨4, ![1, 8, 1, 1]⟩
abbrev S16x8x2048x3x1 : Shape := ⟨5, ![16, 8, 2048, 3, 1]⟩
abbrev S16x8x2048x3x3 : Shape := ⟨5, ![16, 8, 2048, 3, 3]⟩
abbrev S16x8x2048x3x256x128 : Shape := ⟨6, ![16, 8, 2048, 3, 256, 128]⟩
abbrev S16x8x2048x3x256 : Shape := ⟨5, ![16, 8, 2048, 3, 256]⟩
abbrev S16x8x2048x768 : Shape := ⟨4, ![16, 8, 2048, 768]⟩
abbrev S16x8x2048x1024 : Shape := ⟨4, ![16, 8, 2048, 1024]⟩
abbrev S16x8x2048 : Shape := ⟨3, ![16, 8, 2048]⟩
abbrev S16x8x2048x1 : Shape := ⟨4, ![16, 8, 2048, 1]⟩
abbrev S16x2048x8x128 : Shape := ⟨4, ![16, 2048, 8, 128]⟩
abbrev S16x2048x1024 : Shape := ⟨3, ![16, 2048, 1024]⟩

abbrev nBuf : Space → Nat
  | .hbm => 161
  | .vmem => 0
  | .smem => 0
  | _ => 0

abbrev hbmTy0_0 (i : Nat) : BufTy := match i % 128 with
  | 0 => ⟨S16x8x2048x128, .f32⟩
  | 1 => ⟨S16x8x2048x128, .f32⟩
  | 2 => ⟨S16x8x2048x128, .f32⟩
  | 3 => ⟨S16x8x8x256x128, .f32⟩
  | 4 => ⟨S16x8x8x256x128, .f32⟩
  | 5 => ⟨S2048, .i32⟩
  | 6 => ⟨S_, .i32⟩
  | 7 => ⟨S_, .i32⟩
  | 8 => ⟨S2048, .i32⟩
  | 9 => ⟨S2048, .i32⟩
  | 10 => ⟨S2048, .i32⟩
  | 11 => ⟨S_, .i32⟩
  | 12 => ⟨S2048, .i32⟩
  | 13 => ⟨S2048, .i1⟩
  | 14 => ⟨S2048, .i32⟩
  | 15 => ⟨S2048, .i32⟩
  | 16 => ⟨S_, .i32⟩
  | 17 => ⟨S2048, .i32⟩
  | 18 => ⟨S2048, .i1⟩
  | 19 => ⟨S2048, .i1⟩
  | 20 => ⟨S_, .i32⟩
  | 21 => ⟨S2048, .i32⟩
  | 22 => ⟨S2048, .i32⟩
  | 23 => ⟨S2048, .i32⟩
  | 24 => ⟨S_, .f32⟩
  | 25 => ⟨S16x8x8x128, .f32⟩
  | 26 => ⟨S_, .f32⟩
  | 27 => ⟨S16x8x8x128, .f32⟩
  | 28 => ⟨S16x8x8x128, .f32⟩
  | 29 => ⟨S16x8x2048x8, .f32⟩
  | 30 => ⟨S8, .i32⟩
  | 31 => ⟨S1x8, .i32⟩
  | 32 => ⟨S2048x1, .i32⟩
  | 33 => ⟨S2048x8, .i32⟩
  | 34 => ⟨S2048x8, .i32⟩
  | 35 => ⟨S2048x8, .i1⟩
  | 36 => ⟨S_, .f32⟩
  | 37 => ⟨S_, .f32⟩
  | 38 => ⟨S16x8x2048x8, .i1⟩
  | 39 => ⟨S16x8x2048x8, .f32⟩
  | 40 => ⟨S16x8x2048x8, .f32⟩
  | 41 => ⟨S16x8x2048x3, .f32⟩
  | 42 => ⟨S16x8x2048x3, .i32⟩
  | 43 => ⟨S2048x1, .i32⟩
  | 44 => ⟨S1x1x2048x1, .i32⟩
  | 45 => ⟨S16x8x2048x3, .i32⟩
  | 46 => ⟨S16x8x2048x3, .i1⟩
  | 47 => ⟨S16x8x8x256x128, .f32⟩
  | 48 => ⟨S256, .i32⟩
  | 49 => ⟨S16x8x8x256x256, .f32⟩
  | 50 => ⟨S_, .f32⟩
  | 51 => ⟨S16x8x8x256x256, .f32⟩
  | 52 => ⟨S16x8x8x256x256, .f32⟩
  | 53 => ⟨S1x256, .i32⟩
  | 54 => ⟨S256x1, .i32⟩
  | 55 => ⟨S256x256, .i32⟩
  | 56 => ⟨S256x256, .i32⟩
  | 57 => ⟨S256x256, .i1⟩
  | 58 => ⟨S_, .f32⟩
  | 59 => ⟨S_, .f32⟩
  | 60 => ⟨S16x8x8x256x256, .i1⟩
  | 61 => ⟨S16x8x8x256x256, .f32⟩
  | 62 => ⟨S16x8x8x256x256, .f32⟩
  | 63 => ⟨S16x8x2048x256, .f32⟩
  | 64 => ⟨S16, .i32⟩
  | 65 => ⟨S16x1x1x1, .i32⟩
  | 66 => ⟨S8, .i32⟩
  | 67 => ⟨S1x8x1x1, .i32⟩
  | 68 => ⟨S_, .i32⟩
  | 69 => ⟨S16x1x1x1, .i32⟩
  | 70 => ⟨S16x1x1x1, .i1⟩
  | 71 => ⟨S_, .i32⟩
  | 72 => ⟨S16x1x1x1, .i32⟩
  | 73 => ⟨S16x1x1x1, .i32⟩
  | 74 => ⟨S16x1x1x1, .i32⟩
  | 75 => ⟨S_, .i32⟩
  | 76 => ⟨S1x8x1x1, .i32⟩
  | 77 => ⟨S1x8x1x1, .i1⟩
  | 78 => ⟨S_, .i32⟩
  | 79 => ⟨S1x8x1x1, .i32⟩
  | 80 => ⟨S1x8x1x1, .i32⟩
  | 81 => ⟨S1x8x1x1, .i32⟩
  | 82 => ⟨S_, .i32⟩
  | 83 => ⟨S16x8x2048x3, .i32⟩
  | 84 => ⟨S16x8x2048x3, .i1⟩
  | 85 => ⟨S_, .i32⟩
  | 86 => ⟨S16x8x2048x3, .i32⟩
  | 87 => ⟨S16x8x2048x3, .i32⟩
  | 88 => ⟨S16x8x2048x3, .i32⟩
  | 89 => ⟨S16x8x2048x3, .i32⟩
  | 90 => ⟨S16x8x2048x3, .i32⟩
  | 91 => ⟨S16x8x2048x3x1, .i32⟩
  | 92 => ⟨S16x8x2048x3x1, .i32⟩
  | 93 => ⟨S16x8x2048x3x1, .i32⟩
  | 94 => ⟨S16x8x2048x3x3, .i32⟩
  | 95 => ⟨S16x8x2048x3x256x128, .f32⟩
  | 96 => ⟨S_, .i32⟩
  | 97 => ⟨S16x1x1x1, .i32⟩
  | 98 => ⟨S16x1x1x1, .i1⟩
  | 99 => ⟨S_, .i32⟩
  | 100 => ⟨S16x1x1x1, .i32⟩
  | 101 => ⟨S16x1x1x1, .i32⟩
  | 102 => ⟨S16x1x1x1, .i32⟩
  | 103 => ⟨S_, .i32⟩
  | 104 => ⟨S1x8x1x1, .i32⟩
  | 105 => ⟨S1x8x1x1, .i1⟩
  | 106 => ⟨S_, .i32⟩
  | 107 => ⟨S1x8x1x1, .i32⟩
  | 108 => ⟨S1x8x1x1, .i32⟩
  | 109 => ⟨S1x8x1x1, .i32⟩
  | 110 => ⟨S_, .i32⟩
  | 111 => ⟨S16x8x2048x3, .i32⟩
  | 112 => ⟨S16x8x2048x3, .i1⟩
  | 113 => ⟨S_, .i32⟩
  | 114 => ⟨S16x8x2048x3, .i32⟩
  | 115 => ⟨S16x8x2048x3, .i32⟩
  | 116 => ⟨S16x8x2048x3, .i32⟩
  | 117 => ⟨S16x8x2048x3, .i32⟩
  | 118 => ⟨S16x8x2048x3, .i32⟩
  | 119 => ⟨S16x8x2048x3x1, .i32⟩
  | 120 => ⟨S16x8x2048x3x1, .i32⟩
  | 121 => ⟨S16x8x2048x3x1, .i32⟩
  | 122 => ⟨S16x8x2048x3x3, .i32⟩
  | 123 => ⟨S16x8x2048x3x256x128, .f32⟩
  | 124 => ⟨S16x8x2048x3x256, .f32⟩
  | 125 => ⟨S_, .f32⟩
  | 126 => ⟨S16x8x2048x3x256, .f32⟩
  | 127 => ⟨S16x8x2048x3x256, .f32⟩
  | _ => ⟨S16x8x2048x128, .f32⟩

abbrev hbmTy0_1 (i : Nat) : BufTy := match i % 128 with
  | 0 => ⟨S16x8x2048x3x1, .i1⟩
  | 1 => ⟨S_, .f32⟩
  | 2 => ⟨S_, .f32⟩
  | 3 => ⟨S16x8x2048x3x256, .i1⟩
  | 4 => ⟨S16x8x2048x3x256, .f32⟩
  | 5 => ⟨S16x8x2048x3x256, .f32⟩
  | 6 => ⟨S16x8x2048x768, .f32⟩
  | 7 => ⟨S16x8x2048x1024, .f32⟩
  | 8 => ⟨S_, .f32⟩
  | 9 => ⟨S16x8x2048, .f32⟩
  | 10 => ⟨S_, .f32⟩
  | 11 => ⟨S16x8x2048, .f32⟩
  | 12 => ⟨S16x8x2048, .f32⟩
  | 13 => ⟨S16x8x2048x1, .f32⟩
  | 14 => ⟨S16x8x2048x1024, .f32⟩
  | 15 => ⟨S16x8x2048x1024, .f32⟩
  | 16 => ⟨S16x8x2048x1024, .f32⟩
  | 17 => ⟨S_, .f32⟩
  | 18 => ⟨S16x8x2048, .f32⟩
  | 19 => ⟨S16x8x2048x1, .f32⟩
  | 20 => ⟨S16x8x2048x1024, .f32⟩
  | 21 => ⟨S16x8x2048x1024, .f32⟩
  | 22 => ⟨S16x8x2048x768, .f32⟩
  | 23 => ⟨S16x8x2048x3x256, .f32⟩
  | 24 => ⟨S16x8x2048x256, .f32⟩
  | 25 => ⟨S16x8x8x256x256, .f32⟩
  | 26 => ⟨S16x8x2048x128, .f32⟩
  | 27 => ⟨S16x8x8x256x128, .f32⟩
  | 28 => ⟨S16x8x2048x128, .f32⟩
  | 29 => ⟨S16x8x2048x128, .f32⟩
  | 30 => ⟨S16x2048x8x128, .f32⟩
  | 31 => ⟨S16x2048x1024, .f32⟩
  | 32 => ⟨S16x2048x1024, .bf16⟩
  | _ => ⟨S16x8x2048x128, .f32⟩

abbrev hbmTy (i : Nat) : BufTy := match i / 128 with
  | 0 => hbmTy0_0 i
  | 1 => hbmTy0_1 i
  | _ => ⟨S16x8x2048x128, .f32⟩

abbrev bufTy : (tb : Table) → Fin (tcTables nBuf tb) → BufTy
  | .hbm, ⟨i, _⟩ => hbmTy i
  | _, _ => ⟨S16x8x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v3 : Ref sig .tc := ⟨.hbm, 23, rfl⟩
abbrev main_cst : Ref sig .tc := ⟨.hbm, 24, rfl⟩
abbrev main_v4 : Ref sig .tc := ⟨.hbm, 25, rfl⟩
abbrev main_cst_0 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v14 : Ref sig .tc := ⟨.hbm, 40, rfl⟩
abbrev main_values : Ref sig .tc := ⟨.hbm, 41, rfl⟩
abbrev main_indices : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_2 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_3 : Ref sig .tc := ⟨.hbm, 58, rfl⟩
abbrev main_call2_v0 : Ref sig .tc := ⟨.hbm, 59, rfl⟩
abbrev main_call2_v1 : Ref sig .tc := ⟨.hbm, 60, rfl⟩
abbrev main_call2_v2 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩
abbrev main_v34 : Ref sig .tc := ⟨.hbm, 67, rfl⟩
abbrev main_c_4 : Ref sig .tc := ⟨.hbm, 68, rfl⟩
abbrev main_v35 : Ref sig .tc := ⟨.hbm, 69, rfl⟩
abbrev main_v36 : Ref sig .tc := ⟨.hbm, 70, rfl⟩
abbrev main_c_5 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_c_6 : Ref sig .tc := ⟨.hbm, 75, rfl⟩
abbrev main_v40 : Ref sig .tc := ⟨.hbm, 76, rfl⟩
abbrev main_v41 : Ref sig .tc := ⟨.hbm, 77, rfl⟩
abbrev main_c_7 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_c_8 : Ref sig .tc := ⟨.hbm, 82, rfl⟩
abbrev main_v45 : Ref sig .tc := ⟨.hbm, 83, rfl⟩
abbrev main_v46 : Ref sig .tc := ⟨.hbm, 84, rfl⟩
abbrev main_c_9 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_c_10 : Ref sig .tc := ⟨.hbm, 96, rfl⟩
abbrev main_v57 : Ref sig .tc := ⟨.hbm, 97, rfl⟩
abbrev main_v58 : Ref sig .tc := ⟨.hbm, 98, rfl⟩
abbrev main_c_11 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_c_12 : Ref sig .tc := ⟨.hbm, 103, rfl⟩
abbrev main_v62 : Ref sig .tc := ⟨.hbm, 104, rfl⟩
abbrev main_v63 : Ref sig .tc := ⟨.hbm, 105, rfl⟩
abbrev main_c_13 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_c_14 : Ref sig .tc := ⟨.hbm, 110, rfl⟩
abbrev main_v67 : Ref sig .tc := ⟨.hbm, 111, rfl⟩
abbrev main_v68 : Ref sig .tc := ⟨.hbm, 112, rfl⟩
abbrev main_c_15 : Ref sig .tc := ⟨.hbm, 113, rfl⟩
abbrev main_v69 : Ref sig .tc := ⟨.hbm, 114, rfl⟩
abbrev main_v70 : Ref sig .tc := ⟨.hbm, 115, rfl⟩
abbrev main_v71 : Ref sig .tc := ⟨.hbm, 116, rfl⟩
abbrev main_v72 : Ref sig .tc := ⟨.hbm, 117, rfl⟩
abbrev main_v73 : Ref sig .tc := ⟨.hbm, 118, rfl⟩
abbrev main_v74 : Ref sig .tc := ⟨.hbm, 119, rfl⟩
abbrev main_v75 : Ref sig .tc := ⟨.hbm, 120, rfl⟩
abbrev main_v76 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_cst_16 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_cst_17 : Ref sig .tc := ⟨.hbm, 129, rfl⟩
abbrev main_call3_v0 : Ref sig .tc := ⟨.hbm, 130, rfl⟩
abbrev main_call3_v1 : Ref sig .tc := ⟨.hbm, 131, rfl⟩
abbrev main_call3_v2 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_cst_18 : Ref sig .tc := ⟨.hbm, 136, rfl⟩
abbrev main_v86 : Ref sig .tc := ⟨.hbm, 137, rfl⟩
abbrev main_cst_19 : Ref sig .tc := ⟨.hbm, 138, rfl⟩
abbrev main_v87 : Ref sig .tc := ⟨.hbm, 139, rfl⟩
abbrev main_v88 : Ref sig .tc := ⟨.hbm, 140, rfl⟩
abbrev main_v89 : Ref sig .tc := ⟨.hbm, 141, rfl⟩
abbrev main_v90 : Ref sig .tc := ⟨.hbm, 142, rfl⟩
abbrev main_v91 : Ref sig .tc := ⟨.hbm, 143, rfl⟩
abbrev main_v92 : Ref sig .tc := ⟨.hbm, 144, rfl⟩
abbrev main_cst_20 : Ref sig .tc := ⟨.hbm, 145, rfl⟩
abbrev main_v93 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩

abbrev nD : Nat := 1
abbrev τ : Topo := Topo.v7x

variable {F : FTy → Type} [FloatOps F]
-- ==== Kernel2.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 11
  | .vmem => 8
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S32768x1024, .f32⟩
  | .hbm, ⟨6, _⟩ => ⟨S1x1024, .f32⟩
  | .hbm, ⟨7, _⟩ => ⟨S1024x2816, .bf16⟩
  | .hbm, ⟨8, _⟩ => ⟨S1024x2816, .bf16⟩
  | .hbm, ⟨9, _⟩ => ⟨S2816x1024, .bf16⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16x2048x1024 : Shape := ⟨3, ![16, 2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 39
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16x2048x1024, .f32⟩
  | .hbm, ⟨6, _⟩ => ⟨S_, .f32⟩
  | .hbm, ⟨7, _⟩ => ⟨S16x2048, .f32⟩
  | .hbm, ⟨8, _⟩ => ⟨S16x2048x1, .f32⟩
  | .hbm, ⟨9, _⟩ => ⟨S_, .f32⟩
  | .hbm, ⟨10, _⟩ => ⟨S16x2048x1, .f32⟩
  | .hbm, ⟨11, _⟩ => ⟨S16x2048x1, .f32⟩
  | .hbm, ⟨12, _⟩ => ⟨S_, .f32⟩
  | .hbm, ⟨13, _⟩ => ⟨S16x2048x1, .f32⟩
  | .hbm, ⟨14, _⟩ => ⟨S16x2048x1, .f32⟩
  | .hbm, ⟨15, _⟩ => ⟨S16x2048x1, .f32⟩
  | .hbm, ⟨16, _⟩ => ⟨S16x2048x1024, .f32⟩
  | .hbm, ⟨17, _⟩ => ⟨S16x2048x1024, .f32⟩
  | .hbm, ⟨18, _⟩ => ⟨S1x1x1024, .f32⟩
  | .hbm, ⟨19, _⟩ => ⟨S16x2048x1024, .f32⟩
  | .hbm, ⟨20, _⟩ => ⟨S16x2048x1024, .f32⟩
  | .hbm, ⟨21, _⟩ => ⟨S16x2048x2816, .f32⟩
  | .hbm, ⟨22, _⟩ => ⟨S16x2048x2816, .f32⟩
  | .hbm, ⟨23, _⟩ => ⟨S16x2048x2816, .f32⟩
  | .hbm, ⟨24, _⟩ => ⟨S_, .f32⟩
  | .hbm, ⟨25, _⟩ => ⟨S16x2048x2816, .f32⟩
  | .hbm, ⟨26, _⟩ => ⟨S16x2048x2816, .f32⟩
  | .hbm, ⟨27, _⟩ => ⟨S_, .f32⟩
  | .hbm, ⟨28, _⟩ => ⟨S16x2048x2816, .f32⟩
  | .hbm, ⟨29, _⟩ => ⟨S16x2048x2816, .f32⟩
  | .hbm, ⟨30, _⟩ => ⟨S16x2048x2816, .f32⟩
  | .hbm, ⟨31, _⟩ => ⟨S16x2048x2816, .f32⟩
  | .hbm, ⟨32, _⟩ => ⟨S16x2048x2816, .f32⟩
  | .hbm, ⟨33, _⟩ => ⟨S16x2048x1024, .f32⟩
  | .hbm, ⟨34, _⟩ => ⟨S_, .f32⟩
  | .hbm, ⟨35, _⟩ => ⟨S16x2048x1024, .f32⟩
  | .hbm, ⟨36, _⟩ => ⟨S16x2048x1024, .f32⟩
  | .hbm, ⟨37, _⟩ => ⟨S16x2048x1024, .f32⟩
  | .hbm, ⟨38, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x2048x1024, .bf16⟩
  | .hbm, ⟨8, _⟩ => ⟨S32768x1024, .bf16⟩
  | .hbm, ⟨9, _⟩ => ⟨S1024x1024, .bf16⟩
  | .hbm, ⟨10, _⟩ => ⟨S32768x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel3Ideal.lean ====
abbrev S16x2048x1024 : Shape := ⟨3, ![16, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x2048x1024, .bf16⟩
  | .hbm, ⟨8, _⟩ => ⟨S32768x1024, .bf16⟩
  | .hbm, ⟨9, _⟩ => ⟨S1024x1024, .bf16⟩
  | .hbm, ⟨10, _⟩ => ⟨S32768x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S16x2048x1024 : Shape := ⟨3, ![16, 2048, 1024]⟩
abbrev S1024x1024 : Shape := ⟨2, ![1024, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel4.lean ====
abbrev S16x2048x1024 : Shape := ⟨3, ![16, 2048, 1024]⟩
abbrev S16x2048x2048 : Shape := ⟨3, ![16, 2048, 2048]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S32768x2048 : Shape := ⟨2, ![32768, 2048]⟩
abbrev S32768x1024 : Shape := ⟨2, ![32768, 1024]⟩
abbrev S1x1024 : Shape := ⟨2, ![1, 1024]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 16
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x2048x2048, .bf16⟩
  | .hbm, ⟨8, _⟩ => ⟨S32768x2048, .bf16⟩
  | .hbm, ⟨9, _⟩ => ⟨S2048x1024, .bf16⟩
  | .hbm, ⟨10, _⟩ => ⟨S32768x1024, .f32⟩
  | .hbm, ⟨11, _⟩ => ⟨S1x1024, .f32⟩
  | .hbm, ⟨12, _⟩ => ⟨S1024x2816, .bf16⟩
  | .hbm, ⟨13, _⟩ => ⟨S1024x2816, .bf16⟩
  | .hbm, ⟨14, _⟩ => ⟨S2816x1024, .bf16⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S2048x1024, .bf16⟩
  | .local _ .vmem, ⟨5, _⟩ => ⟨S1x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S512x1024, .f32⟩
  | .local _ .vmem, ⟨10, _⟩ => ⟨S512x1024, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S16x2048x1024 : Shape := ⟨3, ![16, 2048, 1024]⟩
abbrev S16x2048x2048 : Shape := ⟨3, ![16, 2048, 2048]⟩
abbrev S2048x1024 : Shape := ⟨2, ![2048, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16x2048 : Shape := ⟨2, ![16, 2048]⟩
abbrev S16x2048x1 : Shape := ⟨3, ![16, 2048, 1]⟩
abbrev S1x1x1024 : Shape := ⟨3, ![1, 1, 1024]⟩
abbrev S16x2048x2816 : Shape := ⟨3, ![16, 2048, 2816]⟩
abbrev S32768x1024 : Shape := ⟨2, ![32768, 1024]⟩

abbrev nBuf : Space → Nat
  | .hbm => 43
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x2048, .f32⟩
  | .hbm, ⟨2, _⟩ => ⟨S2048x1024, .f32⟩
  | .hbm, ⟨3, _⟩ => ⟨S1024, .f32⟩
  | .hbm, ⟨4, _⟩ => ⟨S1024x2816, .f32⟩
  | .hbm, ⟨5, _⟩ => ⟨S1024x2816, .f32⟩
  | .hbm, ⟨6, _⟩ => ⟨S2816x1024, .f32⟩
  | .hbm, ⟨7, _⟩ => ⟨S16x2048x1024, .f32⟩
  | .hbm, ⟨8, _⟩ => ⟨S16x2048x1024, .f32⟩
  | .hbm, ⟨9, _⟩ => ⟨S16x2048x1024, .f32⟩
  | .hbm, ⟨10, _⟩ => ⟨S_, .f32⟩
  | .hbm, ⟨11, _⟩ => ⟨S16x2048, .f32⟩
  | .hbm, ⟨12, _⟩ => ⟨S16x2048x1, .f32⟩
  | .hbm, ⟨13, _⟩ => ⟨S_, .f32⟩
  | .hbm, ⟨14, _⟩ => ⟨S16x2048x1, .f32⟩
  | .hbm, ⟨15, _⟩ => ⟨S16x2048x1, .f32⟩
  | .hbm, ⟨16, _⟩ => ⟨S_, .f32⟩
  | .hbm, ⟨17, _⟩ => ⟨S16x2048x1, .f32⟩
  | .hbm, ⟨18, _⟩ => ⟨S16x2048x1, .f32⟩
  | .hbm, ⟨19, _⟩ => ⟨S16x2048x1, .f32⟩
  | .hbm, ⟨20, _⟩ => ⟨S16x2048x1024, .f32⟩
  | .hbm, ⟨21, _⟩ => ⟨S16x2048x1024, .f32⟩
  | .hbm, ⟨22, _⟩ => ⟨S1x1x1024, .f32⟩
  | .hbm, ⟨23, _⟩ => ⟨S16x2048x1024, .f32⟩
  | .hbm, ⟨24, _⟩ => ⟨S16x2048x1024, .f32⟩
  | .hbm, ⟨25, _⟩ => ⟨S16x2048x2816, .f32⟩
  | .hbm, ⟨26, _⟩ => ⟨S16x2048x2816, .f32⟩
  | .hbm, ⟨27, _⟩ => ⟨S16x2048x2816, .f32⟩
  | .hbm, ⟨28, _⟩ => ⟨S_, .f32⟩
  | .hbm, ⟨29, _⟩ => ⟨S16x2048x2816, .f32⟩
  | .hbm, ⟨30, _⟩ => ⟨S16x2048x2816, .f32⟩
  | .hbm, ⟨31, _⟩ => ⟨S_, .f32⟩
  | .hbm, ⟨32, _⟩ => ⟨S16x2048x2816, .f32⟩
  | .hbm, ⟨33, _⟩ => ⟨S16x2048x2816, .f32⟩
  | .hbm, ⟨34, _⟩ => ⟨S16x2048x2816, .f32⟩
  | .hbm, ⟨35, _⟩ => ⟨S16x2048x2816, .f32⟩
  | .hbm, ⟨36, _⟩ => ⟨S16x2048x2816, .f32⟩
  | .hbm, ⟨37, _⟩ => ⟨S16x2048x1024, .f32⟩
  | .hbm, ⟨38, _⟩ => ⟨S_, .f32⟩
  | .hbm, ⟨39, _⟩ => ⟨S16x2048x1024, .f32⟩
  | .hbm, ⟨40, _⟩ => ⟨S16x2048x1024, .f32⟩
  | .hbm, ⟨41, _⟩ => ⟨S16x2048x1024, .f32⟩
  | .hbm, ⟨42, _⟩ => ⟨S32768x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_2 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩

abbrev nD : Nat := 1
abbrev τ : Topo := Topo.v7x

variable {F : FTy → Type} [FloatOps F]
-- ==== Kernel5.lean ====
abbrev S16x2048x1024 : Shape := ⟨3, ![16, 2048, 1024]⟩
abbrev S16x2048 : Shape := ⟨2, ![16, 2048]⟩
abbrev S1024 : Shape := ⟨1, ![1024]⟩
abbrev S1024x3072 : Shape := ⟨2, ![1024, 3072]⟩
abbrev S128 : Shape := ⟨1, ![128]⟩
abbrev S512x256 : Shape := ⟨2, ![512, 256]⟩
abbrev S64 : Shape := ⟨1, ![64]⟩
abbrev S_ : Shape := ⟨0, ![]⟩
abbrev S1x128 : Shape := ⟨2, ![1, 128]⟩
abbrev S16x2048x1 : Shape := ⟨3, ![16, 2048, 1]⟩
abbrev S1x1024 : Shape := ⟨2, ![1, 1024]⟩
abbrev S16x8x2048x128 : Shape := ⟨4, ![16, 8, 2048, 128]⟩
abbrev S1x512x1024 : Shape := ⟨3, ![1, 512, 1024]⟩
abbrev S1x512x1 : Shape := ⟨3, ![1, 512, 1]⟩
abbrev S1x8x512x128 : Shape := ⟨4, ![1, 8, 512, 128]⟩
abbrev S512x1024 : Shape := ⟨2, ![512, 1024]⟩
abbrev S512 : Shape := ⟨1, ![512]⟩
abbrev S512x1 : Shape := ⟨2, ![512, 1]⟩
abbrev S256x128 : Shape := ⟨2, ![256, 128]⟩
abbrev S256x1 : Shape := ⟨2, ![256, 1]⟩
abbrev S512x128 : Shape := ⟨2, ![512, 128]⟩
abbrev S1024x256 : Shape := ⟨2, ![1024, 256]⟩
abbrev S512x512 : Shape := ⟨2, ![512, 512]⟩
abbrev S1x1x512x128 : Shape := ⟨4, ![1, 1, 512, 128]⟩

abbrev nBuf : Space → Nat
  | .hbm => 25
  | .vmem => 16
  | .smem => 0
  | _ => 0

abbrev bufTy : (tb : Table) → Fin (tcTables nBuf tb) → BufTy
  | .hbm, ⟨0, _⟩ => ⟨S16x2048x1024, .f32⟩
  | .hbm, ⟨1, _⟩ => ⟨S16x2048, .i32⟩
  | .hbm, ⟨2, _⟩ => ⟨S1024, .f32⟩
  | .hbm, ⟨3, _⟩ => ⟨S1024x3072, .f32⟩
  | .hbm, ⟨4, _⟩ => ⟨S128, .f32⟩
  | .hbm, ⟨5, _⟩ => ⟨S128, .f32⟩
  | .hbm, ⟨6, _⟩ => ⟨S512x256, .bf16⟩
  | .hbm, ⟨7, _⟩ => ⟨S64, .f32⟩
  | .hbm, ⟨8, _⟩ => ⟨S64, .f32⟩
  | .hbm, ⟨9, _⟩ => ⟨S_, .f32⟩
  | .hbm, ⟨10, _⟩ => ⟨S64, .f32⟩
  | .hbm, ⟨11, _⟩ => ⟨S64, .f32⟩
  | .hbm, ⟨12, _⟩ => ⟨S_, .f32⟩
  | .hbm, ⟨13, _⟩ => ⟨S64, .f32⟩
  | .hbm, ⟨14, _⟩ => ⟨S64, .f32⟩
  | .hbm, ⟨15, _⟩ => ⟨S128, .f32⟩
  | .hbm, ⟨16, _⟩ => ⟨S1x128, .f32⟩
  | .hbm, ⟨17, _⟩ => ⟨S16x2048x1, .i32⟩
  | .hbm, ⟨18, _⟩ => ⟨S1x1024, .f32⟩
  | .hbm, ⟨19, _⟩ => ⟨S1024x3072, .bf16⟩
  | .hbm, ⟨20, _⟩ => ⟨S1x128, .f32⟩
  | .hbm, ⟨21, _⟩ => ⟨S1x128, .f32⟩
  | .hbm, ⟨22, _⟩ => ⟨S16x8x2048x128, .bf16⟩
  | .hbm, ⟨23, _⟩ => ⟨S16x8x2048x128, .bf16⟩
  | .hbm, ⟨24, _⟩ => ⟨S16x8x2048x128, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x3072, .bf16⟩
  | .local _ .vmem, ⟨4, _⟩ => ⟨S1x128, .f32⟩
  | .local _ .vmem, ⟨5, _⟩ => ⟨S1x128, .f32⟩
  | .local _ .vmem, ⟨6, _⟩ => ⟨S1x512x1, .i32⟩
  | .local _ .vmem, ⟨7, _⟩ => ⟨S1x512x1, .i32⟩
  | .local _ .vmem, ⟨8, _⟩ => ⟨S1x128, .f32⟩
  | .local _ .vmem, ⟨9, _⟩ => ⟨S512x256, .bf16⟩
  | .local _ .vmem, ⟨10, _⟩ => ⟨S1x8x512x128, .bf16⟩
  | .local _ .vmem, ⟨11, _⟩ => ⟨S1x8x512x128, .bf16⟩
  | .local _ .vmem, ⟨12, _⟩ => ⟨S1x8x512x128, .bf16⟩
  | .local _ .vmem, ⟨13, _⟩ => ⟨S1x8x512x128, .bf16⟩
  | .local _ .vmem, ⟨14, _⟩ => ⟨S1x8x512x128, .bf16⟩
  | .local _ .vmem, ⟨15, _⟩ => ⟨S1x8x512x128, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S512x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x8x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x8x512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference5Ideal.lean ====
abbrev S16x2048x1024 : Shape := ⟨3, ![16, 2048, 1024]⟩
abbrev S16x2048 : Shape := ⟨2, ![16, 2048]⟩
abbrev S1024 : Shape := ⟨1, ![1024]⟩
abbrev S1024x3072 : Shape := ⟨2, ![1024, 3072]⟩
abbrev S128 : Shape := ⟨1, ![128]⟩
abbrev S_ : Shape := ⟨0, ![]⟩
abbrev S16x2048x1 : Shape := ⟨3, ![16, 2048, 1]⟩
abbrev S1x1x1024 : Shape := ⟨3, ![1, 1, 1024]⟩
abbrev S16x2048x3072 : Shape := ⟨3, ![16, 2048, 3072]⟩
abbrev S16x2048x3x8x128 : Shape := ⟨5, ![16, 2048, 3, 8, 128]⟩
abbrev S16x2048x1x8x128 : Shape := ⟨5, ![16, 2048, 1, 8, 128]⟩
abbrev S16x2048x8x128 : Shape := ⟨4, ![16, 2048, 8, 128]⟩
abbrev S16x2048x8 : Shape := ⟨3, ![16, 2048, 8]⟩
abbrev S16x2048x8x1 : Shape := ⟨4, ![16, 2048, 8, 1]⟩
abbrev S1x1x1x128 : Shape := ⟨4, ![1, 1, 1, 128]⟩
abbrev S64 : Shape := ⟨1, ![64]⟩
abbrev S1x1x64 : Shape := ⟨3, ![1, 1, 64]⟩
abbrev S16x2048x64 : Shape := ⟨3, ![16, 2048, 64]⟩
abbrev S16x2048x1x64 : Shape := ⟨4, ![16, 2048, 1, 64]⟩
abbrev S16x2048x8x64 : Shape := ⟨4, ![16, 2048, 8, 64]⟩
abbrev S16x8x2048x128 : Shape := ⟨4, ![16, 8, 2048, 128]⟩

abbrev nBuf : Space → Nat
  | .hbm => 133
  | .vmem => 0
  | .smem => 0
  | _ => 0

abbrev hbmTy0_0 (i : Nat) : BufTy := match i % 128 with
  | 0 => ⟨S16x2048x1024, .f32⟩
  | 1 => ⟨S16x2048, .i32⟩
  | 2 => ⟨S1024, .f32⟩
  | 3 => ⟨S1024x3072, .f32⟩
  | 4 => ⟨S128, .f32⟩
  | 5 => ⟨S128, .f32⟩
  | 6 => ⟨S16x2048x1024, .f32⟩
  | 7 => ⟨S_, .f32⟩
  | 8 => ⟨S16x2048, .f32⟩
  | 9 => ⟨S16x2048x1, .f32⟩
  | 10 => ⟨S_, .f32⟩
  | 11 => ⟨S16x2048x1, .f32⟩
  | 12 => ⟨S16x2048x1, .f32⟩
  | 13 => ⟨S_, .f32⟩
  | 14 => ⟨S16x2048x1, .f32⟩
  | 15 => ⟨S16x2048x1, .f32⟩
  | 16 => ⟨S16x2048x1, .f32⟩
  | 17 => ⟨S16x2048x1024, .f32⟩
  | 18 => ⟨S16x2048x1024, .f32⟩
  | 19 => ⟨S1x1x1024, .f32⟩
  | 20 => ⟨S16x2048x1024, .f32⟩
  | 21 => ⟨S16x2048x1024, .f32⟩
  | 22 => ⟨S16x2048x3072, .f32⟩
  | 23 => ⟨S16x2048x3x8x128, .f32⟩
  | 24 => ⟨S16x2048x1x8x128, .f32⟩
  | 25 => ⟨S16x2048x8x128, .f32⟩
  | 26 => ⟨S16x2048x8x128, .f32⟩
  | 27 => ⟨S_, .f32⟩
  | 28 => ⟨S16x2048x8, .f32⟩
  | 29 => ⟨S16x2048x8x1, .f32⟩
  | 30 => ⟨S_, .f32⟩
  | 31 => ⟨S16x2048x8x1, .f32⟩
  | 32 => ⟨S16x2048x8x1, .f32⟩
  | 33 => ⟨S_, .f32⟩
  | 34 => ⟨S16x2048x8x1, .f32⟩
  | 35 => ⟨S16x2048x8x1, .f32⟩
  | 36 => ⟨S16x2048x8x1, .f32⟩
  | 37 => ⟨S16x2048x8x128, .f32⟩
  | 38 => ⟨S16x2048x8x128, .f32⟩
  | 39 => ⟨S1x1x1x128, .f32⟩
  | 40 => ⟨S16x2048x8x128, .f32⟩
  | 41 => ⟨S16x2048x8x128, .f32⟩
  | 42 => ⟨S64, .f32⟩
  | 43 => ⟨S64, .f32⟩
  | 44 => ⟨S_, .f32⟩
  | 45 => ⟨S64, .f32⟩
  | 46 => ⟨S64, .f32⟩
  | 47 => ⟨S_, .f32⟩
  | 48 => ⟨S64, .f32⟩
  | 49 => ⟨S64, .f32⟩
  | 50 => ⟨S16x2048, .f32⟩
  | 51 => ⟨S16x2048x1, .f32⟩
  | 52 => ⟨S1x1x64, .f32⟩
  | 53 => ⟨S16x2048x64, .f32⟩
  | 54 => ⟨S16x2048x64, .f32⟩
  | 55 => ⟨S16x2048x64, .f32⟩
  | 56 => ⟨S16x2048x64, .f32⟩
  | 57 => ⟨S16x2048x1x64, .f32⟩
  | 58 => ⟨S16x2048x64, .f32⟩
  | 59 => ⟨S16x2048x1x64, .f32⟩
  | 60 => ⟨S16x2048x8x64, .f32⟩
  | 61 => ⟨S16x2048x8x64, .f32⟩
  | 62 => ⟨S16x2048x8x64, .f32⟩
  | 63 => ⟨S16x2048x8x64, .f32⟩
  | 64 => ⟨S16x2048x8x64, .f32⟩
  | 65 => ⟨S16x2048x8x64, .f32⟩
  | 66 => ⟨S16x2048x8x64, .f32⟩
  | 67 => ⟨S16x2048x8x64, .f32⟩
  | 68 => ⟨S16x2048x8x64, .f32⟩
  | 69 => ⟨S16x2048x8x64, .f32⟩
  | 70 => ⟨S16x2048x8x64, .f32⟩
  | 71 => ⟨S16x2048x8x64, .f32⟩
  | 72 => ⟨S16x2048x8x128, .f32⟩
  | 73 => ⟨S16x2048x1x8x128, .f32⟩
  | 74 => ⟨S16x2048x8x128, .f32⟩
  | 75 => ⟨S16x2048x8x128, .f32⟩
  | 76 => ⟨S_, .f32⟩
  | 77 => ⟨S16x2048x8, .f32⟩
  | 78 => ⟨S16x2048x8x1, .f32⟩
  | 79 => ⟨S_, .f32⟩
  | 80 => ⟨S16x2048x8x1, .f32⟩
  | 81 => ⟨S16x2048x8x1, .f32⟩
  | 82 => ⟨S_, .f32⟩
  | 83 => ⟨S16x2048x8x1, .f32⟩
  | 84 => ⟨S16x2048x8x1, .f32⟩
  | 85 => ⟨S16x2048x8x1, .f32⟩
  | 86 => ⟨S16x2048x8x128, .f32⟩
  | 87 => ⟨S16x2048x8x128, .f32⟩
  | 88 => ⟨S1x1x1x128, .f32⟩
  | 89 => ⟨S16x2048x8x128, .f32⟩
  | 90 => ⟨S16x2048x8x128, .f32⟩
  | 91 => ⟨S64, .f32⟩
  | 92 => ⟨S64, .f32⟩
  | 93 => ⟨S_, .f32⟩
  | 94 => ⟨S64, .f32⟩
  | 95 => ⟨S64, .f32⟩
  | 96 => ⟨S_, .f32⟩
  | 97 => ⟨S64, .f32⟩
  | 98 => ⟨S64, .f32⟩
  | 99 => ⟨S16x2048, .f32⟩
  | 100 => ⟨S16x2048x1, .f32⟩
  | 101 => ⟨S1x1x64, .f32⟩
  | 102 => ⟨S16x2048x64, .f32⟩
  | 103 => ⟨S16x2048x64, .f32⟩
  | 104 => ⟨S16x2048x64, .f32⟩
  | 105 => ⟨S16x2048x64, .f32⟩
  | 106 => ⟨S16x2048x1x64, .f32⟩
  | 107 => ⟨S16x2048x64, .f32⟩
  | 108 => ⟨S16x2048x1x64, .f32⟩
  | 109 => ⟨S16x2048x8x64, .f32⟩
  | 110 => ⟨S16x2048x8x64, .f32⟩
  | 111 => ⟨S16x2048x8x64, .f32⟩
  | 112 => ⟨S16x2048x8x64, .f32⟩
  | 113 => ⟨S16x2048x8x64, .f32⟩
  | 114 => ⟨S16x2048x8x64, .f32⟩
  | 115 => ⟨S16x2048x8x64, .f32⟩
  | 116 => ⟨S16x2048x8x64, .f32⟩
  | 117 => ⟨S16x2048x8x64, .f32⟩
  | 118 => ⟨S16x2048x8x64, .f32⟩
  | 119 => ⟨S16x2048x8x64, .f32⟩
  | 120 => ⟨S16x2048x8x64, .f32⟩
  | 121 => ⟨S16x2048x8x128, .f32⟩
  | 122 => ⟨S16x2048x1x8x128, .f32⟩
  | 123 => ⟨S16x2048x8x128, .f32⟩
  | 124 => ⟨S_, .f32⟩
  | 125 => ⟨S16x2048x8x128, .f32⟩
  | 126 => ⟨S16x2048x8x128, .f32⟩
  | 127 => ⟨S16x8x2048x128, .f32⟩
  | _ => ⟨S16x2048x1024, .f32⟩

abbrev hbmTy0_1 (i : Nat) : BufTy := match i % 128 with
  | 0 => ⟨S16x8x2048x128, .f32⟩
  | 1 => ⟨S16x8x2048x128, .f32⟩
  | 2 => ⟨S16x8x2048x128, .bf16⟩
  | 3 => ⟨S16x8x2048x128, .bf16⟩
  | 4 => ⟨S16x8x2048x128, .bf16⟩
  | _ => ⟨S16x2048x1024, .f32⟩

abbrev hbmTy (i : Nat) : BufTy := match i / 128 with
  | 0 => hbmTy0_0 i
  | 1 => hbmTy0_1 i
  | _ => ⟨S16x2048x1024, .f32⟩

abbrev bufTy : (tb : Table) → Fin (tcTables nBuf tb) → BufTy
  | .hbm, ⟨i, _⟩ => hbmTy i
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_5 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_cst_7 : Ref sig .tc := ⟨.hbm, 76, rfl⟩
abbrev main_v62 : Ref sig .tc := ⟨.hbm, 77, rfl⟩
abbrev main_v63 : Ref sig .tc := ⟨.hbm, 78, rfl⟩
abbrev main_cst_8 : Ref sig .tc := ⟨.hbm, 79, rfl⟩
abbrev main_v64 : Ref sig .tc := ⟨.hbm, 80, rfl⟩
abbrev main_v65 : Ref sig .tc := ⟨.hbm, 81, rfl⟩
abbrev main_cst_9 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_10 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_cst_12 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩

abbrev nD : Nat := 1
abbrev τ : Topo := Topo.v7x

variable {F : FTy → Type} [FloatOps F]
-- ==== Proof.Moba.Frames.lean ====
module

public import proofs.«01_k».proof.Defs
public import proofs.«01_k».proof.Proof.Gen.Kernel
public import proofs.«01_k».proof.Proof.Gen.KernelIdeal.Frame
public import proofs.«01_k».proof.Proof.Gen.ReferenceIdeal.Run

@[expose] public section

set_option maxRecDepth 100000

noncomputable section

namespace Cert.Proof.Moba

open Idealize.ShloMosaic Idealize.SL.Sem

/-- The kernel's body and the ideal kernel's are the same text. -/
theorem body_eq : @Cert.Kernel.cc0_moba_attn Bits _ _ = @Cert.KernelIdeal.cc0_moba_attn Bits _ _ := rfl

theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun
      body_eq _) _) _) _) _) _) _) _) _) _) _) _) _) _) _

theorem defs_eq : Cert.Kernel.defs (F := Bits) = Cert.KernelIdeal.defs (F := Bits) :=
  congrArg (Pipeline.defs Cert.KernelIdeal.pcfgs) bodies_eq

/-- The frame of the kernel, from the one run that holds over any float values. -/
theorem frame_kernel : Cert.quiescent_Kernel := by
  intro m ρ _
  rw [show Cert.Kernel.defs (F := Bits) = Cert.KernelIdeal.defs (F := Bits) from defs_eq]
  exact Cert.KernelIdeal.Gen.frame (F := Bits) m ρ

theorem frame_ideal : Cert.quiescent_KernelIdeal :=
  fun m ρ _ => Cert.KernelIdeal.Gen.frame (F := Ideal) m ρ

theorem frame_reference : Cert.quiescent_ReferenceIdeal :=
  fun m ρ _ => (θ_run Cert.ReferenceIdeal.defs _ _).mono (fun r h => ⟨fun c => (h c).2, sem_eq_zero_of_no_sems (by decide) r.2⟩)
    (Cert.ReferenceIdeal.Value.run (F := Ideal) m ρ)

end Cert.Proof.Moba
end
-- ==== Proof.Moba.Body.lean ====
module

public import proofs.«01_k».proof.Defs
public import proofs.«01_k».proof.Proof.Gen.KernelIdeal.Value
public import Idealize.ShloMosaic.Lib.Pointwise
public import Idealize.ShloMosaic.Lib.Pipeline.ReadBack

@[expose] public section

set_option maxRecDepth 65536

noncomputable section

namespace Cert.Proof.Moba

open Idealize.ShloMosaic Idealize.SL.Sem Idealize.ShloMosaic.Pipeline Cert.KernelIdeal Cert.KernelIdeal.Gen Facts

variable {F : FTy → Type} [FloatOps F]

/-- 256 rows of a head, from row `off` on. -/
def kb (x : Vec F S1x1x2048x128 .bf16) (off : ℕ) : FVec F S256x128 .bf16 :=
  fun j => x (ix4 0 0 (Fin.ofNat 2048 (off + (j 0).val)) (j 1))

/-- The scores of 256 keys from row `n` on (down) against 256 queries from row `q` on (across). -/
def sc (x1 x0 : Vec F S1x1x2048x128 .bf16) (n q : ℕ) : FVec F S256x256 .f32 :=
  matmul dot_S256x128_S256x128_S256x256_1_1_0_0_n_n none (kb x1 n) (kb x0 q) (constant S256x256 .f32 0x00000000#32)

/-- The same, as it is stored. -/
def sq (x1 x0 : Vec F S1x1x2048x128 .bf16) (n q : ℕ) : FVec F S1x256x256 .f32 :=
  shapeCast S1x256x256 (sc x1 x0 n q) shapeCasts_S256x256_S1x256x256

theorem cast4_eq (X : FVec F S1x1x256x128 .bf16) :
    shapeCast S256x128 X shapeCasts_S1x1x256x128_S256x128 = fun j => X (ix4 0 0 (j 0) (j 1)) := by
  funext j
  idx_vars j
  pointwise

theorem ld_rows (x : Vec F S1x1x2048x128 .bf16) (off : ℕ) (hoff : off + 256 ≤ 2048)
    (inb : ∀ a, (![0, 0, off, 0] : Fin 4 → ℕ) a + S1x1x256x128.size a ≤ S1x1x2048x128.size a) (a : Fin 256) (b : Fin 128) :
    View.ld x (Rect.unit (s := S1x1x2048x128) ![0, 0, off, 0] S1x1x256x128.size inb) (ix4 0 0 a b)
      = x (ix4 0 0 (Fin.ofNat 2048 (off + a.val)) b) := by
  have e : (Rect.unit (s := S1x1x2048x128) ![0, 0, off, 0] S1x1x256x128.size inb).emb (ix4 0 0 a b)
      = ix4 0 0 (Fin.ofNat 2048 (off + a.val)) b := by
    funext i
    apply Fin.ext
    match i with
    | 0 => rfl
    | 1 => rfl
    | 2 =>
      show off + 1 * a.val = (off + a.val) % 2048
      rw [Nat.mod_eq_of_lt (by omega), Nat.one_mul]
    | 3 =>
      show 0 + 1 * b.val = b.val
      omega
  exact congrArg x e

theorem rd_eq {m : Memref sig .tc .vmem S1x1x2048x128 .bf16} (h : m.IsWhole) (x : Vec F S1x1x2048x128 .bf16) (off : ℕ)
    (hoff : off + 256 ≤ 2048) (inb : ∀ a, (![0, 0, off, 0] : Fin 4 → ℕ) a + S1x1x256x128.size a ≤ S1x1x2048x128.size a) :
    shapeCast S256x128 (View.readAt (Elt F) m.view (Rect.unit (s := S1x1x2048x128) ![0, 0, off, 0] S1x1x256x128.size inb).toLoadRect (h.unread x))
      shapeCasts_S1x1x256x128_S256x128 = kb x off := by
  rw [View.readAt_eq_ld, h.read_unread, cast4_eq]
  funext j
  exact ld_rows x off hoff inb (j 0) (j 1)

theorem sq_eq {m3 m2 : Memref sig .tc .vmem S1x1x2048x128 .bf16} (h3 : m3.IsWhole) (h2 : m2.IsWhole)
    (x1 x0 : Vec F S1x1x2048x128 .bf16) (n q : ℕ)
    (in3 : ∀ a, (![0, 0, n, 0] : Fin 4 → ℕ) a + S1x1x256x128.size a ≤ S1x1x2048x128.size a)
    (in2 : ∀ a, (![0, 0, q, 0] : Fin 4 → ℕ) a + S1x1x256x128.size a ≤ S1x1x2048x128.size a) :
    shapeCast S1x256x256 (matmul dot_S256x128_S256x128_S256x256_1_1_0_0_n_n none
        (shapeCast S256x128 (View.readAt (Elt F) m3.view (Rect.unit (s := S1x1x2048x128) ![0, 0, n, 0] S1x1x256x128.size in3).toLoadRect (h3.unread x1))
          shapeCasts_S1x1x256x128_S256x128)
        (shapeCast S256x128 (View.readAt (Elt F) m2.view (Rect.unit (s := S1x1x2048x128) ![0, 0, q, 0] S1x1x256x128.size in2).toLoadRect (h2.unread x0))
          shapeCasts_S1x1x256x128_S256x128) (constant S256x256 .f32 0x00000000#32)) shapeCasts_S256x256_S1x256x256
      = sq x1 x0 n q := by
  rw [rd_eq h3 x1 n (in3 2) in3, rd_eq h2 x0 q (in2 2) in2]
  rfl

section
open kernelRun0_A

set_option maxHeartbeats 4000000 in
/-- Every block of scores the kernel reads back is the block it stored there last. -/
theorem loads (c : Dev nD) (a2 : Memref sig .tc .vmem S1x1x2048x128 .bf16) (h2 : a2.IsWhole) (a3 : Memref sig .tc .vmem S1x1x2048x128 .bf16) (h3 : a3.IsWhole)
    (a7 : Memref sig .tc .vmem S2x2048x256 .f32) (x0 x1 : Vec F S1x1x2048x128 .bf16) :
    sl.v c a2 h2 a3 h3 a7 x0 x1 = sq x1 x0 256 256 ∧
    sl.v_1 c a2 h2 a3 h3 a7 x0 x1 = sq x1 x0 1792 1792 ∧
    sl.v250 c a2 h2 a3 h3 a7 x0 x1 = sq x1 x0 0 0 ∧
    sl.v298 c a2 h2 a3 h3 a7 x0 x1 = sq x1 x0 0 256 ∧
    sl.v367 c a2 h2 a3 h3 a7 x0 x1 = sq x1 x0 512 512 ∧
    sl.v371 c a2 h2 a3 h3 a7 x0 x1 = sq x1 x0 0 512 ∧
    sl.v377 c a2 h2 a3 h3 a7 x0 x1 = sq x1 x0 256 512 ∧
    sl.v410 c a2 h2 a3 h3 a7 x0 x1 = sq x1 x0 256 512 ∧
    sl.v469 c a2 h2 a3 h3 a7 x0 x1 = sq x1 x0 768 768 ∧
    sl.v473 c a2 h2 a3 h3 a7 x0 x1 = sq x1 x0 0 768 ∧
    sl.v479 c a2 h2 a3 h3 a7 x0 x1 = sq x1 x0 256 768 ∧
    sl.v485 c a2 h2 a3 h3 a7 x0 x1 = sq x1 x0 512 768 ∧
    sl.v519 c a2 h2 a3 h3 a7 x0 x1 = sq x1 x0 256 768 ∧
    sl.v541 c a2 h2 a3 h3 a7 x0 x1 = sq x1 x0 512 768 ∧
    sl.v600 c a2 h2 a3 h3 a7 x0 x1 = sq x1 x0 1024 1024 ∧
    sl.v604 c a2 h2 a3 h3 a7 x0 x1 = sq x1 x0 0 1024 ∧
    sl.v610 c a2 h2 a3 h3 a7 x0 x1 = sq x1 x0 256 1024 ∧
    sl.v616 c a2 h2 a3 h3 a7 x0 x1 = sq x1 x0 512 1024 ∧
    sl.v622 c a2 h2 a3 h3 a7 x0 x1 = sq x1 x0 768 1024 ∧
    sl.v657 c a2 h2 a3 h3 a7 x0 x1 = sq x1 x0 256 1024 ∧
    sl.v679 c a2 h2 a3 h3 a7 x0 x1 = sq x1 x0 512 1024 ∧
    sl.v701 c a2 h2 a3 h3 a7 x0 x1 = sq x1 x0 768 1024 ∧
    sl.v760 c a2 h2 a3 h3 a7 x0 x1 = sq x1 x0 1280 1280 ∧
    sl.v764 c a2 h2 a3 h3 a7 x0 x1 = sq x1 x0 0 1280 ∧
    sl.v770 c a2 h2 a3 h3 a7 x0 x1 = sq x1 x0 256 1280 ∧
    sl.v776 c a2 h2 a3 h3 a7 x0 x1 = sq x1 x0 512 1280 ∧
    sl.v782 c a2 h2 a3 h3 a7 x0 x1 = sq x1 x0 768 1280 ∧
    sl.v788 c a2 h2 a3 h3 a7 x0 x1 = sq x1 x0 1024 1280 ∧
    sl.v824 c a2 h2 a3 h3 a7 x0 x1 = sq x1 x0 256 1280 ∧
    sl.v846 c a2 h2 a3 h3 a7 x0 x1 = sq x1 x0 512 1280 ∧
    sl.v868 c a2 h2 a3 h3 a7 x0 x1 = sq x1 x0 768 1280 ∧
    sl.v890 c a2 h2 a3 h3 a7 x0 x1 = sq x1 x0 1024 1280 ∧
    sl.v949 c a2 h2 a3 h3 a7 x0 x1 = sq x1 x0 1536 1536 ∧
    sl.v953 c a2 h2 a3 h3 a7 x0 x1 = sq x1 x0 0 1536 ∧
    sl.v959 c a2 h2 a3 h3 a7 x0 x1 = sq x1 x0 256 1536 ∧
    sl.v965 c a2 h2 a3 h3 a7 x0 x1 = sq x1 x0 512 1536 ∧
    sl.v971 c a2 h2 a3 h3 a7 x0 x1 = sq x1 x0 768 1536 ∧
    sl.v977 c a2 h2 a3 h3 a7 x0 x1 = sq x1 x0 1024 1536 ∧
    sl.v983 c a2 h2 a3 h3 a7 x0 x1 = sq x1 x0 1280 1536 ∧
    sl.v1020 c a2 h2 a3 h3 a7 x0 x1 = sq x1 x0 256 1536 ∧
    sl.v1042 c a2 h2 a3 h3 a7 x0 x1 = sq x1 x0 512 1536 ∧
    sl.v1064 c a2 h2 a3 h3 a7 x0 x1 = sq x1 x0 768 1536 ∧
    sl.v1086 c a2 h2 a3 h3 a7 x0 x1 = sq x1 x0 1024 1536 ∧
    sl.v1108 c a2 h2 a3 h3 a7 x0 x1 = sq x1 x0 1280 1536 ∧
    sl.v1171 c a2 h2 a3 h3 a7 x0 x1 = sq x1 x0 0 1792 ∧
    sl.v1177 c a2 h2 a3 h3 a7 x0 x1 = sq x1 x0 256 1792 ∧
    sl.v1183 c a2 h2 a3 h3 a7 x0 x1 = sq x1 x0 512 1792 ∧
    sl.v1189 c a2 h2 a3 h3 a7 x0 x1 = sq x1 x0 768 1792 ∧
    sl.v1195 c a2 h2 a3 h3 a7 x0 x1 = sq x1 x0 1024 1792 ∧
    sl.v1201 c a2 h2 a3 h3 a7 x0 x1 = sq x1 x0 1280 1792 ∧
    sl.v1207 c a2 h2 a3 h3 a7 x0 x1 = sq x1 x0 1536 1792 := by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [sl.HS1_1, sl.HS1_10, sl.HS1_11, sl.HS1_12, sl.HS1_15, sl.HS1_16, sl.HS1_17, sl.HS1_18, sl.HS1_21, sl.HS1_22, sl.HS1_23, sl.HS1_24, sl.HS1_25, sl.HS1_28, sl.HS1_29, sl.HS1_3, sl.HS1_30, sl.HS1_31, sl.HS1_32, sl.HS1_33, sl.HS1_36, sl.HS1_6, sl.HS1_7, sl.v, sl.v1020, sl.v1042, sl.v1064, sl.v1086, sl.v1108, sl.v1171, sl.v1177, sl.v1183, sl.v1189, sl.v1195, sl.v1201, sl.v1207, sl.v250, sl.v298, sl.v367, sl.v371, sl.v377, sl.v410, sl.v469, sl.v473, sl.v479, sl.v485, sl.v519, sl.v541, sl.v600, sl.v604, sl.v610, sl.v616, sl.v622, sl.v657, sl.v679, sl.v701, sl.v760, sl.v764, sl.v770, sl.v776, sl.v782, sl.v788, sl.v824, sl.v846, sl.v868, sl.v890, sl.v949, sl.v953, sl.v959, sl.v965, sl.v971, sl.v977, sl.v983, sl.v_1]
     repeat refine (View.readCov_skip _ _ _ _ _ (by decide)).trans ?_
     exact (View.readCov_cons_toLoadRect _ _ _ _).trans (sq_eq h3 h2 x1 x0 _ _ _ _))
end

end Cert.Proof.Moba
end
-- ==== Proof.Moba.Run.lean ====
module

public import proofs.«01_k».proof.Proof.Moba.Body

@[expose] public section

set_option maxRecDepth 65536

noncomputable section

namespace Cert.Proof.Moba

open Idealize.ShloMosaic Idealize.SL.Sem Idealize.ShloMosaic.Pipeline Cert.KernelIdeal Cert.KernelIdeal.Gen Facts

variable {F : FTy → Type} [FloatOps F]

/-- A block of scores, as it is read back. -/
def sr (x1 x0 : Vec F S1x1x2048x128 .bf16) (n q : ℕ) : FVec F S256x256 .f32 :=
  shapeCast S256x256 (sq x1 x0 (256 * n) (256 * q)) shapeCasts_S1x256x256_S256x256

/-- A query block's own scores: a key after the query is out. -/
def dg (x1 x0 : Vec F S1x1x2048x128 .bf16) (q : ℕ) : FVec F S256x256 .f32 :=
  select k0_pay29 (sr x1 x0 q q) (broadcast S256x256 (Scalar.ofBits .f32 0xFF800000#32))

/-- Maximum over the keys (down the columns). -/
def cmax (X : FVec F S256x256 .f32) : FVec F S1x256 .f32 :=
  shapeCast S1x256 (multiReduction .maximumf [0] S256 X 0xFF800000#32 reduces_S256x256_S256 (.inl rfl) rfl) shapeCasts_S256_S1x256

/-- Sum over the keys. -/
def csum (X : FVec F S256x256 .f32) : FVec F S1x256 .f32 :=
  shapeCast S1x256 (multiReduction .add [0] S256 X 0x00000000#32 reduces_S256x256_S256 (.inl rfl) rfl) shapeCasts_S256_S1x256

/-- The bias of key block `n` at the queries of block `q`. -/
def bs (B : FVec F S8x2048 .f32) (n off : ℕ) : FVec F S1x256 .f32 :=
  fun j => B (ix2 (Fin.ofNat 8 n) (Fin.ofNat 2048 (off + (j 1).val)))

/-- The largest score in key block `n`, biased. -/
def mx (x1 x0 : Vec F S1x1x2048x128 .bf16) (B : FVec F S8x2048 .f32) (q n : ℕ) : FVec F S1x256 .f32 :=
  addf (cmax (sr x1 x0 n q)) (bs B n (256 * q))

/-- The largest over the key blocks up to `n`. -/
def mrun (x1 x0 : Vec F S1x1x2048x128 .bf16) (B : FVec F S8x2048 .f32) (q : ℕ) : ℕ → FVec F S1x256 .f32
  | 0 => mx x1 x0 B q 0
  | n + 1 => maximumf (mrun x1 x0 B q n) (mx x1 x0 B q (n + 1))

/-- The largest score of a query block. -/
def mtot (x1 x0 : Vec F S1x1x2048x128 .bf16) (B : FVec F S8x2048 .f32) : ℕ → FVec F S1x256 .f32
  | 0 => cmax (dg x1 x0 0)
  | q + 1 => maximumf (mrun x1 x0 B (q + 1) q) (cmax (dg x1 x0 (q + 1)))

/-- The weights of an earlier key block. -/
def pO (x1 x0 : Vec F S1x1x2048x128 .bf16) (B : FVec F S8x2048 .f32) (q n : ℕ) : FVec F S256x256 .f32 :=
  exp2 (addf (sr x1 x0 n q) (broadcastTo S256x256 (subf (bs B n (256 * q)) (mtot x1 x0 B q)) broadcasts_S1x256_S256x256))

/-- The weights of the query block's own keys. -/
def pD (x1 x0 : Vec F S1x1x2048x128 .bf16) (B : FVec F S8x2048 .f32) (q : ℕ) : FVec F S256x256 .f32 :=
  exp2 (subf (dg x1 x0 q) (broadcastTo S256x256 (mtot x1 x0 B q) broadcasts_S1x256_S256x256))

/-- The sum of the weights of the first `n` key blocks. -/
def lrun (x1 x0 : Vec F S1x1x2048x128 .bf16) (B : FVec F S8x2048 .f32) (q : ℕ) : ℕ → FVec F S1x256 .f32
  | 0 => broadcast S1x256 (Scalar.ofBits .f32 0x00000000#32)
  | n + 1 => addf (lrun x1 x0 B q n) (csum (pO x1 x0 B q n))

/-- The sum of a query's weights. -/
def ltot (x1 x0 : Vec F S1x1x2048x128 .bf16) (B : FVec F S8x2048 .f32) (q : ℕ) : FVec F S1x256 .f32 :=
  addf (lrun x1 x0 B q q) (csum (pD x1 x0 B q))

/-- The weights of key block `n` for query block `q`, as they are stored. -/
def pst (x1 x0 : Vec F S1x1x2048x128 .bf16) (B : FVec F S8x2048 .f32) (q n : ℕ) : FVec F S1x256x256 .bf16 :=
  shapeCast S1x256x256 (truncf .bf16 (if n < q then pO x1 x0 B q n else pD x1 x0 B q) bitsLt_bf16_f32) shapeCasts_S256x256_S1x256x256

theorem bs_eq (B : FVec F S8x2048 .f32) (n off : ℕ) (h : S8x2048.Slices ![n, off] S1x256) :
    extractStridedSlice S1x256 ![n, off] B h = bs B n off := by
  have h0 : n + 1 ≤ 8 := h.2 0
  have h1 : off + 256 ≤ 2048 := h.2 1
  funext j
  idx_vars j
  refine congrArg B (funext fun a => Fin.ext ?_)
  match a with
  | 0 =>
    show n + j0.val = n % 8
    have := j0.isLt
    rw [Nat.mod_eq_of_lt (by omega)]
    omega
  | 1 =>
    show off + j1.val = (off + j1.val) % 2048
    rw [Nat.mod_eq_of_lt (by have := j1.isLt; omega)]

section
open kernelRun0_A

set_option maxHeartbeats 8000000 in
/-- The largest scores and the sums the kernel computes, query block by query block. -/
theorem sums (c : Dev nD) (a2 : Memref sig .tc .vmem S1x1x2048x128 .bf16) (h2 : a2.IsWhole) (a3 : Memref sig .tc .vmem S1x1x2048x128 .bf16) (h3 : a3.IsWhole)
    (a7 : Memref sig .tc .vmem S2x2048x256 .f32) (x0 x1 : Vec F S1x1x2048x128 .bf16) (B : FVec F S8x2048 .f32)
    (hB : sl.r_18 c a2 h2 a3 h3 x0 x1 = B) :
    sl.r_22 c a2 h2 a3 h3 a7 x0 x1 = mtot x1 x0 B 1 ∧
    sl.r_27 c a2 h2 a3 h3 a7 x0 x1 = mtot x1 x0 B 2 ∧
    sl.r_33 c a2 h2 a3 h3 a7 x0 x1 = mtot x1 x0 B 3 ∧
    sl.r_44 c a2 h2 a3 h3 a7 x0 x1 = mtot x1 x0 B 4 ∧
    sl.r_57 c a2 h2 a3 h3 a7 x0 x1 = mtot x1 x0 B 5 ∧
    sl.r_70 c a2 h2 a3 h3 a7 x0 x1 = mtot x1 x0 B 6 ∧
    sl.r_88 c a2 h2 a3 h3 a7 x0 x1 = mtot x1 x0 B 7 ∧
    sl.r_19 c a2 h2 a3 h3 a7 x0 x1 = ltot x1 x0 B 0 ∧
    sl.r_25 c a2 h2 a3 h3 a7 x0 x1 = ltot x1 x0 B 1 ∧
    sl.r_30 c a2 h2 a3 h3 a7 x0 x1 = ltot x1 x0 B 2 ∧
    sl.r_40 c a2 h2 a3 h3 a7 x0 x1 = ltot x1 x0 B 3 ∧
    sl.r_49 c a2 h2 a3 h3 a7 x0 x1 = ltot x1 x0 B 4 ∧
    sl.r_62 c a2 h2 a3 h3 a7 x0 x1 = ltot x1 x0 B 5 ∧
    sl.r_79 c a2 h2 a3 h3 a7 x0 x1 = ltot x1 x0 B 6 ∧
    sl.r_96 c a2 h2 a3 h3 a7 x0 x1 = ltot x1 x0 B 7 := by
  have L := loads c a2 h2 a3 h3 a7 x0 x1
  refine ⟨?_, ?_, ?_, ?_, ?_, ?_, ?_, ?_, ?_, ?_, ?_, ?_, ?_, ?_, ?_⟩ <;>
    (simp only [sl.r_19, sl.r_21, sl.r_22, sl.r_23, sl.r_25, sl.r_26, sl.r_27, sl.r_28, sl.r_29, sl.r_30, sl.r_31, sl.r_32, sl.r_33, sl.r_34, sl.r_37, sl.r_38, sl.r_39, sl.r_40, sl.r_42, sl.r_43, sl.r_44, sl.r_45, sl.r_46, sl.r_48, sl.r_49, sl.r_50, sl.r_51, sl.r_52, sl.r_53, sl.r_54, sl.r_55, sl.r_56, sl.r_57, sl.r_58, sl.r_59, sl.r_60, sl.r_61, sl.r_62, sl.r_64, sl.r_65, sl.r_66, sl.r_67, sl.r_68, sl.r_69, sl.r_70, sl.r_71, sl.r_73, sl.r_74, sl.r_75, sl.r_77, sl.r_78, sl.r_79, sl.r_81, sl.r_82, sl.r_83, sl.r_84, sl.r_85, sl.r_86, sl.r_87, sl.r_88, sl.r_89, sl.r_90, sl.r_91, sl.r_92, sl.r_93, sl.r_94, sl.r_95, sl.r_96, k0_pay31, k0_pay32, k0_pay33, k0_pay38, k0_pay39, k0_pay40, k0_pay41, k0_pay42, k0_pay44, k0_pay45, k0_pay46, k0_pay47, k0_pay51, k0_pay52, k0_pay53, k0_pay54, k0_pay55, k0_pay57, k0_pay58, k0_pay59, k0_pay61, k0_pay62, k0_pay63, k0_pay67, k0_pay68, k0_pay69, k0_pay70, k0_pay71, k0_pay72, k0_pay75, k0_pay76, k0_pay77, k0_pay78, k0_pay80, k0_pay81, k0_pay82, k0_pay83, k0_pay85, k0_pay86, k0_pay87, k0_pay92, k0_pay93, k0_pay94, k0_pay95, k0_pay96, k0_pay97, k0_pay98, k0_pay100, k0_pay101, k0_pay102, k0_pay104, k0_pay105, k0_pay106, k0_pay108, k0_pay109, k0_pay111, k0_pay112, k0_pay113, k0_pay117, k0_pay118, k0_pay119, k0_pay120, k0_pay121, k0_pay122, k0_pay123, k0_pay124, k0_pay125, k0_pay126, k0_pay127, k0_pay129, k0_pay130, k0_pay131, k0_pay133, k0_pay134, k0_pay135, k0_pay137, k0_pay138, k0_pay139, k0_pay141, k0_pay142, k0_pay144, k0_pay145, k0_pay146, k0_pay150, k0_pay151, k0_pay152, k0_pay153, k0_pay154, k0_pay155, k0_pay156, k0_pay157, k0_pay158, k0_pay159, k0_pay161, k0_pay162, k0_pay163, k0_pay165, k0_pay166, k0_pay167, k0_pay169, k0_pay170, k0_pay171, k0_pay174, k0_pay175, k0_pay176, k0_pay178, k0_pay179, k0_pay180, k0_pay182, k0_pay183, k0_pay184, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, L, hB, bs_eq]
     rfl)

set_option maxHeartbeats 8000000 in
/-- The weights the kernel stores, query block by query block. -/
theorem weights (c : Dev nD) (a2 : Memref sig .tc .vmem S1x1x2048x128 .bf16) (h2 : a2.IsWhole) (a3 : Memref sig .tc .vmem S1x1x2048x128 .bf16) (h3 : a3.IsWhole)
    (a7 : Memref sig .tc .vmem S2x2048x256 .f32) (x0 x1 : Vec F S1x1x2048x128 .bf16) (B : FVec F S8x2048 .f32)
    (hB : sl.r_18 c a2 h2 a3 h3 x0 x1 = B) :
    k0_pay33 (sl.v250 c a2 h2 a3 h3 a7 x0 x1) = pst x1 x0 B 0 0 ∧
    k0_pay47 (sl.r_21 c a2 h2 a3 h3 a7 x0 x1) (sl.r_22 c a2 h2 a3 h3 a7 x0 x1) = pst x1 x0 B 1 1 ∧
    k0_pay42 (sl.r_18 c a2 h2 a3 h3 x0 x1) k0_pay29 (sl.v c a2 h2 a3 h3 a7 x0 x1) (sl.v298 c a2 h2 a3 h3 a7 x0 x1) (sl.v298 c a2 h2 a3 h3 a7 x0 x1) = pst x1 x0 B 1 0 ∧
    k0_pay63 (sl.r_26 c a2 h2 a3 h3 a7 x0 x1) (sl.r_27 c a2 h2 a3 h3 a7 x0 x1) = pst x1 x0 B 2 2 ∧
    (sl.r_29 c a2 h2 a3 h3 a7 x0 x1) = pst x1 x0 B 2 1 ∧
    k0_pay55 (sl.r_18 c a2 h2 a3 h3 x0 x1) (sl.r_27 c a2 h2 a3 h3 a7 x0 x1) (sl.v371 c a2 h2 a3 h3 a7 x0 x1) = pst x1 x0 B 2 0 ∧
    k0_pay87 (sl.r_31 c a2 h2 a3 h3 a7 x0 x1) (sl.r_33 c a2 h2 a3 h3 a7 x0 x1) = pst x1 x0 B 3 3 ∧
    k0_pay83 (sl.r_38 c a2 h2 a3 h3 a7 x0 x1) (sl.r_39 c a2 h2 a3 h3 a7 x0 x1) = pst x1 x0 B 3 2 ∧
    k0_pay78 (sl.r_18 c a2 h2 a3 h3 x0 x1) (sl.r_33 c a2 h2 a3 h3 a7 x0 x1) (sl.v519 c a2 h2 a3 h3 a7 x0 x1) = pst x1 x0 B 3 1 ∧
    k0_pay72 (sl.r_18 c a2 h2 a3 h3 x0 x1) (sl.r_31 c a2 h2 a3 h3 a7 x0 x1) (sl.r_32 c a2 h2 a3 h3 a7 x0 x1) (sl.v479 c a2 h2 a3 h3 a7 x0 x1) (sl.v485 c a2 h2 a3 h3 a7 x0 x1) (sl.v473 c a2 h2 a3 h3 a7 x0 x1) = pst x1 x0 B 3 0 ∧
    k0_pay113 (sl.r_43 c a2 h2 a3 h3 a7 x0 x1) (sl.r_44 c a2 h2 a3 h3 a7 x0 x1) = pst x1 x0 B 4 4 ∧
    k0_pay109 (sl.r_18 c a2 h2 a3 h3 x0 x1) (sl.r_44 c a2 h2 a3 h3 a7 x0 x1) (sl.v701 c a2 h2 a3 h3 a7 x0 x1) = pst x1 x0 B 4 3 ∧
    k0_pay106 (sl.r_18 c a2 h2 a3 h3 x0 x1) (sl.r_44 c a2 h2 a3 h3 a7 x0 x1) (sl.v679 c a2 h2 a3 h3 a7 x0 x1) = pst x1 x0 B 4 2 ∧
    k0_pay102 (sl.r_18 c a2 h2 a3 h3 x0 x1) (sl.r_44 c a2 h2 a3 h3 a7 x0 x1) (sl.v657 c a2 h2 a3 h3 a7 x0 x1) = pst x1 x0 B 4 1 ∧
    k0_pay98 (sl.r_45 c a2 h2 a3 h3 a7 x0 x1) = pst x1 x0 B 4 0 ∧
    k0_pay146 (sl.r_50 c a2 h2 a3 h3 a7 x0 x1) (sl.r_57 c a2 h2 a3 h3 a7 x0 x1) = pst x1 x0 B 5 5 ∧
    k0_pay142 (sl.r_18 c a2 h2 a3 h3 x0 x1) (sl.r_57 c a2 h2 a3 h3 a7 x0 x1) (sl.v890 c a2 h2 a3 h3 a7 x0 x1) = pst x1 x0 B 5 4 ∧
    k0_pay139 (sl.r_18 c a2 h2 a3 h3 x0 x1) (sl.r_57 c a2 h2 a3 h3 a7 x0 x1) (sl.v868 c a2 h2 a3 h3 a7 x0 x1) = pst x1 x0 B 5 3 ∧
    k0_pay135 (sl.r_18 c a2 h2 a3 h3 x0 x1) (sl.r_57 c a2 h2 a3 h3 a7 x0 x1) (sl.v846 c a2 h2 a3 h3 a7 x0 x1) = pst x1 x0 B 5 2 ∧
    k0_pay131 (sl.r_59 c a2 h2 a3 h3 a7 x0 x1) = pst x1 x0 B 5 1 ∧
    k0_pay127 (sl.r_18 c a2 h2 a3 h3 x0 x1) (sl.r_51 c a2 h2 a3 h3 a7 x0 x1) (sl.r_52 c a2 h2 a3 h3 a7 x0 x1) (sl.r_53 c a2 h2 a3 h3 a7 x0 x1) (sl.r_54 c a2 h2 a3 h3 a7 x0 x1) (sl.r_55 c a2 h2 a3 h3 a7 x0 x1) (sl.r_56 c a2 h2 a3 h3 a7 x0 x1) (sl.v764 c a2 h2 a3 h3 a7 x0 x1) = pst x1 x0 B 5 0 ∧
    k0_pay184 (sl.r_64 c a2 h2 a3 h3 a7 x0 x1) (sl.r_70 c a2 h2 a3 h3 a7 x0 x1) = pst x1 x0 B 6 6 ∧
    k0_pay180 (sl.r_18 c a2 h2 a3 h3 x0 x1) (sl.r_70 c a2 h2 a3 h3 a7 x0 x1) (sl.r_78 c a2 h2 a3 h3 a7 x0 x1) = pst x1 x0 B 6 5 ∧
    k0_pay176 (sl.r_18 c a2 h2 a3 h3 x0 x1) (sl.r_70 c a2 h2 a3 h3 a7 x0 x1) (sl.v1086 c a2 h2 a3 h3 a7 x0 x1) = pst x1 x0 B 6 4 ∧
    k0_pay171 (sl.r_18 c a2 h2 a3 h3 x0 x1) (sl.r_70 c a2 h2 a3 h3 a7 x0 x1) (sl.v1064 c a2 h2 a3 h3 a7 x0 x1) = pst x1 x0 B 6 3 ∧
    k0_pay167 (sl.r_73 c a2 h2 a3 h3 a7 x0 x1) = pst x1 x0 B 6 2 ∧
    k0_pay163 (sl.r_18 c a2 h2 a3 h3 x0 x1) (sl.r_70 c a2 h2 a3 h3 a7 x0 x1) (sl.v1020 c a2 h2 a3 h3 a7 x0 x1) = pst x1 x0 B 6 1 ∧
    k0_pay159 (sl.r_18 c a2 h2 a3 h3 x0 x1) (sl.r_64 c a2 h2 a3 h3 a7 x0 x1) (sl.r_65 c a2 h2 a3 h3 a7 x0 x1) (sl.r_66 c a2 h2 a3 h3 a7 x0 x1) (sl.r_67 c a2 h2 a3 h3 a7 x0 x1) (sl.r_68 c a2 h2 a3 h3 a7 x0 x1) (sl.r_69 c a2 h2 a3 h3 a7 x0 x1) (sl.v983 c a2 h2 a3 h3 a7 x0 x1) (sl.v953 c a2 h2 a3 h3 a7 x0 x1) = pst x1 x0 B 6 0 ∧
    k0_pay219 (sl.r_81 c a2 h2 a3 h3 a7 x0 x1) (sl.r_88 c a2 h2 a3 h3 a7 x0 x1) = pst x1 x0 B 7 7 ∧
    k0_pay216 (sl.r_18 c a2 h2 a3 h3 x0 x1) (sl.r_88 c a2 h2 a3 h3 a7 x0 x1) (sl.v1207 c a2 h2 a3 h3 a7 x0 x1) = pst x1 x0 B 7 6 ∧
    k0_pay213 (sl.r_18 c a2 h2 a3 h3 x0 x1) (sl.r_88 c a2 h2 a3 h3 a7 x0 x1) (sl.v1201 c a2 h2 a3 h3 a7 x0 x1) = pst x1 x0 B 7 5 ∧
    k0_pay211 (sl.r_88 c a2 h2 a3 h3 a7 x0 x1) (sl.r_93 c a2 h2 a3 h3 a7 x0 x1) (sl.r_94 c a2 h2 a3 h3 x0 x1) = pst x1 x0 B 7 4 ∧
    k0_pay207 (sl.r_18 c a2 h2 a3 h3 x0 x1) (sl.r_88 c a2 h2 a3 h3 a7 x0 x1) (sl.v1189 c a2 h2 a3 h3 a7 x0 x1) = pst x1 x0 B 7 3 ∧
    k0_pay204 (sl.r_18 c a2 h2 a3 h3 x0 x1) (sl.r_88 c a2 h2 a3 h3 a7 x0 x1) (sl.v1183 c a2 h2 a3 h3 a7 x0 x1) = pst x1 x0 B 7 2 ∧
    k0_pay202 (sl.r_90 c a2 h2 a3 h3 a7 x0 x1) = pst x1 x0 B 7 1 ∧
    k0_pay199 (sl.r_18 c a2 h2 a3 h3 x0 x1) (sl.r_81 c a2 h2 a3 h3 a7 x0 x1) (sl.r_82 c a2 h2 a3 h3 a7 x0 x1) (sl.r_83 c a2 h2 a3 h3 a7 x0 x1) (sl.r_84 c a2 h2 a3 h3 a7 x0 x1) (sl.r_85 c a2 h2 a3 h3 a7 x0 x1) (sl.r_86 c a2 h2 a3 h3 a7 x0 x1) (sl.r_87 c a2 h2 a3 h3 a7 x0 x1) (sl.v1207 c a2 h2 a3 h3 a7 x0 x1) (sl.v1171 c a2 h2 a3 h3 a7 x0 x1) = pst x1 x0 B 7 0 := by
  have L := loads c a2 h2 a3 h3 a7 x0 x1
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;>
    (simp only [sl.r_19, sl.r_21, sl.r_22, sl.r_23, sl.r_25, sl.r_26, sl.r_27, sl.r_28, sl.r_29, sl.r_30, sl.r_31, sl.r_32, sl.r_33, sl.r_34, sl.r_37, sl.r_38, sl.r_39, sl.r_40, sl.r_42, sl.r_43, sl.r_44, sl.r_45, sl.r_46, sl.r_48, sl.r_49, sl.r_50, sl.r_51, sl.r_52, sl.r_53, sl.r_54, sl.r_55, sl.r_56, sl.r_57, sl.r_58, sl.r_59, sl.r_60, sl.r_61, sl.r_62, sl.r_64, sl.r_65, sl.r_66, sl.r_67, sl.r_68, sl.r_69, sl.r_70, sl.r_71, sl.r_73, sl.r_74, sl.r_75, sl.r_77, sl.r_78, sl.r_79, sl.r_81, sl.r_82, sl.r_83, sl.r_84, sl.r_85, sl.r_86, sl.r_87, sl.r_88, sl.r_89, sl.r_90, sl.r_91, sl.r_92, sl.r_93, sl.r_94, sl.r_95, sl.r_96, k0_pay31, k0_pay32, k0_pay33, k0_pay38, k0_pay39, k0_pay40, k0_pay41, k0_pay42, k0_pay44, k0_pay45, k0_pay46, k0_pay47, k0_pay51, k0_pay52, k0_pay53, k0_pay54, k0_pay55, k0_pay57, k0_pay58, k0_pay59, k0_pay61, k0_pay62, k0_pay63, k0_pay67, k0_pay68, k0_pay69, k0_pay70, k0_pay71, k0_pay72, k0_pay75, k0_pay76, k0_pay77, k0_pay78, k0_pay80, k0_pay81, k0_pay82, k0_pay83, k0_pay85, k0_pay86, k0_pay87, k0_pay92, k0_pay93, k0_pay94, k0_pay95, k0_pay96, k0_pay97, k0_pay98, k0_pay100, k0_pay101, k0_pay102, k0_pay104, k0_pay105, k0_pay106, k0_pay108, k0_pay109, k0_pay111, k0_pay112, k0_pay113, k0_pay117, k0_pay118, k0_pay119, k0_pay120, k0_pay121, k0_pay122, k0_pay123, k0_pay124, k0_pay125, k0_pay126, k0_pay127, k0_pay129, k0_pay130, k0_pay131, k0_pay133, k0_pay134, k0_pay135, k0_pay137, k0_pay138, k0_pay139, k0_pay141, k0_pay142, k0_pay144, k0_pay145, k0_pay146, k0_pay150, k0_pay151, k0_pay152, k0_pay153, k0_pay154, k0_pay155, k0_pay156, k0_pay157, k0_pay158, k0_pay159, k0_pay161, k0_pay162, k0_pay163, k0_pay165, k0_pay166, k0_pay167, k0_pay169, k0_pay170, k0_pay171, k0_pay174, k0_pay175, k0_pay176, k0_pay178, k0_pay179, k0_pay180, k0_pay182, k0_pay183, k0_pay184, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, L, hB, bs_eq]
     rfl)

end

end Cert.Proof.Moba
end
-- ==== Proof.Moba.Stack.lean ====
module

public import proofs.«01_k».proof.Proof.Moba.Run

@[expose] public section

set_option maxRecDepth 65536

noncomputable section

namespace Cert.Proof.Moba

open Idealize.ShloMosaic Idealize.SL.Sem Idealize.ShloMosaic.Pipeline Cert.KernelIdeal Cert.KernelIdeal.Gen Facts

variable {F : FTy → Type} [FloatOps F]

/-- The weights of query block `q`, one key block under another. -/
def stack (x1 x0 : Vec F S1x1x2048x128 .bf16) (B : FVec F S8x2048 .f32) (q : ℕ) : S2x2048x256.Idx → Elt F .bf16 :=
  fun y => pst x1 x0 B q ((y 1).val / 256) (ix3 0 (Fin.ofNat 256 (y 1).val) (y 2))

/-- A stored block of weights is its part of the stack. -/
theorem piece_ok (x1 x0 : Vec F S1x1x2048x128 .bf16) (B : FVec F S8x2048 .f32) (q n : ℕ) {slot : ℕ}
    (w : S1x256x256.Idx → Elt F .bf16)
    (inb : ∀ a, (![slot, 256 * n, 0] : Fin 3 → ℕ) a + S1x256x256.size a ≤ S2x2048x256.size a) (hw : w = pst x1 x0 B q n)
    (x : (Rect.unit (s := S2x2048x256) ![slot, 256 * n, 0] S1x256x256.size inb).shape.Idx) :
    w x = stack x1 x0 B q ((Rect.unit (s := S2x2048x256) ![slot, 256 * n, 0] S1x256x256.size inb).emb x) := by
  subst hw
  have hlt : (x 1).val < 256 := (x 1).isLt
  have h0 : (x 0).val < 1 := (x 0).isLt
  have e1 : (((Rect.unit (s := S2x2048x256) ![slot, 256 * n, 0] S1x256x256.size inb).emb x) 1).val = 256 * n + (x 1).val := by
    show 256 * n + 1 * (x 1).val = _
    rw [Nat.one_mul]
  unfold stack
  rw [e1, show (256 * n + (x 1).val) / 256 = n by omega]
  refine congrArg _ (funext fun a => Fin.ext ?_)
  match a with
  | 0 =>
    show (x 0).val = 0
    omega
  | 1 =>
    show (x 1).val = (256 * n + (x 1).val) % 256
    omega
  | 2 =>
    show (x 2).val = 0 + 1 * (x 2).val
    omega

/-- A read of a stack that has all its blocks. -/
theorem stack_read (x1 x0 : Vec F S1x1x2048x128 .bf16) (B : FVec F S8x2048 .f32) (q slot N : ℕ)
    (v : View sig .tc .vmem S2x2048x256 .bf16) (L : List (View.Piece (Elt F) S2x2048x256 .bf16))
    (inb : ∀ a, (![slot, 0, 0] : Fin 3 → ℕ) a + (![1, 256 * N, 256] : Fin 3 → ℕ) a ≤ S2x2048x256.size a)
    (hp : View.PiecesOf (stack x1 x0 B q) (L.take N))
    (hc : ∀ n < N, ∃ ib w, (L.take N)[N - 1 - n]? = some ⟨Rect.unit (s := S2x2048x256) ![slot, 256 * n, 0] S1x256x256.size ib, w⟩) :
    v.readCov L (Rect.unit (s := S2x2048x256) ![slot, 0, 0] ![1, 256 * N, 256] inb).toLoadRect
      = fun j => pst x1 x0 B q ((j 1).val / 256) (ix3 0 (Fin.ofNat 256 (j 1).val) (j 2)) := by
  rw [View.readCov_eq_canon']
  funext j
  have hj : (j 1).val < 256 * N := (j 1).isLt
  have h0 : (j 0).val < 1 := (j 0).isLt
  have e0 : (((Rect.unit (s := S2x2048x256) ![slot, 0, 0] ![1, 256 * N, 256] inb).toLoadRect.idx j) 0).val = slot := by
    show slot + 1 * (j 0).val = _
    omega
  have e1 : (((Rect.unit (s := S2x2048x256) ![slot, 0, 0] ![1, 256 * N, 256] inb).toLoadRect.idx j) 1).val = (j 1).val := by
    show 0 + 1 * (j 1).val = _
    omega
  have e2 : ((Rect.unit (s := S2x2048x256) ![slot, 0, 0] ![1, 256 * N, 256] inb).toLoadRect.idx j) 2 = (j 2) := by
    apply Fin.ext
    show 0 + 1 * (j 2).val = _
    omega
  rw [← List.take_append_drop N L]
  refine (View.canon_append_of_piecesOf (stack x1 x0 B q) _ _ hp _ ?_).trans ?_
  · obtain ⟨ib, w, hr⟩ := hc ((j 1).val / 256) (by omega)
    refine ⟨_, List.mem_of_getElem? hr, ?_⟩
    rw [Rect.mem_set_unit]
    intro a
    match a with
    | 0 =>
      show slot ≤ _ ∧ _ < slot + 1
      omega
    | 1 =>
      show 256 * ((j 1).val / 256) ≤ _ ∧ _ < 256 * ((j 1).val / 256) + 256
      omega
    | 2 =>
      refine ⟨Nat.zero_le _, ?_⟩
      show _ < 0 + 256
      have := ((Rect.unit (s := S2x2048x256) ![slot, 0, 0] ![1, 256 * N, 256] inb).toLoadRect.idx j 2).isLt
      exact lt_of_lt_of_eq this (Nat.zero_add _).symm
  · unfold stack
    rw [e1, e2]

section
open kernelRun0_A

set_option maxHeartbeats 8000000 in
/-- What the kernel reads back from the stack of weights. -/
theorem stack_loads (c : Dev nD) (a2 : Memref sig .tc .vmem S1x1x2048x128 .bf16) (h2 : a2.IsWhole) (a3 : Memref sig .tc .vmem S1x1x2048x128 .bf16) (h3 : a3.IsWhole)
    (a7 : Memref sig .tc .vmem S2x2048x256 .f32) (a8 : Memref sig .tc .vmem S2x2048x256 .bf16) (x0 x1 : Vec F S1x1x2048x128 .bf16) (B : FVec F S8x2048 .f32)
    (hB : sl.r_18 c a2 h2 a3 h3 x0 x1 = B) :
    sl.v284 c a2 h2 a3 h3 a7 a8 x0 x1 = (fun j : (⟨3, ![1, 256, 256]⟩ : Shape).Idx => pst x1 x0 B 0 ((j 1).val / 256) (ix3 0 (Fin.ofNat 256 (j 1).val) (j 2))) ∧
    sl.v357 c a2 h2 a3 h3 a7 a8 x0 x1 = (fun j : (⟨3, ![1, 512, 256]⟩ : Shape).Idx => pst x1 x0 B 1 ((j 1).val / 256) (ix3 0 (Fin.ofNat 256 (j 1).val) (j 2))) ∧
    sl.v459 c a2 h2 a3 h3 a7 a8 x0 x1 = (fun j : (⟨3, ![1, 768, 256]⟩ : Shape).Idx => pst x1 x0 B 2 ((j 1).val / 256) (ix3 0 (Fin.ofNat 256 (j 1).val) (j 2))) ∧
    sl.v590 c a2 h2 a3 h3 a7 a8 x0 x1 = (fun j : (⟨3, ![1, 1024, 256]⟩ : Shape).Idx => pst x1 x0 B 3 ((j 1).val / 256) (ix3 0 (Fin.ofNat 256 (j 1).val) (j 2))) ∧
    sl.v750 c a2 h2 a3 h3 a7 a8 x0 x1 = (fun j : (⟨3, ![1, 1280, 256]⟩ : Shape).Idx => pst x1 x0 B 4 ((j 1).val / 256) (ix3 0 (Fin.ofNat 256 (j 1).val) (j 2))) ∧
    sl.v939 c a2 h2 a3 h3 a7 a8 x0 x1 = (fun j : (⟨3, ![1, 1536, 256]⟩ : Shape).Idx => pst x1 x0 B 5 ((j 1).val / 256) (ix3 0 (Fin.ofNat 256 (j 1).val) (j 2))) ∧
    sl.v1157 c a2 h2 a3 h3 a7 a8 x0 x1 = (fun j : (⟨3, ![1, 1792, 256]⟩ : Shape).Idx => pst x1 x0 B 6 ((j 1).val / 256) (ix3 0 (Fin.ofNat 256 (j 1).val) (j 2))) ∧
    sl.v1332 c a2 h2 a3 h3 a7 a8 x0 x1 = (fun j : (⟨3, ![1, 2048, 256]⟩ : Shape).Idx => pst x1 x0 B 7 ((j 1).val / 256) (ix3 0 (Fin.ofNat 256 (j 1).val) (j 2))) := by
  obtain ⟨W0, W1, W2, W3, W4, W5, W6, W7, W8, W9, W10, W11, W12, W13, W14, W15, W16, W17, W18, W19, W20, W21, W22, W23, W24, W25, W26, W27, W28, W29, W30, W31, W32, W33, W34, W35⟩ := weights c a2 h2 a3 h3 a7 x0 x1 B hB
  refine ⟨?_, ?_, ?_, ?_, ?_, ?_, ?_, ?_⟩
  · refine stack_read x1 x0 B 0 0 1 _ (sl.HS2_1 c a2 h2 a3 h3 a7 x0 x1) _ ⟨piece_ok x1 x0 B 0 0 _ (by decide) W0, trivial⟩ fun n hn => ?_
    interval_cases n <;> exact ⟨by decide, _, rfl⟩
  · refine stack_read x1 x0 B 1 1 2 _ (sl.HS2_3 c a2 h2 a3 h3 a7 x0 x1) _ ⟨piece_ok x1 x0 B 1 1 _ (by decide) W1, piece_ok x1 x0 B 1 0 _ (by decide) W2, trivial⟩ fun n hn => ?_
    interval_cases n <;> exact ⟨by decide, _, rfl⟩
  · refine stack_read x1 x0 B 2 0 3 _ (sl.HS2_6 c a2 h2 a3 h3 a7 x0 x1) _ ⟨piece_ok x1 x0 B 2 2 _ (by decide) W3, piece_ok x1 x0 B 2 1 _ (by decide) W4, piece_ok x1 x0 B 2 0 _ (by decide) W5, trivial⟩ fun n hn => ?_
    interval_cases n <;> exact ⟨by decide, _, rfl⟩
  · refine stack_read x1 x0 B 3 1 4 _ (sl.HS2_10 c a2 h2 a3 h3 a7 x0 x1) _ ⟨piece_ok x1 x0 B 3 3 _ (by decide) W6, piece_ok x1 x0 B 3 2 _ (by decide) W7, piece_ok x1 x0 B 3 1 _ (by decide) W8, piece_ok x1 x0 B 3 0 _ (by decide) W9, trivial⟩ fun n hn => ?_
    interval_cases n <;> exact ⟨by decide, _, rfl⟩
  · refine stack_read x1 x0 B 4 0 5 _ (sl.HS2_15 c a2 h2 a3 h3 a7 x0 x1) _ ⟨piece_ok x1 x0 B 4 4 _ (by decide) W10, piece_ok x1 x0 B 4 3 _ (by decide) W11, piece_ok x1 x0 B 4 2 _ (by decide) W12, piece_ok x1 x0 B 4 1 _ (by decide) W13, piece_ok x1 x0 B 4 0 _ (by decide) W14, trivial⟩ fun n hn => ?_
    interval_cases n <;> exact ⟨by decide, _, rfl⟩
  · refine stack_read x1 x0 B 5 1 6 _ (sl.HS2_21 c a2 h2 a3 h3 a7 x0 x1) _ ⟨piece_ok x1 x0 B 5 5 _ (by decide) W15, piece_ok x1 x0 B 5 4 _ (by decide) W16, piece_ok x1 x0 B 5 3 _ (by decide) W17, piece_ok x1 x0 B 5 2 _ (by decide) W18, piece_ok x1 x0 B 5 1 _ (by decide) W19, piece_ok x1 x0 B 5 0 _ (by decide) W20, trivial⟩ fun n hn => ?_
    interval_cases n <;> exact ⟨by decide, _, rfl⟩
  · refine stack_read x1 x0 B 6 0 7 _ (sl.HS2_28 c a2 h2 a3 h3 a7 x0 x1) _ ⟨piece_ok x1 x0 B 6 6 _ (by decide) W21, piece_ok x1 x0 B 6 5 _ (by decide) W22, piece_ok x1 x0 B 6 4 _ (by decide) W23, piece_ok x1 x0 B 6 3 _ (by decide) W24, piece_ok x1 x0 B 6 2 _ (by decide) W25, piece_ok x1 x0 B 6 1 _ (by decide) W26, piece_ok x1 x0 B 6 0 _ (by decide) W27, trivial⟩ fun n hn => ?_
    interval_cases n <;> exact ⟨by decide, _, rfl⟩
  · refine stack_read x1 x0 B 7 1 8 _ (sl.HS2_36 c a2 h2 a3 h3 a7 x0 x1) _ ⟨piece_ok x1 x0 B 7 7 _ (by decide) W28, piece_ok x1 x0 B 7 6 _ (by decide) W29, piece_ok x1 x0 B 7 5 _ (by decide) W30, piece_ok x1 x0 B 7 4 _ (by decide) W31, piece_ok x1 x0 B 7 3 _ (by decide) W32, piece_ok x1 x0 B 7 2 _ (by decide) W33, piece_ok x1 x0 B 7 1 _ (by decide) W34, piece_ok x1 x0 B 7 0 _ (by decide) W35, trivial⟩ fun n hn => ?_
    interval_cases n <;> exact ⟨by decide, _, rfl⟩

end

end Cert.Proof.Moba
end
-- ==== Proof.Moba.Spec.lean ====
module

public import proofs.«01_k».proof.Defs
public import Idealize.ShloMosaic.Lib.Pointwise

@[expose] public section

noncomputable section

namespace Cert.Proof.Moba

open Idealize.ShloMosaic

/-- `a` comes before `b` among the blocks: a larger value, or the same value and a smaller number. -/
def beats (g : Fin 8 → EReal) (a b : Fin 8) : Prop := g b < g a ∨ (g a = g b ∧ a < b)

open Classical in
/-- How many blocks come before `n`. -/
def rank (g : Fin 8 → EReal) (n : Fin 8) : ℕ := (Finset.univ.filter fun a => beats g a n).card

/-- The score of a key for a query. -/
def dotR (kr : Fin 8 → Fin 256 → Fin 128 → ℝ) (qr : Fin 128 → ℝ) (n : Fin 8) (k : Fin 256) : ℝ := ∑ d : Fin 128, kr n k d * qr d

/-- The score of a block of keys: of the mean of its keys. -/
def meanR (kr : Fin 8 → Fin 256 → Fin 128 → ℝ) (qr : Fin 128 → ℝ) (n : Fin 8) : ℝ := ∑ d : Fin 128, (∑ k : Fin 256, kr n k d) / 256 * qr d

/-- Only the blocks before the query's own take part in the choice. -/
def gateE (kr : Fin 8 → Fin 256 → Fin 128 → ℝ) (qr : Fin 128 → ℝ) (q : ℕ) (n : Fin 8) : EReal :=
  if n.val < q then ((meanR kr qr n : ℝ) : EReal) else ⊥

/-- The keys a query attends to: those of the three best earlier blocks, and its own block's up to itself. -/
def allowed (kr : Fin 8 → Fin 256 → Fin 128 → ℝ) (qr : Fin 128 → ℝ) (q : ℕ) (c : Fin 256) (n : Fin 8) (k : Fin 256) : Prop :=
  (n.val < q ∧ rank (gateE kr qr q) n < 3) ∨ (n.val = q ∧ k ≤ c)

open Classical in
/-- A key's weight before the division by the sum. -/
def wt (S : ℝ) (kr : Fin 8 → Fin 256 → Fin 128 → ℝ) (qr : Fin 128 → ℝ) (q : ℕ) (c : Fin 256) (n : Fin 8) (k : Fin 256) : ℝ :=
  if allowed kr qr q c n k then Real.exp (S * dotR kr qr n k) else 0

/-- The sum of the weights. -/
def wsum (S : ℝ) (kr : Fin 8 → Fin 256 → Fin 128 → ℝ) (qr : Fin 128 → ℝ) (q : ℕ) (c : Fin 256) : ℝ :=
  ∑ n : Fin 8, ∑ k : Fin 256, wt S kr qr q c n k

/-- Block attention for one query and one column of the values. -/
def attn (S : ℝ) (kr : Fin 8 → Fin 256 → Fin 128 → ℝ) (qr : Fin 128 → ℝ) (v : Fin 8 → Fin 256 → EReal) (q : ℕ) (c : Fin 256) : EReal :=
  ∑ n : Fin 8, ∑ k : Fin 256, v n k * ((wt S kr qr q c n k / wsum S kr qr q c : ℝ) : EReal)

theorem wt_nonneg (S : ℝ) (kr : Fin 8 → Fin 256 → Fin 128 → ℝ) (qr : Fin 128 → ℝ) (q : ℕ) (c : Fin 256) (n : Fin 8) (k : Fin 256) :
    0 ≤ wt S kr qr q c n k := by
  unfold wt
  split
  · exact (Real.exp_pos _).le
  · exact le_refl _

theorem wsum_pos (S : ℝ) (kr : Fin 8 → Fin 256 → Fin 128 → ℝ) (qr : Fin 128 → ℝ) (q : ℕ) (hq : q < 8) (c : Fin 256) :
    0 < wsum S kr qr q c := by
  refine Finset.sum_pos' (fun n _ => Finset.sum_nonneg fun k _ => wt_nonneg ..) ⟨⟨q, hq⟩, Finset.mem_univ _, ?_⟩
  refine Finset.sum_pos' (fun k _ => wt_nonneg ..) ⟨c, Finset.mem_univ _, ?_⟩
  unfold wt
  rw [if_pos (show allowed kr qr q c ⟨q, hq⟩ c from Or.inr ⟨rfl, le_refl _⟩)]
  exact Real.exp_pos _

/-- A real factor at least zero goes into a sum of extended reals. -/
theorem sum_mul_coe {ι : Type} (s : Finset ι) (f : ι → EReal) (x : ℝ) (hx : 0 ≤ x) : (∑ i ∈ s, f i) * (x : EReal) = ∑ i ∈ s, f i * (x : EReal) := by
  classical
  induction s using Finset.induction_on with
  | empty => simp
  | insert a s ha ih =>
    rw [Finset.sum_insert ha, Finset.sum_insert ha, ← ih]
    exact EReal.right_distrib_of_nonneg_of_ne_top (by exact_mod_cast hx) (EReal.coe_ne_top x) _ _

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- Dividing the weighted sum of the values by the sum of the weights, when every weight carries one more factor `C`. -/
theorem div_weighted (S : ℝ) (kr : Fin 8 → Fin 256 → Fin 128 → ℝ) (qr : Fin 128 → ℝ) (v : Fin 8 → Fin 256 → EReal) (q : ℕ) (hq : q < 8) (c : Fin 256)
    (C : ℝ) (hC : 0 < C) :
    Ideal.div (∑ n : Fin 8, ∑ k : Fin 256, v n k * ((C * wt S kr qr q c n k : ℝ) : EReal)) ((C * wsum S kr qr q c : ℝ) : EReal)
      = attn S kr qr v q c := by
  have hw := wsum_pos S kr qr q hq c
  have hne : C * wsum S kr qr q c ≠ 0 := (mul_pos hC hw).ne'
  rw [Ideal.div_coe hne, sum_mul_coe _ _ _ (one_div_nonneg.mpr (mul_pos hC hw).le)]
  unfold attn
  refine Finset.sum_congr rfl fun n _ => ?_
  rw [sum_mul_coe _ _ _ (one_div_nonneg.mpr (mul_pos hC hw).le)]
  refine Finset.sum_congr rfl fun k _ => ?_
  rw [mul_assoc, ← EReal.coe_mul]
  congr 2
  field_simp

/-- Every key's own part of the sum, with the sums of the weights already divided. -/
theorem weight_div (S : ℝ) (kr : Fin 8 → Fin 256 → Fin 128 → ℝ) (qr : Fin 128 → ℝ) (q : ℕ) (hq : q < 8) (c : Fin 256)
    (C : ℝ) (hC : 0 < C) (n : Fin 8) (k : Fin 256) :
    Ideal.div ((C * wt S kr qr q c n k : ℝ) : EReal) ((C * wsum S kr qr q c : ℝ) : EReal)
      = ((wt S kr qr q c n k / wsum S kr qr q c : ℝ) : EReal) := by
  have hw := wsum_pos S kr qr q hq c
  have hne : C * wsum S kr qr q c ≠ 0 := (mul_pos hC hw).ne'
  rw [Ideal.div_coe hne, ← EReal.coe_mul]
  congr 1
  field_simp

/-- The order of the blocks does not change when every value is multiplied by a positive number. -/
theorem rank_scale (g h : Fin 8 → EReal) (he : ∀ a b, g a < g b ↔ h a < h b) (n : Fin 8) : rank g n = rank h n := by
  classical
  have e : ∀ a b, (g a = g b ↔ h a = h b) := fun a b => by
    have h1 := he a b
    have h2 := he b a
    constructor <;> intro h0
    · exact le_antisymm (not_lt.mp fun hl => absurd (h2.mpr hl) (by simp [h0])) (not_lt.mp fun hl => absurd (h1.mpr hl) (by simp [h0]))
    · exact le_antisymm (not_lt.mp fun hl => absurd (h2.mp hl) (by simp [h0])) (not_lt.mp fun hl => absurd (h1.mp hl) (by simp [h0]))
  unfold rank beats
  congr 1
  ext a
  simp only [Finset.mem_filter, Finset.mem_univ, true_and]
  rw [he, e]

/-- A sum over the rows of the first `m` blocks, block by block. -/
theorem sum_blocks (f : ℕ → ℕ → EReal) (m : ℕ) (hm : m ≤ 8) :
    ∑ k : Fin (256 * m), f (k.val / 256) (k.val % 256) = ∑ n : Fin 8, ∑ k : Fin 256, if n.val < m then f n.val k.val else 0 := by
  have h1 : ∀ m, ∑ k ∈ Finset.range (256 * m), f (k / 256) (k % 256) = ∑ n ∈ Finset.range m, ∑ k ∈ Finset.range 256, f n k := by
    intro m
    induction m with
    | zero => simp
    | succ m ih =>
      rw [Nat.mul_succ, Finset.sum_range_add (f := fun k => f (k / 256) (k % 256)), ih, Finset.sum_range_succ (fun n => ∑ k ∈ Finset.range 256, f n k) m]
      refine congrArg ((∑ n ∈ Finset.range m, ∑ k ∈ Finset.range 256, f n k) + ·) (Finset.sum_congr rfl fun k hk => ?_)
      have := Finset.mem_range.mp hk
      rw [show (256 * m + k) / 256 = m by omega, show (256 * m + k) % 256 = k by omega]
  have h2 : ∀ n : Fin 8, (∑ k : Fin 256, if n.val < m then f n.val k.val else 0) = if n.val < m then ∑ k : Fin 256, f n.val k.val else 0 := by
    intro n
    split <;> simp
  simp only [h2]
  rw [Fin.sum_univ_eq_sum_range (α := EReal) (fun k => f (k / 256) (k % 256)), h1,
    Fin.sum_univ_eq_sum_range (α := EReal) (fun n => if n < m then ∑ k : Fin 256, f n k.val else 0), ← Finset.sum_filter]
  refine Finset.sum_congr ?_ fun n _ => (Fin.sum_univ_eq_sum_range (fun k => f n k) 256).symm
  ext n
  simp only [Finset.mem_range, Finset.mem_filter]
  omega

end Cert.Proof.Moba
end
-- ==== Proof.Moba.KRead.lean ====
module

public import proofs.«01_k».proof.Proof.Moba.Stack
public import proofs.«01_k».proof.Proof.Moba.Spec

@[expose] public section

set_option maxRecDepth 65536

noncomputable section

namespace Cert.Proof.Moba

open Idealize.ShloMosaic Idealize.SL.Sem Idealize.ShloMosaic.Pipeline Cert.KernelIdeal Cert.KernelIdeal.Gen Facts

/-- A score: a key's row times a query's row. -/
def score (x1 x0 : Vec Ideal S1x1x2048x128 .bf16) (n q : ℕ) (k c : Fin 256) : EReal :=
  ∑ d : Fin 128, x1 (ix4 0 0 (Fin.ofNat 2048 (256 * n + k.val)) d) * x0 (ix4 0 0 (Fin.ofNat 2048 (256 * q + c.val)) d)

theorem sr_apply (x1 x0 : Vec Ideal S1x1x2048x128 .bf16) (n q : ℕ) (k c : Fin 256) :
    sr x1 x0 n q (ix2 k c) = score x1 x0 n q k c := by
  pointwise [sr, sq, sc, kb, score]

theorem neg_inf : Ideal.ofBits .f32 4286578688#32 = ⊥ := by
  simp [Ideal.ofBits, Ideal.ieee]

theorem cmax_apply (X : FVec Ideal S256x256 .f32) (z : Fin 1) (c : Fin 256) :
    cmax X (ix2 z c) = Finset.univ.fold max ⊥ (fun k : Fin 256 => X (ix2 k c)) := by
  pointwise [cmax]
  rw [neg_inf]

theorem csum_apply (X : FVec Ideal S256x256 .f32) (z : Fin 1) (c : Fin 256) :
    csum X (ix2 z c) = ∑ k : Fin 256, X (ix2 k c) := by
  pointwise [csum]

theorem dg_apply (x1 x0 : Vec Ideal S1x1x2048x128 .bf16) (q : ℕ) (k c : Fin 256) :
    dg x1 x0 q (ix2 k c) = if k.val ≤ c.val then score x1 x0 q q k c else ⊥ := by
  rw [← sr_apply]
  pointwise [dg, k0_pay29]
  rw [neg_inf, WordCmp.cmpi_sle_ofNat (by have := k.isLt; omega) (by have := c.isLt; omega)]
  by_cases h : k.val ≤ c.val <;> simp [Scalar.select, h]

theorem beats_term (g : Fin 8 → EReal) (n a : Fin 8) (k : ℕ) (hk : k = a.val) :
    ((if g n < g a then (1 : EReal) else 0) + if g a = g n then Scalar.select (IntOp.cmpi .sgt (BitVec.ofNat 32 n.val) (BitVec.ofNat 32 k)) 1 0 else 0)
      = open Classical in if beats g a n then 1 else 0 := by
  subst hk
  rw [WordCmp.cmpi_sgt_ofNat (by have := n.isLt; omega) (by have := a.isLt; omega)]
  have hlt : a < n ↔ a.val < n.val := Iff.rfl
  by_cases h1 : g n < g a
  · have h2 : ¬ g a = g n := fun h => absurd h (ne_of_gt h1)
    simp [beats, h1, h2]
  · by_cases h2 : g a = g n
    · by_cases h3 : a.val < n.val <;> simp [beats, h2, hlt, h3, Scalar.select]
    · simp [beats, h1, h2]

theorem three : Ideal.ofBits .f32 1077936128#32 = ((3 : ℕ) : EReal) := by
  simp [Ideal.ofBits, Ideal.ieee, -EReal.coe_mul]
  norm_num
  rfl

theorem sum_beats (g : Fin 8 → EReal) (n : Fin 8) :
    (∑ a : Fin 8, open Classical in if beats g a n then (1 : EReal) else 0) = ((rank g n : ℕ) : EReal) := by
  classical
  rw [Finset.sum_boole]
  rfl

open kernelRun0_A in
theorem bias_apply (c : Dev nD) (a2 : Memref sig .tc .vmem S1x1x2048x128 .bf16) (h2 : a2.IsWhole) (a3 : Memref sig .tc .vmem S1x1x2048x128 .bf16) (h3 : a3.IsWhole)
    (x0 x1 : Vec Ideal S1x1x2048x128 .bf16) (G : FVec Ideal S8x2048 .f32) (hG : sl.r_9 (F := Ideal) c a2 h2 a3 h3 x0 x1 = G) (n : Fin 8) (r : Fin 2048) :
    sl.r_18 (F := Ideal) c a2 h2 a3 h3 x0 x1 (ix2 n r)
      = Scalar.select (IntOp.andi (k0_pay12 (ix2 n r)) (BitVec.ofBool (decide (rank (fun a => G (ix2 a r)) n < 3)))) 0 ⊥ := by
  unfold sl.r_9 at hG
  simp only [sl.r_18, sl.r_17, sl.r_16, sl.r_15, sl.r_14, sl.r_13, sl.r_12, sl.r_11, sl.r_10, sl.r_9, sl.v67, sl.cst_86, k0_pay14, k0_pay15, k0_pay16,
    k0_pay17, k0_pay18, k0_pay19, k0_pay20, k0_pay21, k0_pay22, k0_pay23, k0_pay24, k0_pay25, k0_pay26, k0_pay27, k0_pay28, hG]
  clear hG
  pointwise
  rw [neg_inf, three]
  have e : ∀ (x : EReal), x = ((rank (fun a => G (ix2 a r)) n : ℕ) : EReal) →
      (decide (x < ((3 : ℕ) : EReal))) = decide (rank (fun a => G (ix2 a r)) n < 3) := by
    rintro x rfl
    exact decide_eq_decide.mpr (by exact_mod_cast Iff.rfl)
  rw [e _ ?_]
  rw [← sum_beats]
  simp only [Fin.sum_univ_eight]
  rw [← beats_term (fun a => G (ix2 a r)) n 0 0 rfl, ← beats_term (fun a => G (ix2 a r)) n 1 1 rfl, ← beats_term (fun a => G (ix2 a r)) n 2 2 rfl,
    ← beats_term (fun a => G (ix2 a r)) n 3 3 rfl, ← beats_term (fun a => G (ix2 a r)) n 4 4 rfl, ← beats_term (fun a => G (ix2 a r)) n 5 5 rfl,
    ← beats_term (fun a => G (ix2 a r)) n 6 6 rfl, ← beats_term (fun a => G (ix2 a r)) n 7 7 rfl]
  simp only [← add_assoc]

theorem block_of_row : ∀ r : Fin 2048, (Scalar.select
        (IntOp.andi
          (IntOp.cmpi CmpIPredicate.ne
            (IntOp.subi (BitVec.setWidth 32 (IntOp.cmpi CmpIPredicate.sgt (BitVec.ofNat 32 r.val) 0#32))
              (BitVec.setWidth 32 (IntOp.cmpi CmpIPredicate.slt (BitVec.ofNat 32 r.val) 0#32)))
            (Scalar.subi (Scalar.extui (Scalar.cmpi CmpIPredicate.sgt 256#32 0#32))
              (Scalar.extui (Scalar.cmpi CmpIPredicate.slt 256#32 0#32))))
          (IntOp.cmpi CmpIPredicate.ne (IntOp.remsi ArithUnit.vector (BitVec.ofNat 32 r.val) 256#32) 0#32))
        (IntOp.subi (IntOp.divsi ArithUnit.vector (BitVec.ofNat 32 r.val) 256#32) 1#32)
        (IntOp.divsi ArithUnit.vector (BitVec.ofNat 32 r.val) 256#32)) = BitVec.ofNat 32 (r.val / 256) := by
  decide +kernel

theorem past_apply (n : Fin 8) (r : Fin 2048) : k0_pay12 (ix2 n r) = BitVec.ofBool (decide (n.val < r.val / 256)) := by
  pointwise [k0_pay12]
  rw [block_of_row, WordCmp.cmpi_slt_ofNat (by have := n.isLt; omega) (by have := r.isLt; omega)]

/-- The mean of a key block. -/
def kmean (x1 : Vec Ideal S1x1x2048x128 .bf16) (n : ℕ) (d : Fin 128) : EReal :=
  Ideal.div (∑ k : Fin 256, x1 (ix4 0 0 (Fin.ofNat 2048 (256 * n + k.val)) d)) ((256 : ℝ) : EReal)

/-- How a query scores a key block: its row times the block's mean; only blocks before the query's own count. -/
def gate (x1 x0 : Vec Ideal S1x1x2048x128 .bf16) (r : Fin 2048) (n : Fin 8) : EReal :=
  if n.val < r.val / 256 then ∑ d : Fin 128, kmean x1 n.val d * x0 (ix4 0 0 r d) else ⊥

theorem b256 : Ideal.ofBits .f32 1132462080#32 = ((256 : ℝ) : EReal) := by
  simp [Ideal.ofBits, Ideal.ieee, -EReal.coe_mul]
  norm_num

theorem ld_all (x : Vec Ideal S1x1x2048x128 .bf16)
    (inb : ∀ a, (![0, 0, 0, 0] : Fin 4 → ℕ) a + S1x1x2048x128.size a ≤ S1x1x2048x128.size a) (r : Fin 2048) (d : Fin 128) :
    View.ld x (Rect.unit (s := S1x1x2048x128) ![0, 0, 0, 0] S1x1x2048x128.size inb) (ix4 0 0 r d) = x (ix4 0 0 r d) := by
  refine congrArg x (funext fun i => Fin.ext ?_)
  match i with
  | 0 => rfl
  | 1 => rfl
  | 2 =>
    show 0 + 1 * r.val = r.val
    omega
  | 3 =>
    show 0 + 1 * d.val = d.val
    omega

open kernelRun0_A in
theorem gate_apply (c : Dev nD) (a2 : Memref sig .tc .vmem S1x1x2048x128 .bf16) (h2 : a2.IsWhole) (a3 : Memref sig .tc .vmem S1x1x2048x128 .bf16) (h3 : a3.IsWhole)
    (x0 x1 : Vec Ideal S1x1x2048x128 .bf16) (n : Fin 8) (r : Fin 2048) :
    sl.r_9 (F := Ideal) c a2 h2 a3 h3 x0 x1 (ix2 n r) = gate x1 x0 r n := by
  simp only [sl.r_9, sl.r, sl.r_1, sl.r_2, sl.r_3, sl.r_4, sl.r_5, sl.r_6, sl.r_7, sl.r_8, k0_pay2, k0_pay4, k0_pay5, k0_pay6, k0_pay7, k0_pay8, k0_pay9, k0_pay10, k0_pay11, k0_pay13]
  pointwise
  rw [past_apply, neg_inf, b256]
  simp only [View.readAt_eq_ld, h3.read_unread, h2.read_unread]
  unfold gate kmean
  by_cases h : n.val < r.val / 256
  · simp only [h, decide_true, if_true, BitVec.ofBool_true, Scalar.select]
    refine Finset.sum_congr rfl fun d _ => ?_
    refine congrArg₂ (· * ·) ?_ (ld_all x0 _ r d)
    fin_cases n
    · exact congrArg (Ideal.div · _) (Finset.sum_congr rfl fun k _ => ld_rows x1 0 (by decide) _ k d)
    · exact congrArg (Ideal.div · _) (Finset.sum_congr rfl fun k _ => ld_rows x1 256 (by decide) _ k d)
    · exact congrArg (Ideal.div · _) (Finset.sum_congr rfl fun k _ => ld_rows x1 512 (by decide) _ k d)
    · exact congrArg (Ideal.div · _) (Finset.sum_congr rfl fun k _ => ld_rows x1 768 (by decide) _ k d)
    · exact congrArg (Ideal.div · _) (Finset.sum_congr rfl fun k _ => ld_rows x1 1024 (by decide) _ k d)
    · exact congrArg (Ideal.div · _) (Finset.sum_congr rfl fun k _ => ld_rows x1 1280 (by decide) _ k d)
    · exact congrArg (Ideal.div · _) (Finset.sum_congr rfl fun k _ => ld_rows x1 1536 (by decide) _ k d)
    · exact congrArg (Ideal.div · _) (Finset.sum_congr rfl fun k _ => ld_rows x1 1792 (by decide) _ k d)
  · simp [h, Scalar.select]

end Cert.Proof.Moba
end
-- ==== Proof.Moba.KOut.lean ====
module

public import proofs.«01_k».proof.Proof.Moba.KRead

@[expose] public section

set_option maxRecDepth 65536

noncomputable section

namespace Cert.Proof.Moba

open Idealize.ShloMosaic Idealize.SL.Sem Idealize.ShloMosaic.Pipeline Cert.KernelIdeal Cert.KernelIdeal.Gen Facts

/-- A query block's output: the values times the weights, over the sum of the weights. -/
theorem payloads : (∀ (l : FVec Ideal S1x256 .f32) (v : Vec Ideal S128x256 .bf16) (p : Vec Ideal S1x256x256 .bf16) (c : Fin 256) (d : Fin 128),
      k0_pay37 l v p (ix3 0 c d) = Ideal.div (∑ k : Fin 256, v (ix2 d k) * p (ix3 0 k c)) (l (ix2 0 c))) ∧
    (∀ (l : FVec Ideal S1x256 .f32) (v : Vec Ideal S128x512 .bf16) (p : Vec Ideal S1x512x256 .bf16) (c : Fin 256) (d : Fin 128),
      k0_pay50 l v p (ix3 0 c d) = Ideal.div (∑ k : Fin 512, v (ix2 d k) * p (ix3 0 k c)) (l (ix2 0 c))) ∧
    (∀ (l : FVec Ideal S1x256 .f32) (v : Vec Ideal S128x768 .bf16) (p : Vec Ideal S1x768x256 .bf16) (c : Fin 256) (d : Fin 128),
      k0_pay66 l v p (ix3 0 c d) = Ideal.div (∑ k : Fin 768, v (ix2 d k) * p (ix3 0 k c)) (l (ix2 0 c))) ∧
    (∀ (l : FVec Ideal S1x256 .f32) (v : Vec Ideal S128x1024 .bf16) (p : Vec Ideal S1x1024x256 .bf16) (c : Fin 256) (d : Fin 128),
      k0_pay91 l v p (ix3 0 c d) = Ideal.div (∑ k : Fin 1024, v (ix2 d k) * p (ix3 0 k c)) (l (ix2 0 c))) ∧
    (∀ (l : FVec Ideal S1x256 .f32) (v : Vec Ideal S128x1280 .bf16) (p : Vec Ideal S1x1280x256 .bf16) (c : Fin 256) (d : Fin 128),
      k0_pay116 l v p (ix3 0 c d) = Ideal.div (∑ k : Fin 1280, v (ix2 d k) * p (ix3 0 k c)) (l (ix2 0 c))) ∧
    (∀ (l : FVec Ideal S1x256 .f32) (v : Vec Ideal S128x1536 .bf16) (p : Vec Ideal S1x1536x256 .bf16) (c : Fin 256) (d : Fin 128),
      k0_pay149 l v p (ix3 0 c d) = Ideal.div (∑ k : Fin 1536, v (ix2 d k) * p (ix3 0 k c)) (l (ix2 0 c))) ∧
    (∀ (l : FVec Ideal S1x256 .f32) (v : Vec Ideal S128x1792 .bf16) (p : Vec Ideal S1x1792x256 .bf16) (c : Fin 256) (d : Fin 128),
      k0_pay188 l v p (ix3 0 c d) = Ideal.div (∑ k : Fin 1792, v (ix2 d k) * p (ix3 0 k c)) (l (ix2 0 c))) ∧
    (∀ (l : FVec Ideal S1x256 .f32) (v : Vec Ideal S128x2048 .bf16) (p : Vec Ideal S1x2048x256 .bf16) (c : Fin 256) (d : Fin 128),
      k0_pay1 l v p (ix3 0 c d) = Ideal.div (∑ k : Fin 2048, v (ix2 d k) * p (ix3 0 k c)) (l (ix2 0 c))) := by
  refine ⟨?_, ?_, ?_, ?_, ?_, ?_, ?_, ?_⟩ <;> intro l v p c d <;> pointwise [k0_pay37, k0_pay50, k0_pay66, k0_pay91, k0_pay116, k0_pay149, k0_pay188, k0_pay1]

theorem vt_apply (X : Vec Ideal S1x1x2048x128 .bf16) (d : Fin 128) (k : Fin 2048) : k0_pay3 X (ix2 d k) = X (ix4 0 0 k d) := by
  pointwise [k0_pay3]

open kernelRun0_A in
/-- The values as the kernel reads them back, transposed. -/
theorem vt_read (c : Dev nD) (a4 : Memref sig .tc .vmem S1x1x2048x128 .bf16) (h4 : a4.IsWhole) (x2 : Vec Ideal S1x1x2048x128 .bf16)
    (v : View sig .tc .vmem S128x2048 .bf16) (N : ℕ) (hN : N ≤ 2048)
    (inb : ∀ a, (![0, 0] : Fin 2 → ℕ) a + (![128, N] : Fin 2 → ℕ) a ≤ S128x2048.size a) :
    v.readCov (sl.HS0_1 (F := Ideal) c a4 h4 x2) (Rect.unit (s := S128x2048) ![0, 0] ![128, N] inb).toLoadRect
      = fun j : (⟨2, ![128, N]⟩ : Shape).Idx => x2 (ix4 0 0 (Fin.ofNat 2048 (j 1).val) (j 0)) := by
  unfold sl.HS0_1
  refine (View.readCov_fill v _ _ _ _ (by decide)).trans ?_
  funext j
  have h1 : (j 1).val < N := (j 1).isLt
  have e : (Rect.unit (s := S128x2048) ![0, 0] ![128, N] inb).emb j = ix2 (j 0) (Fin.ofNat 2048 (j 1).val) := by
    funext a
    apply Fin.ext
    match a with
    | 0 =>
      show 0 + 1 * (j 0).val = (j 0).val
      omega
    | 1 =>
      show 0 + 1 * (j 1).val = (j 1).val % 2048
      rw [Nat.mod_eq_of_lt (by omega)]
      omega
  refine (congrArg (k0_pay3 _) e).trans ((vt_apply _ _ _).trans ?_)
  rw [View.readAt_eq_ld, h4.read_unread]
  exact ld_all x2 _ _ _

/-- The closed form of what the kernel computes for one query of block `q`. -/
def outv (x0 x1 x2 : Vec Ideal S1x1x2048x128 .bf16) (B : FVec Ideal S8x2048 .f32) (q : ℕ) (c : Fin 256) (d : Fin 128) : EReal :=
  Ideal.div (∑ k : Fin (256 * (q + 1)), x2 (ix4 0 0 (Fin.ofNat 2048 k.val) d) * pst x1 x0 B q (k.val / 256) (ix3 0 (Fin.ofNat 256 k.val) c))
    (ltot x1 x0 B q (ix2 0 c))

/-- A head's output, row by row. -/
def outG (x0 x1 x2 : Vec Ideal S1x1x2048x128 .bf16) (B : FVec Ideal S8x2048 .f32) : S1x2048x128.Idx → Elt Ideal .bf16 :=
  fun y => outv x0 x1 x2 B ((y 1).val / 256) (Fin.ofNat 256 (y 1).val) (y 2)

theorem out_piece (x0 x1 x2 : Vec Ideal S1x1x2048x128 .bf16) (B : FVec Ideal S8x2048 .f32) (q : ℕ) (w : S1x256x128.Idx → Elt Ideal .bf16)
    (inb : ∀ a, (![0, 256 * q, 0] : Fin 3 → ℕ) a + S1x256x128.size a ≤ S1x2048x128.size a)
    (hw : ∀ c d, w (ix3 0 c d) = outv x0 x1 x2 B q c d)
    (x : (Rect.unit (s := S1x2048x128) ![0, 256 * q, 0] S1x256x128.size inb).shape.Idx) :
    w x = outG x0 x1 x2 B ((Rect.unit (s := S1x2048x128) ![0, 256 * q, 0] S1x256x128.size inb).emb x) := by
  have hlt : (x 1).val < 256 := (x 1).isLt
  have h0 : (x 0).val < 1 := (x 0).isLt
  have ex : x = ix3 0 (x 1) (x 2) := by
    funext a
    apply Fin.ext
    match a with
    | 0 =>
      show (x 0).val = 0
      omega
    | 1 => rfl
    | 2 => rfl
  have e1 : (((Rect.unit (s := S1x2048x128) ![0, 256 * q, 0] S1x256x128.size inb).emb x) 1).val = 256 * q + (x 1).val := by
    show 256 * q + 1 * (x 1).val = _
    rw [Nat.one_mul]
  have e2 : ((Rect.unit (s := S1x2048x128) ![0, 256 * q, 0] S1x256x128.size inb).emb x) 2 = x 2 := by
    apply Fin.ext
    show 0 + 1 * (x 2).val = _
    omega
  have e3 : (Fin.ofNat 256 (256 * q + (x 1).val) : Fin 256) = x 1 := by
    apply Fin.ext
    show (256 * q + (x 1).val) % 256 = (x 1).val
    omega
  unfold outG
  rw [e1, e2, e3, show (256 * q + (x 1).val) / 256 = q by omega]
  exact (congrArg w ex).trans (hw (x 1) (x 2))

open kernelRun0_A in
set_option maxHeartbeats 4000000 in
theorem out_eq (c : Dev nD) (i : grid0.Coords) (a2 : Memref sig .tc .vmem S1x1x2048x128 .bf16) (h2 : a2.IsWhole) (a3 : Memref sig .tc .vmem S1x1x2048x128 .bf16) (h3 : a3.IsWhole)
    (a4 : Memref sig .tc .vmem S1x1x2048x128 .bf16) (h4 : a4.IsWhole) (a5 : Memref sig .tc .vmem S1x2048x128 .bf16) (h5 : a5.IsWhole)
    (a6 : Memref sig .tc .vmem S128x2048 .bf16) (h6 : a6.IsWhole) (a7 : Memref sig .tc .vmem S2x2048x256 .f32) (h7 : a7.IsWhole)
    (a8 : Memref sig .tc .vmem S2x2048x256 .bf16) (h8 : a8.IsWhole) (x0 x1 x2 : Vec Ideal S1x1x2048x128 .bf16) :
    out0_A_3 (F := Ideal) c i a2 h2 a3 h3 a4 h4 a5 h5 a6 h6 a7 h7 a8 h8 x0 x1 x2
      = outG x0 x1 x2 (sl.r_18 (F := Ideal) c a2 h2 a3 h3 x0 x1) := by
  obtain ⟨hp0, hp1, hp2, hp3, hp4, hp5, hp6, hp7⟩ := payloads
  obtain ⟨hs0, hs1, hs2, hs3, hs4, hs5, hs6, hs7⟩ := stack_loads (F := Ideal) c a2 h2 a3 h3 a7 a8 x0 x1 _ rfl
  obtain ⟨-, -, -, -, -, -, -, hl0, hl1, hl2, hl3, hl4, hl5, hl6, hl7⟩ := sums (F := Ideal) c a2 h2 a3 h3 a7 x0 x1 _ rfl
  unfold out0_A_3
  rw [View.read_writes_eq_canon _ _ _ (cover0_A_3 c i a2 h2 a3 h3 a4 h4 a5 h5 a6 h6 a7 h7 a8 h8 x0 x1 x2)]
  funext y
  refine View.canon_apply_of_pieces (outG x0 x1 x2 (sl.r_18 (F := Ideal) c a2 h2 a3 h3 x0 x1)) _ (View.PiecesOf.mem ?_) y
    (cover0_A_3 c i a2 h2 a3 h3 a4 h4 a5 h5 a6 h6 a7 h7 a8 h8 x0 x1 x2 y)
  refine ⟨out_piece x0 x1 x2 _ 7 _ (by decide) ?_, out_piece x0 x1 x2 _ 6 _ (by decide) ?_, out_piece x0 x1 x2 _ 5 _ (by decide) ?_, out_piece x0 x1 x2 _ 4 _ (by decide) ?_,
    out_piece x0 x1 x2 _ 3 _ (by decide) ?_, out_piece x0 x1 x2 _ 2 _ (by decide) ?_, out_piece x0 x1 x2 _ 1 _ (by decide) ?_, out_piece x0 x1 x2 _ 0 _ (by decide) ?_, trivial⟩ <;>
    intro b d
  · refine (hp7 _ _ _ b d).trans ?_
    rw [hl7, hs7]
    unfold outv
    refine congrArg (Ideal.div · _) (Finset.sum_congr rfl fun k _ => congrArg (· * _) ?_)
    exact congrFun (vt_read c a4 h4 x2 a6.view 2048 (by decide) _) (ix2 d k)
  · refine (hp6 _ _ _ b d).trans ?_
    rw [hl6, hs6]
    unfold outv
    refine congrArg (Ideal.div · _) (Finset.sum_congr rfl fun k _ => congrArg (· * _) ?_)
    exact congrFun (vt_read c a4 h4 x2 a6.view 1792 (by decide) _) (ix2 d k)
  · refine (hp5 _ _ _ b d).trans ?_
    rw [hl5, hs5]
    unfold outv
    refine congrArg (Ideal.div · _) (Finset.sum_congr rfl fun k _ => congrArg (· * _) ?_)
    exact congrFun (vt_read c a4 h4 x2 a6.view 1536 (by decide) _) (ix2 d k)
  · refine (hp4 _ _ _ b d).trans ?_
    rw [hl4, hs4]
    unfold outv
    refine congrArg (Ideal.div · _) (Finset.sum_congr rfl fun k _ => congrArg (· * _) ?_)
    exact congrFun (vt_read c a4 h4 x2 a6.view 1280 (by decide) _) (ix2 d k)
  · refine (hp3 _ _ _ b d).trans ?_
    rw [hl3, hs3]
    unfold outv
    refine congrArg (Ideal.div · _) (Finset.sum_congr rfl fun k _ => congrArg (· * _) ?_)
    exact congrFun (vt_read c a4 h4 x2 a6.view 1024 (by decide) _) (ix2 d k)
  · refine (hp2 _ _ _ b d).trans ?_
    rw [hl2, hs2]
    unfold outv
    refine congrArg (Ideal.div · _) (Finset.sum_congr rfl fun k _ => congrArg (· * _) ?_)
    exact congrFun (vt_read c a4 h4 x2 a6.view 768 (by decide) _) (ix2 d k)
  · refine (hp1 _ _ _ b d).trans ?_
    rw [hl1, hs1]
    unfold outv
    refine congrArg (Ideal.div · _) (Finset.sum_congr rfl fun k _ => congrArg (· * _) ?_)
    exact congrFun (vt_read c a4 h4 x2 a6.view 512 (by decide) _) (ix2 d k)
  · refine (hp0 _ _ _ b d).trans ?_
    rw [hl0, hs0]
    unfold outv
    refine congrArg (Ideal.div · _) (Finset.sum_congr rfl fun k _ => congrArg (· * _) ?_)
    exact congrFun (vt_read c a4 h4 x2 a6.view 256 (by decide) _) (ix2 d k)

end Cert.Proof.Moba
end
-- ==== Proof.Moba.KClosed.lean ====
module

public import proofs.«01_k».proof.Proof.Moba.KOut

@[expose] public section

set_option maxRecDepth 65536

noncomputable section

namespace Cert.Proof.Moba

open Idealize.ShloMosaic Idealize.SL.Sem Idealize.ShloMosaic.Pipeline Cert.KernelIdeal Cert.KernelIdeal.Gen Facts

section Row

variable (x0 x1 x2 : Vec Ideal S1x1x2048x128 .bf16) (B : FVec Ideal S8x2048 .f32) (S T : ℝ) (kr : Fin 8 → Fin 256 → Fin 128 → ℝ) (qr : Fin 128 → ℝ)
  (q : ℕ) (c : Fin 256)

/-- What is known of one query's row: the keys, the query times `T`, and which earlier blocks are chosen. -/
structure RowOf : Prop where
  hq : q < 8
  hT : T * Real.log 2 = S
  hk : ∀ (n : Fin 8) (k : Fin 256) (d : Fin 128), x1 (ix4 0 0 (Fin.ofNat 2048 (256 * n.val + k.val)) d) = ((kr n k d : ℝ) : EReal)
  hx : ∀ d : Fin 128, x0 (ix4 0 0 (Fin.ofNat 2048 (256 * q + c.val)) d) = ((qr d * T : ℝ) : EReal)
  hB : ∀ n : Fin 8, B (ix2 n (Fin.ofNat 2048 (256 * q + c.val))) = open Classical in if n.val < q ∧ rank (gateE kr qr q) n < 3 then 0 else ⊥

variable {x0 x1 B S T kr qr q c} (H : RowOf x0 x1 B S T kr qr q c)
include H

theorem score_coe (n : Fin 8) (k : Fin 256) : score x1 x0 n.val q k c = ((T * dotR kr qr n k : ℝ) : EReal) := by
  unfold score dotR
  simp only [H.hk, H.hx, ← EReal.coe_mul]
  rw [← coe_sum, Finset.mul_sum]
  exact congrArg _ (Finset.sum_congr rfl fun d _ => by ring)

theorem bs_cases (n : Fin 8) : bs B n.val (256 * q) (ix2 0 c) = open Classical in if n.val < q ∧ rank (gateE kr qr q) n < 3 then 0 else ⊥ := by
  rw [← H.hB n]
  exact congrArg B (congrArg (fun a => ix2 a (Fin.ofNat 2048 (256 * q + c.val))) (Fin.ext (Nat.mod_eq_of_lt n.isLt)))

theorem cmax_sr_ne_top (n : Fin 8) : cmax (sr x1 x0 n.val q) (ix2 0 c) ≠ ⊤ := by
  rw [cmax_apply, ← lt_top_iff_ne_top, Finset.fold_max_lt]
  refine ⟨bot_lt_top, fun k _ => ?_⟩
  rw [sr_apply, score_coe H]
  exact EReal.coe_lt_top _

theorem mx_ne_top (n : Fin 8) : mx x1 x0 B q n.val (ix2 0 c) ≠ ⊤ := by
  have h := cmax_sr_ne_top H n
  have hb := bs_cases H n
  pointwise [mx]
  rw [hb]
  split
  · rw [add_zero]; exact h
  · rw [EReal.add_bot]; exact bot_ne_top

theorem mrun_ne_top (n : ℕ) (hn : n < 8) : mrun x1 x0 B q n (ix2 0 c) ≠ ⊤ := by
  induction n with
  | zero => exact mx_ne_top H ⟨0, hn⟩
  | succ n ih =>
    have h1 := ih (by omega)
    have h2 := mx_ne_top H ⟨n + 1, hn⟩
    unfold mrun
    pointwise
    exact (max_lt (lt_top_iff_ne_top.mpr h1) (lt_top_iff_ne_top.mpr h2)).ne

theorem cmax_dg : cmax (dg x1 x0 q) (ix2 0 c) ≠ ⊤ ∧ cmax (dg x1 x0 q) (ix2 0 c) ≠ ⊥ := by
  have hs := fun k => score_coe H ⟨q, H.hq⟩ k
  constructor
  · rw [cmax_apply, ← lt_top_iff_ne_top, Finset.fold_max_lt]
    refine ⟨bot_lt_top, fun k _ => ?_⟩
    rw [dg_apply]
    split
    · rw [show score x1 x0 q q k c = _ from hs k]
      exact EReal.coe_lt_top _
    · exact bot_lt_top
  · rw [cmax_apply, ← bot_lt_iff_ne_bot, Finset.lt_fold_max]
    refine Or.inr ⟨c, Finset.mem_univ _, ?_⟩
    rw [dg_apply, if_pos (le_refl _), show score x1 x0 q q c c = _ from hs c]
    exact EReal.bot_lt_coe _

theorem mtot_real : ∃ M : ℝ, mtot x1 x0 B q (ix2 0 c) = (M : EReal) := by
  have hd := cmax_dg H
  have h : mtot x1 x0 B q (ix2 0 c) ≠ ⊤ ∧ mtot x1 x0 B q (ix2 0 c) ≠ ⊥ := by
    have hq := H.hq
    have hr := fun n hn => mrun_ne_top H n hn
    cases q with
    | zero => exact hd
    | succ q =>
      have h1 := hr q (by omega)
      unfold mtot
      pointwise
      exact ⟨(max_lt (lt_top_iff_ne_top.mpr h1) (lt_top_iff_ne_top.mpr hd.1)).ne,
        (lt_of_lt_of_le (bot_lt_iff_ne_bot.mpr hd.2) (le_max_right _ _)).ne'⟩
  exact ⟨_, (EReal.coe_toReal h.1 h.2).symm⟩

/-- A power of two of a scaled score, split into the exponential and what the whole row shares. -/
theorem two_pow (hT : T * Real.log 2 = S) (y M : ℝ) : Real.rpow 2 (T * y - M) = Real.rpow 2 (-M) * Real.exp (S * y) := by
  rw [show T * y - M = -M + T * y by ring]
  refine (Real.rpow_add (by norm_num) _ _).trans ?_
  congr 1
  rw [Real.rpow_def_of_pos (by norm_num), ← hT]
  congr 1
  ring

theorem pO_apply (M : ℝ) (hM : mtot x1 x0 B q (ix2 0 c) = (M : EReal)) (n : Fin 8) (hn : n.val < q) (k : Fin 256) :
    pO x1 x0 B q n.val (ix2 k c) = ((Real.rpow 2 (-M) * wt S kr qr q c n k : ℝ) : EReal) := by
  have hb := bs_cases H n
  have hs := (sr_apply x1 x0 n.val q k c).trans (score_coe H n k)
  pointwise [pO]
  rw [hb, hs, hM]
  unfold wt allowed
  by_cases h : rank (gateE kr qr q) n < 3
  · rw [if_pos ⟨hn, h⟩, if_pos (Or.inl ⟨hn, h⟩), zero_sub, ← EReal.coe_neg, ← EReal.coe_add, ← two_pow H H.hT]
    exact Ideal.exp2_coe _
  · rw [if_neg (fun h' => h h'.2), if_neg (by rintro (h' | h'); exact h h'.2; omega), mul_zero, EReal.bot_sub, EReal.add_bot]
    exact Ideal.exp2_bot

theorem pD_apply (M : ℝ) (hM : mtot x1 x0 B q (ix2 0 c) = (M : EReal)) (k : Fin 256) :
    pD x1 x0 B q (ix2 k c) = ((Real.rpow 2 (-M) * wt S kr qr q c ⟨q, H.hq⟩ k : ℝ) : EReal) := by
  have hs := score_coe H ⟨q, H.hq⟩ k
  have hd := dg_apply x1 x0 q k c
  pointwise [pD]
  rw [hd, hM]
  unfold wt allowed
  by_cases h : k.val ≤ c.val
  · rw [if_pos h, if_pos (Or.inr ⟨rfl, h⟩), show score x1 x0 q q k c = _ from hs, ← EReal.coe_sub, ← two_pow H H.hT]
    exact Ideal.exp2_coe _
  · rw [if_neg h, if_neg (by rintro (h' | h'); exact absurd h'.1 (lt_irrefl _); exact h h'.2), mul_zero, EReal.bot_sub]
    exact Ideal.exp2_bot

theorem wt_after (n : Fin 8) (hn : ¬ n.val < q + 1) (k : Fin 256) : wt S kr qr q c n k = 0 := by
  unfold wt allowed
  rw [if_neg]
  rintro (h | h) <;> omega

theorem lrun_apply (M : ℝ) (hM : mtot x1 x0 B q (ix2 0 c) = (M : EReal)) (n : ℕ) (hn : n ≤ q) :
    lrun x1 x0 B q n (ix2 0 c) = ((Real.rpow 2 (-M) * ∑ a : Fin 8, if a.val < n then ∑ k : Fin 256, wt S kr qr q c a k else 0 : ℝ) : EReal) := by
  induction n with
  | zero =>
    simp only [Nat.not_lt_zero, if_false, Finset.sum_const_zero, mul_zero]
    pointwise [lrun]
    simp
  | succ n ih =>
    have hq := H.hq
    have hp := fun k => pO_apply H M hM ⟨n, by omega⟩ hn k
    have h := ih (by omega)
    pointwise [lrun]
    rw [h, csum_apply]
    simp only [hp]
    rw [← coe_sum, ← EReal.coe_add, ← Finset.mul_sum, ← mul_add]
    congr 2
    have e : ∀ a : Fin 8, (if a.val < n + 1 then ∑ k : Fin 256, wt S kr qr q c a k else 0)
        = (if a.val < n then ∑ k : Fin 256, wt S kr qr q c a k else 0) + (if a = ⟨n, by omega⟩ then ∑ k : Fin 256, wt S kr qr q c a k else 0) := by
      intro a
      by_cases h1 : a.val < n
      · rw [if_pos (by omega), if_pos h1, if_neg (fun h => by rw [h] at h1; exact lt_irrefl _ h1), add_zero]
      · by_cases h2 : a.val = n
        · rw [if_pos (by omega), if_neg h1, if_pos (Fin.ext h2), zero_add]
        · rw [if_neg (by omega), if_neg h1, if_neg (fun h => h2 (congrArg Fin.val h)), add_zero]
    rw [Finset.sum_congr rfl fun a _ => e a, Finset.sum_add_distrib, Finset.sum_ite_eq' Finset.univ, if_pos (Finset.mem_univ _)]

theorem ltot_apply (M : ℝ) (hM : mtot x1 x0 B q (ix2 0 c) = (M : EReal)) :
    ltot x1 x0 B q (ix2 0 c) = ((Real.rpow 2 (-M) * wsum S kr qr q c : ℝ) : EReal) := by
  have hl := lrun_apply H M hM q le_rfl
  have hp := fun k => pD_apply H M hM k
  pointwise [ltot]
  rw [hl, csum_apply]
  simp only [hp]
  rw [← coe_sum, ← EReal.coe_add, ← Finset.mul_sum, ← mul_add]
  congr 2
  unfold wsum
  have e : ∀ a : Fin 8, ∑ k : Fin 256, wt S kr qr q c a k
      = (if a.val < q then ∑ k : Fin 256, wt S kr qr q c a k else 0) + (if a = ⟨q, H.hq⟩ then ∑ k : Fin 256, wt S kr qr q c a k else 0) := by
    intro a
    by_cases h1 : a.val < q
    · rw [if_pos h1, if_neg (fun h => by rw [h] at h1; exact lt_irrefl _ h1), add_zero]
    · by_cases h2 : a.val = q
      · rw [if_neg h1, if_pos (Fin.ext h2), zero_add]
      · rw [if_neg h1, if_neg (fun h => h2 (congrArg Fin.val h)), add_zero]
        exact Finset.sum_eq_zero fun k _ => wt_after H a (by omega) k
  rw [Finset.sum_congr rfl fun a _ => e a, Finset.sum_add_distrib, Finset.sum_ite_eq' Finset.univ, if_pos (Finset.mem_univ _)]

/-- A query's row of the output is block attention. -/
theorem outv_eq (v : Fin 8 → Fin 256 → EReal) (d : Fin 128)
    (hv : ∀ (n : Fin 8) (k : Fin 256), x2 (ix4 0 0 (Fin.ofNat 2048 (256 * n.val + k.val)) d) = v n k) :
    outv x0 x1 x2 B q c d = attn S kr qr v q c := by
  obtain ⟨M, hM⟩ := mtot_real H
  unfold outv
  rw [ltot_apply H M hM, ← div_weighted S kr qr v q H.hq c _ (Real.rpow_pos_of_pos (by norm_num : (0 : ℝ) < 2) (-M))]
  refine congrArg (Ideal.div · _) ?_
  have e : ∀ k : Fin (256 * (q + 1)), x2 (ix4 0 0 (Fin.ofNat 2048 k.val) d) * pst x1 x0 B q (k.val / 256) (ix3 0 (Fin.ofNat 256 k.val) c)
      = (fun n k => x2 (ix4 0 0 (Fin.ofNat 2048 (256 * n + k)) d) * pst x1 x0 B q n (ix3 0 (Fin.ofNat 256 k) c)) (k.val / 256) (k.val % 256) := by
    intro k
    show _ = x2 (ix4 0 0 (Fin.ofNat 2048 (256 * (k.val / 256) + k.val % 256)) d) * pst x1 x0 B q (k.val / 256) (ix3 0 (Fin.ofNat 256 (k.val % 256)) c)
    rw [Nat.div_add_mod]
    refine congrArg (fun a => _ * pst x1 x0 B q (k.val / 256) (ix3 0 a c)) ?_
    exact Fin.ext (Nat.mod_mod _ _).symm
  refine ((Finset.sum_congr rfl fun k _ => e k).trans (sum_blocks (fun n k => x2 (ix4 0 0 (Fin.ofNat 2048 (256 * n + k)) d)
    * pst x1 x0 B q n (ix3 0 (Fin.ofNat 256 k) c)) (q + 1) H.hq)).trans ?_
  refine Finset.sum_congr rfl fun n _ => Finset.sum_congr rfl fun k _ => ?_
  by_cases hn : n.val < q + 1
  · rw [if_pos hn, hv, show (Fin.ofNat 256 k.val) = k from Fin.ext (Nat.mod_eq_of_lt k.isLt)]
    refine congrArg (v n k * ·) ?_
    have ho := fun hn => pO_apply H M hM n hn k
    have hd := pD_apply H M hM k
    pointwise [pst]
    by_cases h : n.val < q
    · rw [if_pos h]; exact ho h
    · rw [if_neg h, show n = ⟨q, H.hq⟩ from Fin.ext (by show n.val = q; omega)]; exact hd
  · rw [if_neg hn, wt_after H n hn k]
    simp

end Row

end Cert.Proof.Moba
end
-- ==== Proof.Moba.KGate.lean ====
module

public import proofs.«01_k».proof.Proof.Moba.KClosed

@[expose] public section

set_option maxRecDepth 65536

noncomputable section

namespace Cert.Proof.Moba

open Idealize.ShloMosaic Idealize.SL.Sem Idealize.ShloMosaic.Pipeline Cert.KernelIdeal Cert.KernelIdeal.Gen Facts

/-- A positive factor on the query does not change the order of the blocks. -/
theorem gate_order (T : ℝ) (hT : 0 < T) (kr : Fin 8 → Fin 256 → Fin 128 → ℝ) (qr : Fin 128 → ℝ) (q : ℕ) (a b : Fin 8) :
    ((if a.val < q then ((T * meanR kr qr a : ℝ) : EReal) else ⊥) < (if b.val < q then ((T * meanR kr qr b : ℝ) : EReal) else ⊥))
      ↔ gateE kr qr q a < gateE kr qr q b := by
  unfold gateE
  by_cases ha : a.val < q <;> by_cases hb : b.val < q
  · rw [if_pos ha, if_pos hb, if_pos ha, if_pos hb, EReal.coe_lt_coe_iff, EReal.coe_lt_coe_iff]
    exact mul_lt_mul_iff_right₀ hT
  · rw [if_pos ha, if_neg hb, if_pos ha, if_neg hb]
    exact iff_of_false not_lt_bot not_lt_bot
  · rw [if_neg ha, if_pos hb, if_neg ha, if_pos hb]
    exact iff_of_true (EReal.bot_lt_coe _) (EReal.bot_lt_coe _)
  · rw [if_neg ha, if_neg hb, if_neg ha, if_neg hb]

open kernelRun0_A in
/-- The added row of a block: zero where the block is chosen, else minus infinity. -/
theorem bias_coe (c : Dev nD) (a2 : Memref sig .tc .vmem S1x1x2048x128 .bf16) (h2 : a2.IsWhole) (a3 : Memref sig .tc .vmem S1x1x2048x128 .bf16) (h3 : a3.IsWhole)
    (x0 x1 : Vec Ideal S1x1x2048x128 .bf16) (T : ℝ) (hT : 0 < T) (kr : Fin 8 → Fin 256 → Fin 128 → ℝ) (qr : Fin 128 → ℝ) (r : Fin 2048)
    (hk : ∀ (n : Fin 8) (k : Fin 256) (d : Fin 128), x1 (ix4 0 0 (Fin.ofNat 2048 (256 * n.val + k.val)) d) = ((kr n k d : ℝ) : EReal))
    (hx : ∀ d : Fin 128, x0 (ix4 0 0 r d) = ((qr d * T : ℝ) : EReal)) (n : Fin 8) :
    sl.r_18 (F := Ideal) c a2 h2 a3 h3 x0 x1 (ix2 n r)
      = open Classical in if n.val < r.val / 256 ∧ rank (gateE kr qr (r.val / 256)) n < 3 then 0 else ⊥ := by
  have hg : ∀ a : Fin 8, sl.r_9 (F := Ideal) c a2 h2 a3 h3 x0 x1 (ix2 a r) = if a.val < r.val / 256 then ((T * meanR kr qr a : ℝ) : EReal) else ⊥ := by
    intro a
    rw [gate_apply]
    unfold gate kmean meanR
    simp only [hk, hx]
    refine if_congr Iff.rfl ?_ rfl
    rw [Finset.mul_sum, coe_sum]
    refine Finset.sum_congr rfl fun d _ => ?_
    rw [← coe_sum, Ideal.div_coe (by norm_num), ← EReal.coe_mul, ← EReal.coe_mul]
    congr 1
    ring
  rw [bias_apply c a2 h2 a3 h3 x0 x1 _ rfl, past_apply]
  rw [rank_scale _ (gateE kr qr (r.val / 256)) (fun a b => by rw [hg, hg]; exact gate_order T hT kr qr _ a b)]
  by_cases h1 : n.val < r.val / 256 <;> by_cases h2 : rank (gateE kr qr (r.val / 256)) n < 3 <;>
    simp [h1, h2, Scalar.select, IntOp.andi]

end Cert.Proof.Moba
end
-- ==== Proof.Moba.Host.lean ====
module

public import proofs.«01_k».proof.Proof.Moba.KGate
public import proofs.«01_k».proof.Proof.Gen.KernelIdeal.Value
public import proofs.«01_k».proof.Pre_finite
public import Idealize.ShloMosaic.Lib.Pipeline.ValueKit.Geometry

@[expose] public section

set_option maxRecDepth 65536

noncomputable section

namespace Cert.Proof.Moba

open Idealize.ShloMosaic Idealize.SL.Sem Idealize.ShloMosaic.Pipeline Idealize.ShloMosaic.TcCoe Cert.KernelIdeal Cert.KernelIdeal.Gen Facts

/-- The scale of the scores. -/
def scaleS : ℝ := 11863283 / 134217728

/-- The factor on the queries: the scale over the natural logarithm of two. -/
def scaleT : ℝ := scaleS / Real.log 2

theorem scale_bits : Ideal.ofBits .f32 0x3DB504F3#32 = ((scaleS : ℝ) : EReal) := by
  unfold scaleS
  simp [Ideal.ofBits, Ideal.ieee, -EReal.coe_mul]
  norm_num

theorem two_bits : Ideal.ofBits .f32 0x40000000#32 = ((2 : ℝ) : EReal) := by
  simp [Ideal.ofBits, Ideal.ieee, -EReal.coe_mul]
  try norm_num

theorem log2_pos : 0 < Real.log 2 := Real.log_pos (by norm_num)

theorem scaleT_pos : 0 < scaleT := div_pos (by unfold scaleS; norm_num) log2_pos

theorem scaleT_log : scaleT * Real.log 2 = scaleS := div_mul_cancel₀ _ log2_pos.ne'

theorem factor_eq : Ideal.div (Ideal.ofBits .f32 0x3DB504F3#32) (Ideal.log (Ideal.ofBits .f32 0x40000000#32)) = ((scaleT : ℝ) : EReal) := by
  rw [scale_bits, two_bits, Ideal.log_coe, if_neg (by norm_num), Ideal.div_coe log2_pos.ne', ← EReal.coe_mul]
  exact congrArg _ (mul_one_div _ _)

variable (m : (ℓ : Loc nD τ sig) → Buf (Elt Ideal) ℓ)

/-- The queries, the keys and the values, as given. -/
def qArr (c : Dev nD) : S16x8x2048x128.Idx → EReal := m ((c : Thread nD τ).loc main_arg0)

def kArr (c : Dev nD) : S16x8x2048x128.Idx → EReal := m ((c : Thread nD τ).loc main_arg1)

def vArr (c : Dev nD) : S16x8x2048x128.Idx → EReal := m ((c : Thread nD τ).loc main_arg2)

/-- The queries as the kernel finds them. -/
theorem V_q (c : Dev nD) (b : Fin 16) (h : Fin 8) (r : Fin 2048) (d : Fin 128) :
    V m c main_v4 (ix4 b h r d) = qArr m c (ix4 b h r d) * ((scaleT : ℝ) : EReal) := by
  rw [← factor_eq]
  have e : V m c main_v4 = truncf .bf16 (mulf (m ((c : Thread nD τ).loc main_arg0)) (broadcastInDim S16x8x2048x128 ![] bcast_S_S16x8x2048x128
      (Host.divf (constant (F := Ideal) S_ .f32 0x3DB504F3#32) (Host.log (constant S_ .f32 0x40000000#32))))) bitsLt_bf16_f32 := by
    simp only [V, hostOps0]
    after_results_simp
  rw [e]
  rfl

theorem V_k (c : Dev nD) : V m c main_v5 = m ((c : Thread nD τ).loc main_arg1) := by
  simp only [V, hostOps0]
  after_results_simp
  rfl

theorem V_v (c : Dev nD) : V m c main_v6 = m ((c : Thread nD τ).loc main_arg2) := by
  simp only [V, hostOps0]
  after_results_simp
  rfl

/-! ## The windows' blocks -/

/-- The grid point of a batch entry and a head. -/
def pt (b : Fin 16) (h : Fin 8) : Fin cfg0.N := ⟨b.val * 8 + h.val, by have := b.isLt; have := h.isLt; show _ < 128; omega⟩

theorem idx_facts : ∀ t : Fin cfg0.N, win0_0.index t = ![t.val / 8, t.val % 8, 0, 0] ∧ win0_1.index t = ![t.val / 8, t.val % 8, 0, 0]
    ∧ win0_2.index t = ![t.val / 8, t.val % 8, 0, 0] ∧ win0_3.index t = ![t.val / 8, 0, t.val % 8] ∧ (cfg0.win 3).flush t = true :=
  (by decide +kernel : ∀ t : Fin grid0.N, _)

theorem emb0 (b : Fin 16) (h : Fin 8) (r : Fin 2048) (d : Fin 128) : ((cfg0.win 0).blk (pt b h)).view.emb (ix4 0 0 r d) = ix4 b h r d := by
  have e := (idx_facts (pt b h)).1
  have e' : (pt b h).val = b.val * 8 + h.val := rfl
  have := h.isLt
  funext a; apply Fin.ext
  match a with
  | ⟨0, _⟩ => show win0_0.index (pt b h) (0 : Fin 4) * 1 + 1 * 0 = b.val; rw [e]; show (pt b h).val / 8 * 1 + 1 * 0 = b.val; omega
  | ⟨1, _⟩ => show win0_0.index (pt b h) (1 : Fin 4) * 1 + 1 * 0 = h.val; rw [e]; show (pt b h).val % 8 * 1 + 1 * 0 = h.val; omega
  | ⟨2, _⟩ => show win0_0.index (pt b h) (2 : Fin 4) * 2048 + 1 * r.val = r.val; rw [e]; show 0 * 2048 + 1 * r.val = r.val; omega
  | ⟨3, _⟩ => show win0_0.index (pt b h) (3 : Fin 4) * 128 + 1 * d.val = d.val; rw [e]; show 0 * 128 + 1 * d.val = d.val; omega

theorem emb3 (b : Fin 16) (h : Fin 8) (r : Fin 2048) (d : Fin 128) :
    ((cfg0.win 3).blk (pt b h)).view.emb (ix3 0 r d) = ix3 b r ⟨h.val * 128 + d.val, by have := h.isLt; omega⟩ := by
  have e := (idx_facts (pt b h)).2.2.2.1
  have e' : (pt b h).val = b.val * 8 + h.val := rfl
  have := h.isLt
  funext a; apply Fin.ext
  match a with
  | ⟨0, _⟩ => show win0_3.index (pt b h) (0 : Fin 3) * 1 + 1 * 0 = b.val; rw [e]; show (pt b h).val / 8 * 1 + 1 * 0 = b.val; omega
  | ⟨1, _⟩ => show win0_3.index (pt b h) (1 : Fin 3) * 2048 + 1 * r.val = r.val; rw [e]; show 0 * 2048 + 1 * r.val = r.val; omega
  | ⟨2, _⟩ => show win0_3.index (pt b h) (2 : Fin 3) * 128 + 1 * d.val = h.val * 128 + d.val; rw [e]; show (pt b h).val % 8 * 128 + 1 * d.val = h.val * 128 + d.val; omega

theorem blk_q (c : Dev nD) (b : Fin 16) (h : Fin 8) (r : Fin 2048) (d : Fin 128) :
    iblk m c 0 (pt b h) (ix4 0 0 r d) = qArr m c (ix4 b h r d) * ((scaleT : ℝ) : EReal) := by
  show V m c main_v4 (((cfg0.win 0).blk (pt b h)).view.emb (ix4 0 0 r d)) = _
  rw [emb0, V_q]

theorem blk_k (c : Dev nD) (b : Fin 16) (h : Fin 8) (r : Fin 2048) (d : Fin 128) :
    iblk m c 1 (pt b h) (ix4 0 0 r d) = kArr m c (ix4 b h r d) := by
  show V m c main_v5 (((cfg0.win 0).blk (pt b h)).view.emb (ix4 0 0 r d)) = _
  rw [emb0, V_k]
  rfl

theorem blk_v (c : Dev nD) (b : Fin 16) (h : Fin 8) (r : Fin 2048) (d : Fin 128) :
    iblk m c 2 (pt b h) (ix4 0 0 r d) = vArr m c (ix4 b h r d) := by
  show V m c main_v6 (((cfg0.win 0).blk (pt b h)).view.emb (ix4 0 0 r d)) = _
  rw [emb0, V_v]
  rfl

open kernelRun0_A in
/-- An element of the result array after the run. -/
theorem final_apply (c : Dev nD) (b : Fin 16) (h : Fin 8) (r : Fin 2048) (d : Fin 128) :
    (dats m 0 c).arrAt 3 cfg0.N (ix3 b r ⟨h.val * 128 + d.val, by have := h.isLt; omega⟩)
      = outv (iblk m c 0 (pt b h)) (iblk m c 1 (pt b h)) (iblk m c 2 (pt b h))
          (sl.r_18 (F := Ideal) c (ms0_0 (pt b h)) (hs0_0 (pt b h)) (ms0_1 (pt b h)) (hs0_1 (pt b h)) (iblk m c 0 (pt b h)) (iblk m c 1 (pt b h)))
          (r.val / 256) (Fin.ofNat 256 r.val) d := by
  have hb := congrFun (Cert.KernelIdeal.Value.blocks3 m c (pt b h) (idx_facts (pt b h)).2.2.2.2) (ix3 0 r d)
  rw [Cert.KernelIdeal.Value.flushed3_A, out_eq] at hb
  have hb' : (dats m 0 c).arrAt 3 cfg0.N (((cfg0.win 3).blk (pt b h)).view.emb (ix3 0 r d)) = _ := hb
  rw [emb3] at hb'
  exact hb'

end Cert.Proof.Moba
end
-- ==== Proof.Moba.Sort.lean ====
module

public import proofs.«01_k».proof.Proof.Moba.Spec
public import Idealize.ShloMosaic.Lib.SortFacts

@[expose] public section

noncomputable section

namespace Cert.Proof.Moba

open Idealize.ShloMosaic

/-- A stable sort of an increasing list asks its relation only about a later element and an earlier one. -/
theorem stableSort_congr {n : ℕ} (R B : Fin n → Fin n → Bool) (h : ∀ a b, a < b → R b a = B b a) (l : List (Fin n)) (hl : l.Pairwise (· < ·)) :
    stableSort R l = stableSort B l := by
  induction l with
  | nil => rfl
  | cons a l ih =>
    rw [List.pairwise_cons] at hl
    unfold stableSort
    rw [ih hl.2]
    exact insertBefore_congr R B a _ fun b hb => h a b (hl.1 b ((perm_stableSort B l).mem_iff.mp hb))

theorem sortedFrom_congr {n : ℕ} (R B : Fin n → Fin n → Bool) (h : ∀ a b, a < b → R b a = B b a) : sortedFrom R = sortedFrom B := by
  have e : sortPositions n R = sortPositions n B := stableSort_congr R B h _ (List.pairwise_lt_finRange n)
  funext k
  unfold sortedFrom
  simp only [List.get_eq_getElem, e]
  rfl

open Classical in
/-- The order of the blocks as a yes-or-no relation. -/
def beatsB (g : Fin 8 → EReal) (a b : Fin 8) : Bool := decide (beats g a b)

open Classical in
theorem beatsB_iff (g : Fin 8 → EReal) (a b : Fin 8) : beatsB g a b = true ↔ beats g a b := by
  unfold beatsB
  rw [decide_eq_true_iff]

theorem beats_total (g : Fin 8 → EReal) (a b : Fin 8) (h : a ≠ b) (hb : ¬ beats g b a) : beats g a b := by
  unfold beats at *
  push Not at hb
  rcases lt_trichotomy (g a) (g b) with h1 | h1 | h1
  · exact absurd h1 (not_lt.mpr hb.1)
  · exact Or.inr ⟨h1, lt_of_le_of_ne (hb.2 h1.symm) h⟩
  · exact Or.inl h1

theorem beats_asymm (g : Fin 8 → EReal) (a b : Fin 8) (h : beats g a b) : ¬ beats g b a := by
  unfold beats at *
  rintro (h2 | h2) <;> rcases h with h | h
  · exact lt_asymm h h2
  · exact absurd h2 (by rw [h.1]; exact lt_irrefl _)
  · exact absurd h (by rw [h2.1]; exact lt_irrefl _)
  · exact lt_asymm h.2 h2.2

theorem beats_trans (g : Fin 8 → EReal) (a b c : Fin 8) (h : beats g a b) (h' : beats g b c) : beats g a c := by
  unfold beats at *
  rcases h with h | h <;> rcases h' with h' | h'
  · exact Or.inl (lt_trans h' h)
  · exact Or.inl (by rw [← h'.1]; exact h)
  · exact Or.inl (by rw [h.1]; exact h')
  · exact Or.inr ⟨h.1.trans h'.1, lt_trans h.2 h'.2⟩

variable (g : Fin 8 → EReal) (R : Fin 8 → Fin 8 → Bool) (hR : ∀ a b, R a b = true ↔ g b < g a)
include hR

theorem sorted_beats (i j : Fin 8) (hij : i < j) : beats g (sortedFrom R i) (sortedFrom R j) := by
  have e : sortedFrom R = sortedFrom (beatsB g) := sortedFrom_congr _ _ fun a b hab => by
    rw [Bool.eq_iff_iff, hR]
    rw [beatsB_iff]
    unfold beats
    constructor
    · exact Or.inl
    · rintro (h | h)
      · exact h
      · exact absurd h.2 (lt_asymm hab)
  rw [e]
  refine beats_total g _ _ (fun h => hij.ne (sortedFrom_injective _ h)) ?_
  have := sortedFrom_noInversion (beatsB g) (beatsB g)
    (fun a b h => by
      simp only [beatsB, decide_eq_true_eq, decide_eq_false_iff_not] at h ⊢
      exact beats_asymm g _ _ h)
    (fun a b h => h)
    (fun a b c h1 h2 => by
      simp only [beatsB, decide_eq_false_iff_not] at h1 h2 ⊢
      intro h3
      by_cases hab : a = b
      · subst hab; exact h2 h3
      · exact h2 (beats_trans g _ _ _ (beats_total g b a (Ne.symm hab) h1) h3)) i j hij
  simpa [beatsB] using this

/-- The block the sort puts at place `k` has `k` blocks before it. -/
theorem rank_sorted (k : Fin 8) : rank g (sortedFrom R k) = k.val := by
  classical
  unfold rank
  have e : (Finset.univ.filter fun a => beats g a (sortedFrom R k)) = (Finset.Iio k).image (sortedFrom R) := by
    ext a
    simp only [Finset.mem_filter, Finset.mem_univ, true_and, Finset.mem_image, Finset.mem_Iio]
    obtain ⟨i, rfl⟩ := sortedFrom_surjective R a
    constructor
    · intro h
      refine ⟨i, ?_, rfl⟩
      by_contra hi
      rcases eq_or_lt_of_le (not_lt.mp hi) with h1 | h1
      · subst h1; exact beats_asymm g _ _ h h
      · exact beats_asymm g _ _ h (sorted_beats g R hR k i h1)
    · rintro ⟨i', hi', h⟩
      rw [← h]
      exact sorted_beats g R hR i' k hi'
  rw [show (Finset.univ.filter fun a => beats g a (sortedFrom R k)).card = ((Finset.Iio k).image (sortedFrom R)).card by rw [← e],
    Finset.card_image_of_injective _ (sortedFrom_injective R), Fin.card_Iio]

/-- A sum over the first three places is a sum over the blocks with fewer than three before them. -/
theorem sum_top {M : Type} [AddCommMonoid M] (f : Fin 8 → M) :
    ∑ s : Fin 3, f (sortedFrom R (s.castLE (by decide))) = ∑ n : Fin 8, if rank g n < 3 then f n else 0 := by
  have hb : Function.Bijective (sortedFrom R) := ⟨sortedFrom_injective R, sortedFrom_surjective R⟩
  rw [← hb.sum_comp]
  simp only [rank_sorted g R hR]
  rw [Fin.sum_univ_eight, Fin.sum_univ_three]
  simp

end Cert.Proof.Moba
end
-- ==== Proof.Moba.RRead.lean ====
module

public import proofs.«01_k».proof.Proof.Moba.Sort
public import proofs.«01_k».proof.Proof.Gen.ReferenceIdeal.Read
public import Idealize.ShloMosaic.Lib.WordCmp
public import Idealize.ShloMosaic.Lib.KernelVsHost

@[expose] public section

set_option maxRecDepth 65536

noncomputable section

namespace Cert.Proof.Moba

open Idealize.ShloMosaic Idealize.SL.Sem Idealize.ShloMosaic.StableHlo Cert.ReferenceIdeal Cert.ReferenceIdeal.Gen Cert.ReferenceIdeal.Read

/-- Row `k` of block `n`. -/
def row (n : Fin 8) (k : Fin 256) : Fin 2048 := ⟨n.val * 256 + k.val, by omega⟩

/-- The strict comparison a sort by decreasing value makes. -/
def gtB (g : Fin 8 → EReal) (k k' : Fin 8) : Bool := Ideal.cmp .ogt (g k) (g k') == 1#1

theorem gtB_iff (g : Fin 8 → EReal) (a b : Fin 8) : gtB g a b = true ↔ g b < g a := by
  unfold gtB
  by_cases h : g b < g a <;> simp [Ideal.cmp, h]

/-! ## How a gather of blocks is indexed -/

/-- How a gather of key blocks is indexed. -/
abbrev gd : GatherDims S16x8x8x256x128 S16x8x2048x3x3 S16x8x2048x3x256x128 :=
  gather_S16x8x8x256x128_S16x8x2048x3x3_S16x8x2048x3x256x128_45_012_n_n_012_4_111256128

theorem gsi (j : S16x8x2048x3x256x128.Idx) (c : Fin gd.startIndexMap.length) : gd.siIdx j c = ix5 (j 0) (j 1) (j 2) (j 3) (c : Fin 3) := by
  funext a
  match a with
  | ⟨0, _⟩ => rfl
  | ⟨1, _⟩ => rfl
  | ⟨2, _⟩ => rfl
  | ⟨3, _⟩ => rfl
  | ⟨4, _⟩ => rfl

theorem goff (j : S16x8x2048x3x256x128.Idx) : gd.offCoord j 3 = (j 4).val ∧ gd.offCoord j 4 = (j 5).val := by
  constructor
  · unfold GatherDims.offCoord
    rw [dif_pos (by decide)]
    rfl
  · unfold GatherDims.offCoord
    rw [dif_pos (by decide)]
    rfl

theorem gstart (j : S16x8x2048x3x256x128.Idx) (idx : IVec S16x8x2048x3x3 32) :
    gd.start j idx 0 = min (idx (ix5 (j 0) (j 1) (j 2) (j 3) 0)).toInt.toNat 15
    ∧ gd.start j idx 1 = min (idx (ix5 (j 0) (j 1) (j 2) (j 3) 1)).toInt.toNat 7
    ∧ gd.start j idx 2 = min (idx (ix5 (j 0) (j 1) (j 2) (j 3) 2)).toInt.toNat 7
    ∧ gd.start j idx 3 = 0 ∧ gd.start j idx 4 = 0 := by
  refine ⟨?_, ?_, ?_, ?_, ?_⟩
  · unfold GatherDims.start
    rw [dif_pos (by decide), gsi]
    rfl
  · unfold GatherDims.start
    rw [dif_pos (by decide), gsi]
    rfl
  · unfold GatherDims.start
    rw [dif_pos (by decide), gsi]
    rfl
  · unfold GatherDims.start
    rw [dif_neg (by decide)]
  · unfold GatherDims.start
    rw [dif_neg (by decide)]

theorem gather_apply {α : Type} (x : S16x8x8x256x128.Idx → α) (b : Fin 16) (h : Fin 8) (r : Fin 2048) (s : Fin 3) (k : Fin 256) (d : Fin 128) (n : Fin 8) (idx : IVec S16x8x2048x3x3 32)
    (h0 : idx (ix5 b h r s 0) = BitVec.ofNat 32 b.val) (h1 : idx (ix5 b h r s 1) = BitVec.ofNat 32 h.val) (h2 : idx (ix5 b h r s 2) = BitVec.ofNat 32 n.val) :
    Host.gather gd x idx (ix6 b h r s k d) = x (ix5 b h n k d) := by
  have hw : ∀ m : ℕ, m < 16 → (BitVec.ofNat 32 m).toInt.toNat = m := by decide
  obtain ⟨g0, g1, g2, g3, g4⟩ := gstart (ix6 b h r s k d) idx
  obtain ⟨o3, o4⟩ := goff (ix6 b h r s k d)
  have z : ∀ a, gd.batchCoord (ix6 b h r s k d) a = 0 := fun a => gd.batchCoord_eq_zero _ a List.not_mem_nil
  have hb := b.isLt
  have hh := h.isLt
  have hn := n.isLt
  unfold Host.gather GatherDims.operandIdx
  refine congrArg x (funext fun a => Fin.ext ?_)
  match a with
  | ⟨0, _⟩ =>
    show gd.start (ix6 b h r s k d) idx 0 + gd.batchCoord (ix6 b h r s k d) 0 + gd.offCoord (ix6 b h r s k d) 0 = b.val
    rw [g0, z, gd.offCoord_eq_zero _ 0 (by decide)]
    show min (idx (ix5 b h r s 0)).toInt.toNat 15 + 0 + 0 = b.val
    rw [h0, hw _ (by omega)]; omega
  | ⟨1, _⟩ =>
    show gd.start (ix6 b h r s k d) idx 1 + gd.batchCoord (ix6 b h r s k d) 1 + gd.offCoord (ix6 b h r s k d) 1 = h.val
    rw [g1, z, gd.offCoord_eq_zero _ 1 (by decide)]
    show min (idx (ix5 b h r s 1)).toInt.toNat 7 + 0 + 0 = h.val
    rw [h1, hw _ (by omega)]; omega
  | ⟨2, _⟩ =>
    show gd.start (ix6 b h r s k d) idx 2 + gd.batchCoord (ix6 b h r s k d) 2 + gd.offCoord (ix6 b h r s k d) 2 = n.val
    rw [g2, z, gd.offCoord_eq_zero _ 2 (by decide)]
    show min (idx (ix5 b h r s 2)).toInt.toNat 7 + 0 + 0 = n.val
    rw [h2, hw _ (by omega)]; omega
  | ⟨3, _⟩ =>
    show gd.start (ix6 b h r s k d) idx 3 + gd.batchCoord (ix6 b h r s k d) 3 + gd.offCoord (ix6 b h r s k d) 3 = k.val
    rw [g3, z, o3]
    show 0 + 0 + k.val = k.val
    omega
  | ⟨4, _⟩ =>
    show gd.start (ix6 b h r s k d) idx 4 + gd.batchCoord (ix6 b h r s k d) 4 + gd.offCoord (ix6 b h r s k d) 4 = d.val
    rw [g4, z, o4]
    show 0 + 0 + d.val = d.val
    omega

/-! ## The largest of a row -/

theorem reduces85 : S16x8x2048x1024.Reduces [3] S16x8x2048 := by decide

theorem lift85 (b : Fin 16) (h : Fin 8) (r : Fin 2048) (j : Fin 1024) : reduces85.lift (ix3 b h r) j = ix4 b h r j := funext fun a => Fin.ext (by
  match a with
  | ⟨0, _⟩ => rfl
  | ⟨1, _⟩ => rfl
  | ⟨2, _⟩ => rfl
  | ⟨3, _⟩ => rfl)

theorem ninf : (FloatOps.ofBits .f32 0xFF800000#32 : Ideal .f32) = (⊥ : EReal) := by
  show Ideal.ofBits .f32 0xFF800000#32 = ⊥
  simp [Ideal.ofBits, Ideal.ieee]

theorem max85 (y0 : FVec Ideal S16x8x2048x1024 .f32) (b : Fin 16) (h : Fin 8) (r : Fin 2048) :
    multiReduction .maximumf [3] S16x8x2048 y0 0xFF800000#32 reduces85 (.inl rfl) rfl (ix3 b h r) = Finset.univ.fold max ⊥ (fun j : Fin 1024 => y0 (ix4 b h r j)) := by
  refine (Ideal.multiReduction_maximumf_single (s := S16x8x2048x1024) (t := S16x8x2048) (a := 3) y0 0xFF800000#32 reduces85 (.inl rfl) rfl (ix3 b h r)).trans ?_
  rw [ninf, show y0 ∘ reduces85.lift (ix3 b h r) = fun j => y0 (ix4 b h r j) from funext fun j => congrArg y0 (lift85 b h r j)]
  rfl

section Read

variable (x0 x1 x2 : (⟨S16x8x2048x128, .f32⟩ : BufTy).Contents (Elt Ideal))

theorem v86_apply (b : Fin 16) (h : Fin 8) (r : Fin 2048) : val_main_v86 (F := Ideal) x0 x1 (ix3 b h r) = Finset.univ.fold max ⊥ (fun j : Fin 1024 => val_main_v85 (F := Ideal) x0 x1 (ix4 b h r j)) := by
  rw [← max85]
  exact congrFun (hostReduce_maximumf_eq_multiReduction (F := Ideal) (φ := .f32) (val_main_v85 (F := Ideal) x0 x1) 0xFF800000#32 reducesTo_S16x8x2048x1024_S16x8x2048_d3 h_S_ reduces85 (.inl rfl) rfl) (ix3 b h r)

/-! ## The steps before the softmax -/

/-- A row's block. -/
theorem v3_apply (r : Fin 2048) : val_main_v3 (F := Ideal) (ix1 r) = BitVec.ofNat 32 (r.val / 256) := by
  revert r
  pointwise [val_main_v3, val_main_call0_v11, val_main_call0_v13, val_main_call0_v2, val_main_call0_v1, val_main_call0_v0, val_main_c, val_main_call0_v3, val_main_call0_v4, val_main_call0_v5, val_main_call0_v6, val_main_call0_v7, val_main_call0_v8, val_main_call0_v9, val_main_call0_v10, val_main_call0_c, val_main_call0_c_0, val_main_call0_v12, val_main_v2]
  simp only [id, constantI]
  decide +kernel

/-- The block scores. -/
theorem v14_apply (b : Fin 16) (h : Fin 8) (r : Fin 2048) (n : Fin 8) : val_main_v14 (F := Ideal) x0 x1 (ix4 b h r n)
    = if n.val < r.val / 256 then ∑ d : Fin 128, x0 (ix4 b h r d) * Ideal.div (∑ k : Fin 256, x1 (ix4 b h (row n k) d)) ((256 : ℝ) : EReal) else ⊥ := by
  have e3 := v3_apply r
  have e256 : Ideal.ofBits .f32 0x43800000#32 = ((256 : ℝ) : EReal) := by simp [Ideal.ofBits, Ideal.ieee, -EReal.coe_mul]; norm_num
  have en := ninf
  pointwise [val_main_v14, val_main_call1_v1, val_main_call1_v2, val_main_v7, val_main_call1_v0, val_main_v13, val_main_v11, val_main_v12, val_main_v8, val_main_v9, val_main_v10, val_main_v6, val_main_v5, val_main_v4, val_main_v0, val_main_cst, val_main_cst_0, val_main_cst_1]
  rw [e3, WordCmp.cmpi_slt_ofNat (by have := n.isLt; omega) (by have := r.isLt; omega), e256]
  by_cases hn : n.val < r.val / 256
  · simp only [hn, decide_true, if_true]
    rfl
  · simp only [hn, decide_false, if_false]
    exact ninf

/-- The places of the three best blocks, as the sort gives them. -/
theorem idx_apply (b : Fin 16) (h : Fin 8) (r : Fin 2048) (s : Fin 3) : val_main_indices (F := Ideal) x0 x1 (ix4 b h r s) =
    BitVec.ofNat 32 (sortedFrom (gtB (fun n => val_main_v14 (F := Ideal) x0 x1 (ix4 b h r n))) (s.castLE (by decide) : Fin 8)).val := by
  have e : ∀ m n : Fin 8, (ix4 b h r m : S16x8x2048x8.Idx).along 3 n = (ix4 b h r n : S16x8x2048x8.Idx) := by
    intro m n
    funext a
    match a with
    | ⟨0, _⟩ => rfl
    | ⟨1, _⟩ => rfl
    | ⟨2, _⟩ => rfl
    | ⟨3, _⟩ => rfl
  have ex : ∀ (y : S16x8x2048x8.Idx → BitVec 32), extractStridedSlice S16x8x2048x3 (fun _ => 0) y sliceFits_S16x8x2048x8_S16x8x2048x3 (ix4 b h r s) = y (ix4 b h r (s.castLE (by decide))) := by
    intro y
    refine congrArg y (funext fun a => Fin.ext ?_)
    match a with
    | ⟨0, _⟩ => exact Nat.zero_add _
    | ⟨1, _⟩ => exact Nat.zero_add _
    | ⟨2, _⟩ => exact Nat.zero_add _
    | ⟨3, _⟩ => exact Nat.zero_add _
  unfold val_main_indices
  unfold gtB
  generalize val_main_v14 (F := Ideal) x0 x1 = y
  unfold Host.topK
  dsimp only
  refine (ex _).trans ?_
  unfold Host.sort2
  rw [dif_pos (show 3 < S16x8x2048x8.rank by decide)]
  show BitVec.ofNat 32 (sortedFrom (fun k k' : Fin 8 => Ideal.cmp .ogt (y ((ix4 b h r (s.castLE (by decide)) : S16x8x2048x8.Idx).along 3 k)) (y ((ix4 b h r (s.castLE (by decide)) : S16x8x2048x8.Idx).along 3 k')) == 1#1) (s.castLE (by decide) : Fin 8)).val = _
  refine congrArg (fun R : Fin 8 → Fin 8 → Bool => BitVec.ofNat 32 (sortedFrom R (s.castLE (by decide))).val) ?_
  funext k k'
  rw [e, e]

theorem v102_apply (b : Fin 16) (h : Fin 8) (n : Fin 8) (c : Fin 256) (d : Fin 128) : val_main_v102 (F := Ideal) x0 x1 x2 (ix5 b h n c d) =
   ∑ k : Fin 256, val_main_v100 (F := Ideal) x0 x1 (ix5 b h n c k) * val_main_v1 (F := Ideal) x2 (ix5 b h n k d) := by
  rw [val_main_v102_apply]
  refine Finset.sum_congr rfl fun k _ => ?_
  congr 2
  · funext a
    match a with
    | ⟨0, _⟩ => rfl
    | ⟨1, _⟩ => rfl
    | ⟨2, _⟩ => rfl
    | ⟨3, _⟩ => rfl
    | ⟨4, _⟩ => rfl
  · funext a
    match a with
    | ⟨0, _⟩ => rfl
    | ⟨1, _⟩ => rfl
    | ⟨2, _⟩ => rfl
    | ⟨3, _⟩ => rfl
    | ⟨4, _⟩ => rfl

theorem v1_apply (b : Fin 16) (h : Fin 8) (n : Fin 8) (k : Fin 256) (d : Fin 128) : val_main_v1 (F := Ideal) x2 (ix5 b h n k d) = x2 (ix4 b h (row n k) d) := by
  pointwise [val_main_v1]
  rfl

/-- A row's own scores: a key after the query is out. -/
theorem v30_apply (b : Fin 16) (h : Fin 8) (r : Fin 2048) (k : Fin 256) : val_main_v30 (F := Ideal) x0 x1 (ix4 b h r k)
    = if k.val ≤ r.val % 256 then (∑ d : Fin 128, x0 (ix4 b h r d) * x1 (ix4 b h (row ⟨r.val / 256, by omega⟩ k) d)) * Ideal.ofBits .f32 0x3DB504F3#32 else ⊥ := by
  pointwise [val_main_v30, val_main_v29, val_main_v28, val_main_v27, val_main_v26, val_main_v25, val_main_v24, val_main_v23, val_main_v22, val_main_v21, val_main_v20, val_main_v19, val_main_v0, val_main_cst_2, val_main_cst_3, val_main_call2_v0, val_main_call2_v1, val_main_call2_v2]
  rw [WordCmp.cmpi_sle_ofNat (by have := k.isLt; omega) (by have := r.isLt; omega)]
  by_cases hn : k.val ≤ r.val % 256
  · simp only [hn, decide_true, if_true]
    rfl
  · simp only [hn, decide_false, if_false]
    exact ninf

theorem wrap8 : ∀ n : Fin 8, Scalar.select (IntOp.cmpi .slt (BitVec.ofNat 32 n.val) 0#32) (IntOp.addi (BitVec.ofNat 32 n.val) 8#32) (BitVec.ofNat 32 n.val) = BitVec.ofNat 32 n.val := by
  decide

theorem wrap16 : ∀ n : Fin 16, Scalar.select (IntOp.cmpi .slt (BitVec.ofNat 32 n.val) 0#32) (IntOp.addi (BitVec.ofNat 32 n.val) 16#32) (BitVec.ofNat 32 n.val) = BitVec.ofNat 32 n.val := by
  decide

theorem v55_apply (b : Fin 16) (h : Fin 8) (r : Fin 2048) (s : Fin 3) (n : Fin 8) (hn : val_main_indices (F := Ideal) x0 x1 (ix4 b h r s) = BitVec.ofNat 32 n.val) :
    val_main_v55 (F := Ideal) x0 x1 (ix5 b h r s 0) = BitVec.ofNat 32 b.val ∧ val_main_v55 (F := Ideal) x0 x1 (ix5 b h r s 1) = BitVec.ofNat 32 h.val
      ∧ val_main_v55 (F := Ideal) x0 x1 (ix5 b h r s 2) = BitVec.ofNat 32 n.val := by
  have h0 := wrap16 b
  have h1 := wrap8 h
  have h2 := wrap8 n
  refine ⟨?_, ?_, ?_⟩
  · pointwise [val_main_v55, val_main_v52, val_main_v50, val_main_v39, val_main_v36, val_main_v38, val_main_v35, val_main_v37, val_main_v32, val_main_v31, val_main_c_4, val_main_c_5]
    exact h0
  · pointwise [val_main_v55, val_main_v53, val_main_v51, val_main_v44, val_main_v41, val_main_v43, val_main_v40, val_main_v42, val_main_v34, val_main_v33, val_main_c_6, val_main_c_7]
    exact h1
  · pointwise [val_main_v55, val_main_v54, val_main_v49, val_main_v46, val_main_v48, val_main_v45, val_main_v47, val_main_c_8, val_main_c_9]
    rw [hn]
    exact h2

/-- The selected blocks' keys. -/
theorem v56_apply (b : Fin 16) (h : Fin 8) (r : Fin 2048) (s : Fin 3) (n : Fin 8) (hn : val_main_indices (F := Ideal) x0 x1 (ix4 b h r s) = BitVec.ofNat 32 n.val)
    (k : Fin 256) (d : Fin 128) : val_main_v56 (F := Ideal) x0 x1 (ix6 b h r s k d) = x1 (ix4 b h (row n k) d) := by
  obtain ⟨h0, h1, h2⟩ := v55_apply x0 x1 b h r s n hn
  exact (gather_apply (val_main_v0 (F := Ideal) x1) b h r s k d n (val_main_v55 (F := Ideal) x0 x1) h0 h1 h2).trans (v1_apply x1 b h n k d)

theorem v77_apply (b : Fin 16) (h : Fin 8) (r : Fin 2048) (s : Fin 3) (n : Fin 8) (hn : val_main_indices (F := Ideal) x0 x1 (ix4 b h r s) = BitVec.ofNat 32 n.val) :
    val_main_v77 (F := Ideal) x0 x1 (ix5 b h r s 0) = BitVec.ofNat 32 b.val ∧ val_main_v77 (F := Ideal) x0 x1 (ix5 b h r s 1) = BitVec.ofNat 32 h.val
      ∧ val_main_v77 (F := Ideal) x0 x1 (ix5 b h r s 2) = BitVec.ofNat 32 n.val := by
  have h0 := wrap16 b
  have h1 := wrap8 h
  have h2 := wrap8 n
  refine ⟨?_, ?_, ?_⟩
  · pointwise [val_main_v77, val_main_v74, val_main_v72, val_main_v61, val_main_v58, val_main_v60, val_main_v57, val_main_v59, val_main_v32, val_main_v31, val_main_c_10, val_main_c_11]
    exact h0
  · pointwise [val_main_v77, val_main_v75, val_main_v73, val_main_v66, val_main_v63, val_main_v65, val_main_v62, val_main_v64, val_main_v34, val_main_v33, val_main_c_12, val_main_c_13]
    exact h1
  · pointwise [val_main_v77, val_main_v76, val_main_v71, val_main_v68, val_main_v70, val_main_v67, val_main_v69, val_main_c_14, val_main_c_15]
    rw [hn]
    exact h2

/-- The selected blocks' values. -/
theorem v78_apply (b : Fin 16) (h : Fin 8) (r : Fin 2048) (s : Fin 3) (n : Fin 8) (hn : val_main_indices (F := Ideal) x0 x1 (ix4 b h r s) = BitVec.ofNat 32 n.val)
    (k : Fin 256) (d : Fin 128) : val_main_v78 (F := Ideal) x0 x1 x2 (ix6 b h r s k d) = x2 (ix4 b h (row n k) d) := by
  obtain ⟨h0, h1, h2⟩ := v77_apply x0 x1 b h r s n hn
  exact (gather_apply (val_main_v1 (F := Ideal) x2) b h r s k d n (val_main_v77 (F := Ideal) x0 x1) h0 h1 h2).trans (v1_apply x2 b h n k d)

/-- The selected blocks' scores. -/
theorem v83_apply (b : Fin 16) (h : Fin 8) (r : Fin 2048) (s : Fin 3) (n : Fin 8) (hn : val_main_indices (F := Ideal) x0 x1 (ix4 b h r s) = BitVec.ofNat 32 n.val)
    (k : Fin 256) : val_main_v83 (F := Ideal) x0 x1 (ix5 b h r s k)
    = if n.val < r.val / 256 then (∑ d : Fin 128, x0 (ix4 b h r d) * x1 (ix4 b h (row n k) d)) * Ideal.ofBits .f32 0x3DB504F3#32 else ⊥ := by
  have e3 := v3_apply r
  have ek := fun d => v56_apply x0 x1 b h r s n hn k d
  pointwise [val_main_v83, val_main_v81, val_main_v80, val_main_v79, val_main_v82, val_main_v18, val_main_v17, val_main_v16, val_main_v15, val_main_call3_v0, val_main_call3_v1, val_main_call3_v2, val_main_cst_16, val_main_cst_17]
  rw [hn, e3, WordCmp.cmpi_slt_ofNat (by have := n.isLt; omega) (by have := r.isLt; omega)]
  simp only [ek]
  by_cases hn : n.val < r.val / 256
  · simp only [hn, decide_true, if_true]
    rfl
  · simp only [hn, decide_false, if_false]
    exact ninf

/-- The scores together: the selected blocks' first, the own block's after them. -/
theorem v85_sel (b : Fin 16) (h : Fin 8) (r : Fin 2048) (s : Fin 3) (k : Fin 256) :
    val_main_v85 (F := Ideal) x0 x1 (ix4 b h r ⟨s.val * 256 + k.val, by omega⟩) = val_main_v83 (F := Ideal) x0 x1 (ix5 b h r s k) := by
  have hs := s.isLt
  have hk := k.isLt
  have e1 : (s.val * 256 + k.val) / 256 = s.val := by omega
  have e2 : (s.val * 256 + k.val) % 256 = k.val := by omega
  pointwise [val_main_v85, val_main_v84]
  rw [dif_pos (by omega)]

theorem v85_own (b : Fin 16) (h : Fin 8) (r : Fin 2048) (k : Fin 256) :
    val_main_v85 (F := Ideal) x0 x1 (ix4 b h r ⟨768 + k.val, by omega⟩) = val_main_v30 (F := Ideal) x0 x1 (ix4 b h r k) := by
  have hk := k.isLt
  pointwise [val_main_v85]

/-! ## The softmax and what follows -/

theorem v88_apply (b : Fin 16) (h : Fin 8) (r : Fin 2048) : val_main_v88 (F := Ideal) x0 x1 (ix3 b h r) = Finset.univ.fold max ⊥ (fun j : Fin 1024 => val_main_v85 (F := Ideal) x0 x1 (ix4 b h r j)) := by
  rw [val_main_v88_apply, v86_apply]
  refine Eq.trans ?_ (max_bot_left _)
  exact congrArg (max · _) ninf

theorem v96_apply (b : Fin 16) (h : Fin 8) (r : Fin 2048) (j : Fin 1024) : val_main_v96 (F := Ideal) x0 x1 (ix4 b h r j)
    = Ideal.div (Ideal.exp (val_main_v85 (F := Ideal) x0 x1 (ix4 b h r j) - val_main_v88 (F := Ideal) x0 x1 (ix3 b h r)))
        (∑ i : Fin 1024, Ideal.exp (val_main_v85 (F := Ideal) x0 x1 (ix4 b h r i) - val_main_v88 (F := Ideal) x0 x1 (ix3 b h r))) := by
  have ez : val_main_cst_20 (F := Ideal) (Shape.Idx.first h_S_) = (0 : EReal) := by
    show Ideal.ofBits .f32 0x00000000#32 = 0
    simp [Ideal.ofBits, Ideal.ieee]
  pointwise [val_main_v96, val_main_v95, val_main_v94, val_main_v93, val_main_v92, val_main_v91, val_main_v90, val_main_v89]
  rw [ez, zero_add]

theorem v98_apply (b : Fin 16) (h : Fin 8) (r : Fin 2048) (s : Fin 3) (k : Fin 256) :
    val_main_v98 (F := Ideal) x0 x1 (ix5 b h r s k) = val_main_v96 (F := Ideal) x0 x1 (ix4 b h r ⟨s.val * 256 + k.val, by omega⟩) := by
  pointwise [val_main_v98, val_main_v97]

theorem v100_apply (b : Fin 16) (h : Fin 8) (r : Fin 2048) (k : Fin 256) :
    val_main_v100 (F := Ideal) x0 x1 (ix5 b h ⟨r.val / 256, by omega⟩ ⟨r.val % 256, by omega⟩ k) = val_main_v96 (F := Ideal) x0 x1 (ix4 b h r ⟨768 + k.val, by omega⟩) := by
  have e : r.val / 256 * 256 + r.val % 256 = r.val := by omega
  pointwise [val_main_v100, val_main_v99]

theorem v101_apply (b : Fin 16) (h : Fin 8) (r : Fin 2048) (d : Fin 128) : val_main_v101 (F := Ideal) x0 x1 x2 (ix4 b h r d)
    = ∑ s : Fin 3, ∑ k : Fin 256, val_main_v98 (F := Ideal) x0 x1 (ix5 b h r s k) * val_main_v78 (F := Ideal) x0 x1 x2 (ix6 b h r s k d) := by
  pointwise [val_main_v101]

theorem v104_apply (b : Fin 16) (h : Fin 8) (r : Fin 2048) (d : Fin 128) : val_main_v104 (F := Ideal) x0 x1 x2 (ix4 b h r d) =
   val_main_v101 (F := Ideal) x0 x1 x2 (ix4 b h r d) + val_main_v102 (F := Ideal) x0 x1 x2 (ix5 b h ⟨r.val / 256, by omega⟩ ⟨r.val % 256, by omega⟩ d) := by
  rw [val_main_v104_apply, val_main_v103_apply]
  refine congrArg (_ + val_main_v102 (F := Ideal) x0 x1 x2 ·) (funext fun a => Fin.ext ?_)
  have hb := b.isLt
  have hh := h.isLt
  have hr := r.isLt
  have hd := d.isLt
  match a with
  | ⟨0, _⟩ => show (((b.val * 8 + h.val) * 2048 + r.val) * 128 + d.val) / 2097152 = b.val; omega
  | ⟨1, _⟩ => show (((b.val * 8 + h.val) * 2048 + r.val) * 128 + d.val) / 262144 % 8 = h.val; omega
  | ⟨2, _⟩ => show (((b.val * 8 + h.val) * 2048 + r.val) * 128 + d.val) / 32768 % 8 = r.val / 256; omega
  | ⟨3, _⟩ => show (((b.val * 8 + h.val) * 2048 + r.val) * 128 + d.val) / 128 % 256 = r.val % 256; omega
  | ⟨4, _⟩ => show (((b.val * 8 + h.val) * 2048 + r.val) * 128 + d.val) % 128 = d.val; omega

theorem v107_apply (b : Fin 16) (r : Fin 2048) (j : Fin 1024) : val_main_v107 (F := Ideal) x0 x1 x2 (ix3 b r j)
    = val_main_v104 (F := Ideal) x0 x1 x2 (ix4 b ⟨j.val / 128, by omega⟩ r ⟨j.val % 128, by omega⟩) := by
  pointwise [val_main_v107, val_main_v106, val_main_v105]

/-- One element of the result, from the weights of its row. -/
theorem out_apply (b : Fin 16) (h : Fin 8) (r : Fin 2048) (d : Fin 128) : val_main_v104 (F := Ideal) x0 x1 x2 (ix4 b h r d)
    = (∑ s : Fin 3, ∑ k : Fin 256, val_main_v96 (F := Ideal) x0 x1 (ix4 b h r ⟨s.val * 256 + k.val, by omega⟩) * val_main_v78 (F := Ideal) x0 x1 x2 (ix6 b h r s k d))
      + ∑ k : Fin 256, val_main_v96 (F := Ideal) x0 x1 (ix4 b h r ⟨768 + k.val, by omega⟩) * x2 (ix4 b h (row ⟨r.val / 256, by omega⟩ k) d) := by
  rw [v104_apply, v101_apply, v102_apply]
  simp only [v98_apply, v100_apply, v1_apply]

end Read

end Cert.Proof.Moba
end
-- ==== Proof.Moba.RClosed.lean ====
module

public import proofs.«01_k».proof.Proof.Moba.RRead

@[expose] public section

set_option maxRecDepth 65536

noncomputable section

namespace Cert.Proof.Moba

open Idealize.ShloMosaic Idealize.SL.Sem Idealize.ShloMosaic.StableHlo Cert.ReferenceIdeal Cert.ReferenceIdeal.Gen Cert.ReferenceIdeal.Read

/-- The positions of a row of scores: three blocks, and the row's own after them. -/
theorem sum_1024 {M : Type} [AddCommMonoid M] (f : Fin 1024 → M) :
    ∑ j : Fin 1024, f j = (∑ s : Fin 3, ∑ k : Fin 256, f ⟨s.val * 256 + k.val, by omega⟩) + ∑ k : Fin 256, f ⟨768 + k.val, by omega⟩ := by
  refine (Fin.sum_univ_add (a := 768) (b := 256) f).trans ?_
  congr 1
  refine ((finProdFinEquiv (m := 3) (n := 256)).sum_comp fun i => f (Fin.castAdd 256 i)).symm.trans ((Fintype.sum_prod_type _).trans ?_)
  refine Finset.sum_congr rfl fun s _ => Finset.sum_congr rfl fun k _ => congrArg f (Fin.ext ?_)
  show k.val + 256 * s.val = s.val * 256 + k.val
  omega

section Weights

variable (S : ℝ) (kr : Fin 8 → Fin 256 → Fin 128 → ℝ) (qr : Fin 128 → ℝ) (q : ℕ) (c : Fin 256)

/-- A key's weight in an earlier block, were the block chosen. -/
def wSel (n : Fin 8) (k : Fin 256) : ℝ := if n.val < q then Real.exp (S * dotR kr qr n k) else 0

/-- A key's weight in the query's own block. -/
def wOwn (n : Fin 8) (k : Fin 256) : ℝ := if k.val ≤ c.val then Real.exp (S * dotR kr qr n k) else 0

/-- A sum over all keys, as the chosen blocks' and the own block's. -/
theorem sum_wt {M : Type} [AddCommMonoid M] (hq : q < 8) (φ : Fin 8 → Fin 256 → ℝ → M) (h0 : ∀ n k, φ n k 0 = 0) :
    ∑ n : Fin 8, ∑ k : Fin 256, φ n k (wt S kr qr q c n k)
      = (∑ n : Fin 8, if rank (gateE kr qr q) n < 3 then ∑ k : Fin 256, φ n k (wSel S kr qr q n k) else 0)
        + ∑ k : Fin 256, φ ⟨q, hq⟩ k (wOwn S kr qr c ⟨q, hq⟩ k) := by
  have e : ∀ n : Fin 8, ∑ k : Fin 256, φ n k (wt S kr qr q c n k)
      = (if rank (gateE kr qr q) n < 3 then ∑ k : Fin 256, φ n k (wSel S kr qr q n k) else 0)
        + (if n = ⟨q, hq⟩ then ∑ k : Fin 256, φ n k (wOwn S kr qr c n k) else 0) := by
    intro n
    unfold wt wSel wOwn allowed
    by_cases h2 : n = ⟨q, hq⟩
    · have hv : n.val = q := congrArg Fin.val h2
      have hl : ¬ n.val < q := by omega
      simp only [h2, lt_irrefl, false_and, false_or, true_and, if_false, h0, Finset.sum_const_zero, ite_self, zero_add, if_true]
      exact Finset.sum_congr rfl fun k _ => by congr 1
    · have hv : n.val ≠ q := fun h => h2 (Fin.ext h)
      rw [if_neg h2, add_zero]
      by_cases h1 : n.val < q <;> by_cases h3 : rank (gateE kr qr q) n < 3 <;> simp [h1, h3, hv, h0]
  rw [Finset.sum_congr rfl fun n _ => e n, Finset.sum_add_distrib, Finset.sum_ite_eq' Finset.univ, if_pos (Finset.mem_univ _)]

end Weights

section Row

variable (x0 x1 x2 : (⟨S16x8x2048x128, .f32⟩ : BufTy).Contents (Elt Ideal)) (b : Fin 16) (h : Fin 8) (r : Fin 2048)
  (S : ℝ) (kr : Fin 8 → Fin 256 → Fin 128 → ℝ) (qr : Fin 128 → ℝ)

/-- What is known of one query's row: the keys and the query are real. -/
structure RefRow : Prop where
  hS : Ideal.ofBits .f32 0x3DB504F3#32 = ((S : ℝ) : EReal)
  hk : ∀ (n : Fin 8) (k : Fin 256) (d : Fin 128), x1 (ix4 b h (row n k) d) = ((kr n k d : ℝ) : EReal)
  hx : ∀ d : Fin 128, x0 (ix4 b h r d) = ((qr d : ℝ) : EReal)

variable {x0 x1 b h r S kr qr} (H : RefRow x0 x1 b h r S kr qr)
include H

theorem gate_coe : (fun n => val_main_v14 (F := Ideal) x0 x1 (ix4 b h r n)) = gateE kr qr (r.val / 256) := by
  funext n
  rw [v14_apply]
  unfold gateE meanR
  simp only [H.hk, H.hx]
  by_cases hn : n.val < r.val / 256
  · rw [if_pos hn, if_pos hn, coe_sum]
    refine Finset.sum_congr rfl fun d _ => ?_
    rw [← coe_sum, Ideal.div_coe (by norm_num), ← EReal.coe_mul, ← EReal.coe_mul]
    congr 1
    ring
  · rw [if_neg hn, if_neg hn]

/-- The block at a place of the choice. -/
def chosen (kr : Fin 8 → Fin 256 → Fin 128 → ℝ) (qr : Fin 128 → ℝ) (r : Fin 2048) (s : Fin 3) : Fin 8 :=
  sortedFrom (gtB (gateE kr qr (r.val / 256))) (s.castLE (by decide))

theorem chosen_idx (s : Fin 3) : val_main_indices (F := Ideal) x0 x1 (ix4 b h r s) = BitVec.ofNat 32 (chosen kr qr r s).val := by
  rw [idx_apply, gate_coe H]
  rfl

theorem dot_coe (n : Fin 8) (k : Fin 256) :
    (∑ d : Fin 128, x0 (ix4 b h r d) * x1 (ix4 b h (row n k) d)) * Ideal.ofBits .f32 0x3DB504F3#32 = ((S * dotR kr qr n k : ℝ) : EReal) := by
  unfold dotR
  simp only [H.hk, H.hx, H.hS, ← EReal.coe_mul]
  rw [← coe_sum, ← EReal.coe_mul, mul_comm]
  exact congrArg (fun x : ℝ => ((S * x : ℝ) : EReal)) (Finset.sum_congr rfl fun d _ => mul_comm _ _)

theorem sel_coe (s : Fin 3) (k : Fin 256) : val_main_v85 (F := Ideal) x0 x1 (ix4 b h r ⟨s.val * 256 + k.val, by omega⟩)
    = if (chosen kr qr r s).val < r.val / 256 then ((S * dotR kr qr (chosen kr qr r s) k : ℝ) : EReal) else ⊥ := by
  rw [v85_sel, v83_apply x0 x1 b h r s _ (chosen_idx H s) k, dot_coe H]

theorem own_coe (k : Fin 256) : val_main_v85 (F := Ideal) x0 x1 (ix4 b h r ⟨768 + k.val, by omega⟩)
    = if k.val ≤ r.val % 256 then ((S * dotR kr qr ⟨r.val / 256, by omega⟩ k : ℝ) : EReal) else ⊥ := by
  rw [v85_own, v30_apply, dot_coe H]

theorem score_lt_top (j : Fin 1024) : val_main_v85 (F := Ideal) x0 x1 (ix4 b h r j) < ⊤ := by
  by_cases hj : j.val < 768
  · have e : j = ⟨(⟨j.val / 256, by omega⟩ : Fin 3).val * 256 + (⟨j.val % 256, by omega⟩ : Fin 256).val, by show j.val / 256 * 256 + j.val % 256 < 1024; omega⟩ :=
      Fin.ext (by show j.val = j.val / 256 * 256 + j.val % 256; omega)
    rw [e, sel_coe H]
    split
    · exact EReal.coe_lt_top _
    · exact bot_lt_top
  · have e : j = ⟨768 + (⟨j.val - 768, by omega⟩ : Fin 256).val, by show 768 + (j.val - 768) < 1024; omega⟩ :=
      Fin.ext (by show j.val = 768 + (j.val - 768); omega)
    rw [e, own_coe H]
    split
    · exact EReal.coe_lt_top _
    · exact bot_lt_top

theorem max_real : ∃ M : ℝ, val_main_v88 (F := Ideal) x0 x1 (ix3 b h r) = (M : EReal) := by
  have h1 : val_main_v88 (F := Ideal) x0 x1 (ix3 b h r) ≠ ⊤ := by
    rw [v88_apply, ← lt_top_iff_ne_top, Finset.fold_max_lt]
    exact ⟨bot_lt_top, fun j _ => score_lt_top H j⟩
  have h2 : val_main_v88 (F := Ideal) x0 x1 (ix3 b h r) ≠ ⊥ := by
    rw [v88_apply, ← bot_lt_iff_ne_bot, Finset.lt_fold_max]
    refine Or.inr ⟨⟨768 + (⟨r.val % 256, by omega⟩ : Fin 256).val, by show 768 + r.val % 256 < 1024; omega⟩, Finset.mem_univ _, ?_⟩
    rw [own_coe H, if_pos (le_refl _)]
    exact EReal.bot_lt_coe _
  exact ⟨_, (EReal.coe_toReal h1 h2).symm⟩

theorem exp_shift (x M : ℝ) : Ideal.exp ((x : EReal) - (M : EReal)) = ((Real.exp (-M) * Real.exp x : ℝ) : EReal) := by
  rw [← EReal.coe_sub, ← Real.exp_add, neg_add_eq_sub]
  exact Ideal.exp_coe _

theorem exp_sel (M : ℝ) (s : Fin 3) (k : Fin 256) :
    Ideal.exp (val_main_v85 (F := Ideal) x0 x1 (ix4 b h r ⟨s.val * 256 + k.val, by omega⟩) - (M : EReal))
      = ((Real.exp (-M) * wSel S kr qr (r.val / 256) (chosen kr qr r s) k : ℝ) : EReal) := by
  rw [sel_coe H]
  unfold wSel
  split
  · exact exp_shift H _ _
  · rw [mul_zero, EReal.bot_sub]
    exact Ideal.exp_bot

theorem exp_own (M : ℝ) (k : Fin 256) :
    Ideal.exp (val_main_v85 (F := Ideal) x0 x1 (ix4 b h r ⟨768 + k.val, by omega⟩) - (M : EReal))
      = ((Real.exp (-M) * wOwn S kr qr ⟨r.val % 256, by omega⟩ ⟨r.val / 256, by omega⟩ k : ℝ) : EReal) := by
  rw [own_coe H]
  unfold wOwn
  split
  · exact exp_shift H _ _
  · rw [mul_zero, EReal.bot_sub]
    exact Ideal.exp_bot

theorem sum_chosen {M : Type} [AddCommMonoid M] (f : Fin 8 → M) :
    ∑ s : Fin 3, f (chosen kr qr r s) = ∑ n : Fin 8, if rank (gateE kr qr (r.val / 256)) n < 3 then f n else 0 :=
  sum_top (gateE kr qr (r.val / 256)) (gtB (gateE kr qr (r.val / 256))) (gtB_iff _) f

theorem den_coe (M : ℝ) : ∑ j : Fin 1024, Ideal.exp (val_main_v85 (F := Ideal) x0 x1 (ix4 b h r j) - (M : EReal))
    = ((Real.exp (-M) * wsum S kr qr (r.val / 256) ⟨r.val % 256, by omega⟩ : ℝ) : EReal) := by
  rw [sum_1024]
  simp only [exp_sel H, exp_own H, ← coe_sum]
  rw [← EReal.coe_add]
  congr 1
  unfold wsum
  rw [sum_chosen H fun n => ∑ k : Fin 256, Real.exp (-M) * wSel S kr qr (r.val / 256) n k, Finset.mul_sum]
  simp only [Finset.mul_sum]
  exact (sum_wt S kr qr (r.val / 256) ⟨r.val % 256, by omega⟩ (by omega) (fun _ _ x => Real.exp (-M) * x) (fun _ _ => mul_zero _)).symm

/-- A query's row of the result is block attention. -/
theorem ref_attn (v : Fin 8 → Fin 256 → EReal) (d : Fin 128) (hv : ∀ (n : Fin 8) (k : Fin 256), x2 (ix4 b h (row n k) d) = v n k) :
    val_main_v104 (F := Ideal) x0 x1 x2 (ix4 b h r d) = attn S kr qr v (r.val / 256) ⟨r.val % 256, by omega⟩ := by
  obtain ⟨M, hM⟩ := max_real H
  have hd := den_coe H M
  have hpos := Real.exp_pos (-M)
  have hw := wsum_pos S kr qr (r.val / 256) (by omega) ⟨r.val % 256, by omega⟩
  have hdiv : ∀ x : ℝ, Ideal.div ((Real.exp (-M) * x : ℝ) : EReal) ((Real.exp (-M) * wsum S kr qr (r.val / 256) ⟨r.val % 256, by omega⟩ : ℝ) : EReal)
      = ((x / wsum S kr qr (r.val / 256) ⟨r.val % 256, by omega⟩ : ℝ) : EReal) := by
    intro x
    rw [Ideal.div_coe (mul_pos hpos hw).ne', ← EReal.coe_mul]
    exact congrArg _ ((mul_one_div _ _).trans (mul_div_mul_left _ _ hpos.ne'))
  rw [out_apply]
  simp only [v96_apply, hM, hd, exp_sel H, exp_own H, hdiv, v78_apply x0 x1 x2 b h r _ _ (chosen_idx H _), hv]
  unfold attn
  rw [sum_wt S kr qr (r.val / 256) ⟨r.val % 256, by omega⟩ (by omega) (fun n k x => v n k * ((x / wsum S kr qr (r.val / 256) ⟨r.val % 256, by omega⟩ : ℝ) : EReal))
    (fun _ _ => by simp), ← sum_chosen H]
  simp only [mul_comm]

end Row

end Cert.Proof.Moba
end
-- ==== Proof.Moba.Value.lean ====
module

public import proofs.«01_k».proof.Proof.Moba.Host
public import proofs.«01_k».proof.Proof.Moba.RClosed

@[expose] public section

set_option maxRecDepth 65536

noncomputable section

namespace Cert.Proof.Moba

open Idealize.ShloMosaic Idealize.SL.Sem Idealize.ShloMosaic.Pipeline Idealize.ShloMosaic.TcCoe Cert.KernelIdeal Cert.KernelIdeal.Gen Facts

variable (m : (ℓ : Loc nD τ sig) → Buf (Elt Ideal) ℓ)

/-- The row of a key, in the two ways it is written. -/
theorem row_eq (n : Fin 8) (k : Fin 256) : Fin.ofNat 2048 (256 * n.val + k.val) = row n k := by
  apply Fin.ext
  have := n.isLt
  have := k.isLt
  show (256 * n.val + k.val) % 2048 = n.val * 256 + k.val
  omega

/-- An element of the kernel's result is block attention. -/
theorem kernel_attn (c : Dev nD) (kr qr : S16x8x2048x128.Idx → ℝ) (hk : ∀ i, kArr m c i = ((kr i : ℝ) : EReal)) (hq : ∀ i, qArr m c i = ((qr i : ℝ) : EReal))
    (b : Fin 16) (h : Fin 8) (r : Fin 2048) (d : Fin 128) :
    (dats m 0 c).arrAt 3 cfg0.N (ix3 b r ⟨h.val * 128 + d.val, by have := h.isLt; omega⟩)
      = attn scaleS (fun n k d => kr (ix4 b h (row n k) d)) (fun d => qr (ix4 b h r d)) (fun n k => vArr m c (ix4 b h (row n k) d)) (r.val / 256) ⟨r.val % 256, by omega⟩ := by
  have hr := r.isLt
  have er : Fin.ofNat 2048 (256 * (r.val / 256) + (r.val % 256)) = r := Fin.ext (by show (256 * (r.val / 256) + (r.val % 256)) % 2048 = r.val; omega)
  have hx : ∀ d : Fin 128, iblk m c 0 (pt b h) (ix4 0 0 r d) = ((qr (ix4 b h r d) * scaleT : ℝ) : EReal) := fun d => by
    rw [blk_q, hq, EReal.coe_mul]
  have hkk : ∀ (n : Fin 8) (k : Fin 256) (d : Fin 128), iblk m c 1 (pt b h) (ix4 0 0 (Fin.ofNat 2048 (256 * n.val + k.val)) d) = ((kr (ix4 b h (row n k) d) : ℝ) : EReal) :=
    fun n k d => by rw [blk_k, hk, row_eq]
  rw [final_apply]
  refine outv_eq (x2 := iblk m c 2 (pt b h)) (T := scaleT) (c := ⟨r.val % 256, by omega⟩) ?_ _ d fun n k => by rw [blk_v, row_eq]
  refine ⟨by omega, scaleT_log, hkk, ?_, ?_⟩
  · rw [er]; exact hx
  · rw [er]; exact bias_coe c _ _ _ _ _ _ scaleT scaleT_pos _ _ r hkk hx

theorem finite_real (x : EReal) (h : Ideal.cmp .olt (max x (-x)) (Ideal.ofBits .f32 0x7F800000#32) = 1#1) : ∃ y : ℝ, x = (y : EReal) := by
  have e : Ideal.ofBits .f32 0x7F800000#32 = ⊤ := by simp [Ideal.ofBits, Ideal.ieee]
  rw [e] at h
  induction x with
  | bot => simp [Ideal.cmp] at h
  | top => simp [Ideal.cmp] at h
  | coe y => exact ⟨y, rfl⟩

instance : Cert.Pre_finite.Facts := ⟨by exact Cert.KernelIdeal.Gen.facts.bcast_S_S16x8x2048x128⟩

/-- Where the precondition holds, the queries and the keys are real numbers. -/
theorem reals (hm : Cert.Pre_KernelIdeal_finite m) (c : Dev nD) :
    ∃ kr qr : S16x8x2048x128.Idx → ℝ, (∀ i, kArr m c i = ((kr i : ℝ) : EReal)) ∧ ∀ i, qArr m c i = ((qr i : ℝ) : EReal) := by
  have h : ∀ i, (∃ y : ℝ, kArr m c i = (y : EReal)) ∧ ∃ y : ℝ, qArr m c i = (y : EReal) := by
    intro i
    have hi := congrFun (hm c) i
    have ha : ∀ x y : BitVec 1, IntOp.andi x y = 1#1 → x = 1#1 ∧ y = 1#1 := by decide
    obtain ⟨h1, h2⟩ := ha _ _ hi
    exact ⟨finite_real _ h2, finite_real _ h1⟩
  choose kr hk using fun i => (h i).1
  choose qr hq using fun i => (h i).2
  exact ⟨kr, qr, hk, hq⟩

/-- The two results agree, element by element. -/
theorem results_eq (hm : Cert.Pre_KernelIdeal_finite m) (c : Dev nD) (x0 x1 x2 : S16x8x2048x128.Idx → EReal) (h0 : x0 = qArr m c) (h1 : x1 = kArr m c) (h2 : x2 = vArr m c) :
    (Cert.ReferenceIdeal.Read.val_main_v107 (F := Ideal) x0 x1 x2 : S16x2048x1024.Idx → EReal) = (dats m 0 c).arrAt 3 cfg0.N := by
  subst h0 h1 h2
  obtain ⟨kr, qr, hk, hq⟩ := reals m hm c
  funext i
  obtain ⟨b, r, j, rfl⟩ : ∃ (b : Fin 16) (r : Fin 2048) (j : Fin 1024), i = ix3 b r j := ⟨i 0, i 1, i 2, by
    funext a
    match a with
    | ⟨0, _⟩ => rfl
    | ⟨1, _⟩ => rfl
    | ⟨2, _⟩ => rfl⟩
  have hj := j.isLt
  have ej : j = ⟨(⟨j.val / 128, by omega⟩ : Fin 8).val * 128 + (⟨j.val % 128, by omega⟩ : Fin 128).val, by show j.val / 128 * 128 + j.val % 128 < 1024; omega⟩ :=
    Fin.ext (by show j.val = j.val / 128 * 128 + j.val % 128; omega)
  refine (v107_apply _ _ _ b r j).trans ?_
  refine (ref_attn (b := b) (h := ⟨j.val / 128, by omega⟩) (r := r) (S := scaleS) (kr := fun n k d => kr (ix4 b ⟨j.val / 128, by omega⟩ (row n k) d))
    (qr := fun d => qr (ix4 b ⟨j.val / 128, by omega⟩ r d)) (x2 := vArr m c) ⟨scale_bits, fun n k d => hk _, fun d => hq _⟩ _ ⟨j.val % 128, by omega⟩ fun n k => rfl).trans ?_
  refine (kernel_attn m c kr qr hk hq b ⟨j.val / 128, by omega⟩ r ⟨j.val % 128, by omega⟩).symm.trans ?_
  exact congrArg (fun a => (dats m 0 c).arrAt 3 cfg0.N (ix3 b r a)) ej.symm

end Cert.Proof.Moba
end
-- ==== Proof.Ffn.Frames.lean ====
module

public import proofs.«01_k».proof.Defs
public import proofs.«01_k».proof.Proof.Gen.Kernel2
public import proofs.«01_k».proof.Proof.Gen.Kernel2Ideal.Frame
public import proofs.«01_k».proof.Proof.Gen.Reference2Ideal.Run
public import proofs.«01_k».proof.Proof.Gen.Kernel3
public import proofs.«01_k».proof.Proof.Gen.Kernel3Ideal.Frame
public import proofs.«01_k».proof.Proof.Gen.Reference3Ideal.Run
public import proofs.«01_k».proof.Proof.Gen.Kernel4
public import proofs.«01_k».proof.Proof.Gen.Kernel4Ideal.Frame
public import proofs.«01_k».proof.Proof.Gen.Reference4Ideal.Run

@[expose] public section

set_option maxRecDepth 100000

noncomputable section

namespace Cert.Proof.Ffn

open Idealize.ShloMosaic Idealize.SL.Sem

/-! For each feed-forward program: the kernel's body and the ideal kernel's are the same text, so the run that holds
over any float values gives both frames. -/

namespace First

theorem body_eq : @Cert.Kernel2.cc0_ffn Bits _ _ = @Cert.Kernel2Ideal.cc0_ffn Bits _ _ := rfl

theorem bodies_eq : Cert.Kernel2.defs₀ (F := Bits) = Cert.Kernel2Ideal.defs₀ (F := Bits) := by
  unfold Cert.Kernel2.defs₀ Cert.Kernel2Ideal.defs₀
  refine congrArg Defs.onTc ?_
  funext l a
  match l, a with
  | 0, (t, s) =>
    exact congrFun (congrFun (congrFun (congrFun (congrFun (congrFun (congrFun (congrFun (congrFun (congrFun (congrFun (congrFun (congrFun body_eq _) _) _) _) _) _) _) _) _) _) _) _) _

theorem defs_eq : Cert.Kernel2.defs (F := Bits) = Cert.Kernel2Ideal.defs (F := Bits) :=
  congrArg (Pipeline.defs Cert.Kernel2Ideal.pcfgs) bodies_eq

theorem frame_kernel : Cert.quiescent_Kernel2 := by
  intro m ρ _
  rw [show Cert.Kernel2.defs (F := Bits) = Cert.Kernel2Ideal.defs (F := Bits) from defs_eq]
  exact Cert.Kernel2Ideal.Gen.frame (F := Bits) m ρ

theorem frame_ideal : Cert.quiescent_Kernel2Ideal :=
  fun m ρ _ => Cert.Kernel2Ideal.Gen.frame (F := Ideal) m ρ

theorem frame_reference : Cert.quiescent_Reference2Ideal :=
  fun m ρ _ => (θ_run Cert.Reference2Ideal.defs _ _).mono (fun r h => ⟨fun c => (h c).2, sem_eq_zero_of_no_sems (by decide) r.2⟩)
    (Cert.Reference2Ideal.Value.run (F := Ideal) m ρ)

end First

namespace Attn

theorem body_eq : @Cert.Kernel3.cc0_ffn Bits _ _ = @Cert.Kernel3Ideal.cc0_ffn Bits _ _ := rfl

theorem bodies_eq : Cert.Kernel3.defs₀ (F := Bits) = Cert.Kernel3Ideal.defs₀ (F := Bits) := by
  unfold Cert.Kernel3.defs₀ Cert.Kernel3Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun body_eq _) _) _) _) _) _) _) _) _) _) _) _) _) _) _) _) _

theorem defs_eq : Cert.Kernel3.defs (F := Bits) = Cert.Kernel3Ideal.defs (F := Bits) :=
  congrArg (Pipeline.defs Cert.Kernel3Ideal.pcfgs) bodies_eq

theorem frame_kernel : Cert.quiescent_Kernel3 := by
  intro m ρ _
  rw [show Cert.Kernel3.defs (F := Bits) = Cert.Kernel3Ideal.defs (F := Bits) from defs_eq]
  exact Cert.Kernel3Ideal.Gen.frame (F := Bits) m ρ

theorem frame_ideal : Cert.quiescent_Kernel3Ideal :=
  fun m ρ _ => Cert.Kernel3Ideal.Gen.frame (F := Ideal) m ρ

theorem frame_reference : Cert.quiescent_Reference3Ideal :=
  fun m ρ _ => (θ_run Cert.Reference3Ideal.defs _ _).mono (fun r h => ⟨fun c => (h c).2, sem_eq_zero_of_no_sems (by decide) r.2⟩)
    (Cert.Reference3Ideal.Value.run (F := Ideal) m ρ)

end Attn

namespace Ssm

theorem body_eq : @Cert.Kernel4.cc0_ffn Bits _ _ = @Cert.Kernel4Ideal.cc0_ffn Bits _ _ := rfl

theorem bodies_eq : Cert.Kernel4.defs₀ (F := Bits) = Cert.Kernel4Ideal.defs₀ (F := Bits) := by
  unfold Cert.Kernel4.defs₀ Cert.Kernel4Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun body_eq _) _) _) _) _) _) _) _) _) _) _) _) _) _) _) _) _

theorem defs_eq : Cert.Kernel4.defs (F := Bits) = Cert.Kernel4Ideal.defs (F := Bits) :=
  congrArg (Pipeline.defs Cert.Kernel4Ideal.pcfgs) bodies_eq

theorem frame_kernel : Cert.quiescent_Kernel4 := by
  intro m ρ _
  rw [show Cert.Kernel4.defs (F := Bits) = Cert.Kernel4Ideal.defs (F := Bits) from defs_eq]
  exact Cert.Kernel4Ideal.Gen.frame (F := Bits) m ρ

theorem frame_ideal : Cert.quiescent_Kernel4Ideal :=
  fun m ρ _ => Cert.Kernel4Ideal.Gen.frame (F := Ideal) m ρ

theorem frame_reference : Cert.quiescent_Reference4Ideal :=
  fun m ρ _ => (θ_run Cert.Reference4Ideal.defs _ _).mono (fun r h => ⟨fun c => (h c).2, sem_eq_zero_of_no_sems (by decide) r.2⟩)
    (Cert.Reference4Ideal.Value.run (F := Ideal) m ρ)

end Ssm

end Cert.Proof.Ffn
end
-- ==== Proof.Ffn.Spec.lean ====
module

public import Idealize.ShloMosaic.Lib.Pointwise

@[expose] public section

noncomputable section

namespace Cert.Proof.Ffn

open Idealize.ShloMosaic

/-- The root-mean-square norm of a row, scaled: the mean of the squares plus the given constant, one over its
    square root. -/
def nrmRow (y g : Fin 1024 → EReal) (i : Fin 1024) : EReal :=
  y i * Ideal.rsqrt (Ideal.div (∑ k : Fin 1024, y k * y k) (Ideal.ofBits .f32 0x44800000#32) + Ideal.ofBits .f32 0x358637BD#32) * g i

/-- One inner unit of the feed-forward part: the gate, through its sigmoid, times the other projection. -/
def unit (n : Fin 1024 → EReal) (a b : Fin 1024 → EReal) : EReal :=
  (∑ i : Fin 1024, n i * a i) * Ideal.logistic (∑ i : Fin 1024, n i * a i) * ∑ i : Fin 1024, n i * b i

/-- One row of the feed-forward part: the row plus half of the down projection of the inner units. -/
def ffnRow (y g : Fin 1024 → EReal) (wg wu : Fin 1024 → Fin 2816 → EReal) (wd : Fin 2816 → Fin 1024 → EReal) (j : Fin 1024) : EReal :=
  y j + Ideal.ofBits .f32 0x3F000000#32
    * ∑ c : Fin 2816, unit (nrmRow y g) (fun i => wg i c) (fun i => wu i c) * wd c j

/-- A sum over the inner units, cut in eleven blocks. -/
theorem sum_blocks (f : Fin 2816 → EReal) :
    ∑ k ∈ Finset.range 11, ∑ c : Fin 256, f (Fin.ofNat 2816 (256 * k + c.val)) = ∑ c : Fin 2816, f c := by
  rw [Fin.sum_univ_tiles 11 256 rfl f, Finset.sum_range fun k => ∑ c : Fin 256, f (Fin.ofNat 2816 (256 * k + c.val))]
  refine Finset.sum_congr rfl fun k _ => Finset.sum_congr rfl fun c _ => congrArg f (Fin.ext ?_)
  have := k.isLt
  have := c.isLt
  show (256 * k.val + c.val) % 2816 = k.val * 256 + c.val
  omega

end Cert.Proof.Ffn
end
-- ==== Proof.Ffn.Ref.lean ====
module

public import proofs.«01_k».proof.Proof.Ffn.Spec
public import proofs.«01_k».proof.Proof.Gen.Reference2Ideal.Read

@[expose] public section

set_option maxRecDepth 65536

noncomputable section

namespace Cert.Proof.Ffn

open Idealize.ShloMosaic Idealize.SL.Sem Cert.Reference2Ideal Cert.Reference2Ideal.Read

theorem one_bits : Ideal.ofBits .f32 0x3F800000#32 = 1 := by
  simp [Ideal.ofBits, Ideal.ieee, -EReal.coe_mul]
  norm_num

variable (x0 : S16x2048x1024.Idx → EReal) (x1 : S1024.Idx → EReal) (x2 x3 : S1024x2816.Idx → EReal) (x4 : S2816x1024.Idx → EReal)

theorem ref_nrm (b : Fin 16) (t : Fin 2048) (i : Fin 1024) :
    val_main_v12 (F := Ideal) x0 x1 (ix3 b t i) = nrmRow (fun k => x0 (ix3 b t k)) (fun k => x1 (ix1 k)) i := by
  unfold nrmRow
  pointwise [val_main_v12, val_main_v11, val_main_v10, val_main_v9, val_main_v8, val_main_v7, val_main_v6, val_main_v5, val_main_cst_1, val_main_v4, val_main_v3,
    val_main_cst_0, val_main_v2, val_main_v1, val_main_cst, val_main_v0]

theorem ref_unit (b : Fin 16) (t : Fin 2048) (c : Fin 2816) :
    val_main_v16 (F := Ideal) x0 x1 x2 x3 (ix3 b t c)
      = unit (nrmRow (fun k => x0 (ix3 b t k)) (fun k => x1 (ix1 k))) (fun i => x2 (ix2 i c)) (fun i => x3 (ix2 i c)) := by
  have e : unit (fun i => val_main_v12 (F := Ideal) x0 x1 (ix3 b t i)) (fun i => x2 (ix2 i c)) (fun i => x3 (ix2 i c))
      = unit (nrmRow (fun k => x0 (ix3 b t k)) (fun k => x1 (ix1 k))) (fun i => x2 (ix2 i c)) (fun i => x3 (ix2 i c)) := by
    simp only [ref_nrm]
  rw [← e]
  unfold unit Ideal.logistic
  generalize hy : (val_main_v12 (F := Ideal) x0 x1 : S16x2048x1024.Idx → EReal) = y
  rw [← one_bits]
  pointwise [val_main_v16, val_main_v15, val_main_v14, val_main_call0_v5, val_main_call0_v4, val_main_call0_cst_0, val_main_call0_v3, val_main_call0_v2,
    val_main_call0_cst, val_main_call0_v1, val_main_call0_v0, val_main_v13]
  simp only [hy]

theorem ref_row (b : Fin 16) (t : Fin 2048) (j : Fin 1024) :
    val_main_v20 (F := Ideal) x0 x1 x2 x3 x4 (ix3 b t j)
      = ffnRow (fun k => x0 (ix3 b t k)) (fun k => x1 (ix1 k)) (fun i c => x2 (ix2 i c)) (fun i c => x3 (ix2 i c)) (fun c i => x4 (ix2 c i)) j := by
  unfold ffnRow
  simp only [← ref_unit]
  pointwise [val_main_v20, val_main_v19, val_main_v18, val_main_cst_2, val_main_v17]

theorem ref_apply (R : Fin 32768) (j : Fin 1024) :
    val_main_v21 (F := Ideal) x0 x1 x2 x3 x4 (ix2 R j)
      = ffnRow (fun k => x0 (ix3 ⟨R.val / 2048, by omega⟩ ⟨R.val % 2048, by omega⟩ k)) (fun k => x1 (ix1 k)) (fun i c => x2 (ix2 i c)) (fun i c => x3 (ix2 i c))
          (fun c i => x4 (ix2 c i)) j := by
  rw [← ref_row]
  pointwise [val_main_v21]

end Cert.Proof.Ffn
end
-- ==== Proof.Ffn.Core.lean ====
module

public import proofs.«01_k».proof.Proof.Ffn.Spec
public import proofs.«01_k».proof.Proof.Gen.Kernel2Ideal.Frame
public import Idealize.ShloMosaic.Lib.Pipeline.Value
public import Idealize.ShloMosaic.Lib.Pipeline.ValueKit.Basic

@[expose] public section

set_option maxRecDepth 65536

noncomputable section

namespace Cert.Proof.Ffn

open Idealize.ShloMosaic Idealize.SL.Sem Cert.Kernel2Ideal Cert.Kernel2Ideal.Gen

/-- 256 columns of a weight, from a given one. -/
def colsOf (w : S1024x2816.Idx → EReal) (off : ℕ) : S1024x256.Idx → EReal :=
  fun i => w (ix2 (i 0) (Fin.ofNat 2816 (off + (i 1).val)))

/-- 256 rows of a weight, from a given one. -/
def rowsOf (w : S2816x1024.Idx → EReal) (off : ℕ) : S256x1024.Idx → EReal :=
  fun i => w (ix2 (Fin.ofNat 2816 (off + (i 0).val)) (i 1))

theorem ld_cols (w : Vec Ideal S1024x2816 .bf16) (off : ℕ) (inb) :
    View.ld w (Rect.unit (s := S1024x2816) ![0, off] S1024x256.size inb) = colsOf w off := by
  funext i
  have h : off + 256 ≤ 2816 := inb 1
  have h1 : (i 1).val < 256 := (i 1).isLt
  refine congrArg w (funext fun a => Fin.ext ?_)
  match a with
  | ⟨0, _⟩ => show 0 + 1 * (i 0).val = (i 0).val; omega
  | ⟨1, _⟩ => show off + 1 * (i 1).val = (off + (i 1).val) % 2816; omega

theorem ld_rows (w : Vec Ideal S2816x1024 .bf16) (off : ℕ) (inb) :
    View.ld w (Rect.unit (s := S2816x1024) ![off, 0] S256x1024.size inb) = rowsOf w off := by
  funext i
  have h : off + 256 ≤ 2816 := inb 0
  have h1 : (i 0).val < 256 := (i 0).isLt
  refine congrArg w (funext fun a => Fin.ext ?_)
  match a with
  | ⟨0, _⟩ => show off + 1 * (i 0).val = (off + (i 0).val) % 2816; omega
  | ⟨1, _⟩ => show 0 + 1 * (i 1).val = (i 1).val; omega

/-- The rows of all sequences set below one another. -/
theorem rows_apply (y : S16x2048x1024.Idx → EReal) (h) (R : Fin 32768) (k : Fin 1024) :
    shapeCast S32768x1024 y h (ix2 R k) = y (ix3 ⟨R.val / 2048, by omega⟩ ⟨R.val % 2048, by omega⟩ k) := by
  pointwise

theorem gain_apply (y : S1024.Idx → EReal) (h) (k : Fin 1024) : broadcastInDim S1x1024 ![1] h y (ix2 0 k) = y (ix1 k) := by
  pointwise

/-- The contribution of one block of inner units, added to what the blocks before it gave. -/
def step (n : FVec Ideal S512x1024 .bf16) (a b : FVec Ideal S1024x256 .bf16) (d : FVec Ideal S256x1024 .bf16) (acc : FVec Ideal S512x1024 .f32) :
    FVec Ideal S512x1024 .f32 :=
  let G : FVec Ideal S512x256 .f32 := matmul dot_S512x1024_S1024x256_S512x256_1_0_0_1_n_n none n a (constant S512x256 .f32 0x00000000#32)
  let U : FVec Ideal S512x256 .f32 := matmul dot_S512x1024_S1024x256_S512x256_1_0_0_1_n_n none n b (constant S512x256 .f32 0x00000000#32)
  addf acc (matmul dot_S512x256_S256x1024_S512x1024_1_0_0_1_n_n none (truncf .bf16 (mulf (mulf G (logistic G)) U) bitsLt_bf16_f32) d
    (constant S512x1024 .f32 0x00000000#32))

/-- The first blocks of inner units, summed. -/
def blocks (n : FVec Ideal S512x1024 .bf16) (wg wu : FVec Ideal S1024x2816 .bf16) (wd : FVec Ideal S2816x1024 .bf16) : ℕ → FVec Ideal S512x1024 .f32
  | 0 => broadcast S512x1024 (Scalar.ofBits (F := Ideal) .f32 0x00000000#32)
  | k + 1 => step n (colsOf wg (256 * k)) (colsOf wu (256 * k)) (rowsOf wd (256 * k)) (blocks n wg wu wd k)

/-- What one grid point computes from its rows and the weights. -/
def core (y : FVec Ideal S512x1024 .f32) (g : FVec Ideal S1x1024 .f32) (wg wu : FVec Ideal S1024x2816 .bf16) (wd : FVec Ideal S2816x1024 .bf16) :
    FVec Ideal S512x1024 .f32 :=
  addf y (mulf (broadcast S512x1024 (Scalar.ofBits (F := Ideal) .f32 0x3F000000#32)) (blocks (k0_pay3 y g) wg wu wd 11))

theorem out2_eq (x0 : Vec Ideal S512x1024 .f32) (x1 : Vec Ideal S1x1024 .f32) (x2 x3 : Vec Ideal S1024x2816 .bf16) (x4 : Vec Ideal S2816x1024 .bf16) :
    out0_5 x0 x1 x2 x3 x4 = core x0 x1 x2 x3 x4 := by
  unfold out0_5 k0_pay12
  rw [View.canon_cons_unit_lit _ _ _ (by decide)]
  simp only [ld_cols, ld_rows]
  rw [View.ld_unit_lit _ x0 (by decide), View.ld_unit_lit _ x1 (by decide)]
  simp only [k0_pay1, k0_pay2, k0_pay4, k0_pay5, k0_pay6, k0_pay7, k0_pay8, k0_pay9, k0_pay10, k0_pay11, shapeCast_self]
  rfl

theorem nrm_apply (y : FVec Ideal S512x1024 .f32) (g : FVec Ideal S1x1024 .f32) (r : Fin 512) (i : Fin 1024) :
    k0_pay3 (F := Ideal) y g (ix2 r i) = nrmRow (fun k => y (ix2 r k)) (fun k => g (ix2 0 k)) i := by
  unfold nrmRow
  pointwise [k0_pay3, k0_pay2]

theorem step_apply (n : FVec Ideal S512x1024 .bf16) (a b : FVec Ideal S1024x256 .bf16) (d : FVec Ideal S256x1024 .bf16) (acc : FVec Ideal S512x1024 .f32)
    (r : Fin 512) (j : Fin 1024) :
    step n a b d acc (ix2 r j) = acc (ix2 r j)
      + ∑ c : Fin 256, unit (fun i => n (ix2 r i)) (fun i => a (ix2 i c)) (fun i => b (ix2 i c)) * d (ix2 c j) := by
  unfold unit
  pointwise [step]

theorem blocks_apply (n : FVec Ideal S512x1024 .bf16) (wg wu : FVec Ideal S1024x2816 .bf16) (wd : FVec Ideal S2816x1024 .bf16) (r : Fin 512) (j : Fin 1024) :
    ∀ k : ℕ, blocks n wg wu wd k (ix2 r j) = ∑ k ∈ Finset.range k, ∑ c : Fin 256,
      (fun c : Fin 2816 => unit (fun i => n (ix2 r i)) (fun i => wg (ix2 i c)) (fun i => wu (ix2 i c)) * wd (ix2 c j)) (Fin.ofNat 2816 (256 * k + c.val))
  | 0 => by
    rw [Finset.sum_range_zero]
    pointwise [blocks]
  | k + 1 => by
    rw [Finset.sum_range_succ, ← blocks_apply n wg wu wd r j k]
    exact step_apply _ _ _ _ _ _ _

theorem core_apply (y : FVec Ideal S512x1024 .f32) (g : FVec Ideal S1x1024 .f32) (wg wu : FVec Ideal S1024x2816 .bf16) (wd : FVec Ideal S2816x1024 .bf16)
    (r : Fin 512) (j : Fin 1024) :
    core y g wg wu wd (ix2 r j) = ffnRow (fun k => y (ix2 r k)) (fun k => g (ix2 0 k)) (fun i c => wg (ix2 i c)) (fun i c => wu (ix2 i c)) (fun c i => wd (ix2 c i)) j := by
  refine congrArg (fun s => y (ix2 r j) + Ideal.ofBits .f32 0x3F000000#32 * s) ((blocks_apply (k0_pay3 (F := Ideal) y g) wg wu wd r j 11).trans ((sum_blocks fun c : Fin 2816 => unit (fun i => k0_pay3 (F := Ideal) y g (ix2 r i)) (fun i => wg (ix2 i c)) (fun i => wu (ix2 i c)) * wd (ix2 c j)).trans ?_))
  simp only [nrm_apply]

end Cert.Proof.Ffn
end
-- ==== Proof.Ffn.First.lean ====
module

public import proofs.«01_k».proof.Proof.Ffn.Ref
public import proofs.«01_k».proof.Proof.Ffn.Core
public import proofs.«01_k».proof.Proof.Gen.Kernel2Ideal.Value
public import Idealize.ShloMosaic.Lib.Pipeline.ValueKit.Geometry

@[expose] public section

set_option maxRecDepth 65536

noncomputable section

namespace Cert.Proof.Ffn.First

open Idealize.ShloMosaic Idealize.SL.Sem Idealize.ShloMosaic.Pipeline Idealize.ShloMosaic.TcCoe Cert.Kernel2Ideal Cert.Kernel2Ideal.Gen

variable (m : (ℓ : Loc nD τ sig) → Buf (Elt Ideal) ℓ)

/-! ## The arrays the kernel finds -/

theorem V0 (c : Dev nD) (R : Fin 32768) (k : Fin 1024) :
    V m c main_v0 (ix2 R k) = (m ((c : Thread nD τ).loc main_arg0) : S16x2048x1024.Idx → EReal) (ix3 ⟨R.val / 2048, by omega⟩ ⟨R.val % 2048, by omega⟩ k) := by
  have e : V m c main_v0 = shapeCast S32768x1024 (m ((c : Thread nD τ).loc main_arg0) : S16x2048x1024.Idx → EReal) shapeCasts_S16x2048x1024_S32768x1024 := by
    simp only [V, hostOps0]
    after_results_simp
    rfl
  rw [e]
  exact rows_apply _ _ R k

theorem V1 (c : Dev nD) (k : Fin 1024) :
    V m c main_v1 (ix2 0 k) = (m ((c : Thread nD τ).loc main_arg1) : S1024.Idx → EReal) (ix1 k) := by
  have e : V m c main_v1 = broadcastInDim S1x1024 ![1] bcast_S1024_S1x1024_1 (m ((c : Thread nD τ).loc main_arg1) : S1024.Idx → EReal) := by
    simp only [V, hostOps0]
    after_results_simp
  rw [e]
  exact gain_apply _ _ k

theorem V2 (c : Dev nD) : V m c main_v2 = m ((c : Thread nD τ).loc main_arg2) := by
  simp only [V, hostOps0]
  after_results_simp
  rfl

theorem V3 (c : Dev nD) : V m c main_v3 = m ((c : Thread nD τ).loc main_arg3) := by
  simp only [V, hostOps0]
  after_results_simp
  rfl

theorem V4 (c : Dev nD) : V m c main_v4 = m ((c : Thread nD τ).loc main_arg4) := by
  simp only [V, hostOps0]
  after_results_simp
  rfl

/-! ## The windows' blocks -/

/-- The grid point of a row. -/
def pt (R : Fin 32768) : Fin cfg0.N := ⟨R.val / 512, by have := R.isLt; show _ < 64; omega⟩

/-- The row within its block. -/
def rowIn (R : Fin 32768) : Fin 512 := ⟨R.val % 512, by omega⟩

theorem idx_facts : ∀ t : Fin cfg0.N, win0_0.index t = ![t.val, 0]
    ∧ win0_1.index t = ![0, 0]
    ∧ win0_2.index t = ![0, 0]
    ∧ win0_3.index t = ![0, 0]
    ∧ win0_4.index t = ![0, 0]
    ∧ win0_5.index t = ![t.val, 0]
    ∧ (cfg0.win 5).flush t = true :=
  (by decide +kernel : ∀ t : Fin grid0.N, _)

theorem emb0 (R : Fin 32768) (k : Fin 1024) : ((cfg0.win 0).blk (pt R)).view.emb (ix2 (rowIn R) k) = ix2 R k := by
  have e := (idx_facts (pt R)).1
  funext a; apply Fin.ext
  match a with
  | ⟨0, _⟩ => show win0_0.index (pt R) (0 : Fin 2) * 512 + 1 * (R.val % 512) = R.val; rw [e]; show R.val / 512 * 512 + 1 * (R.val % 512) = R.val; omega
  | ⟨1, _⟩ => show win0_0.index (pt R) (1 : Fin 2) * 1024 + 1 * k.val = k.val; rw [e]; show 0 * 1024 + 1 * k.val = k.val; omega

theorem emb1 (R : Fin 32768) (i : Fin 1) (k : Fin 1024) : ((cfg0.win 1).blk (pt R)).view.emb (ix2 i k) = ix2 i k := by
  have e := (idx_facts (pt R)).2.1
  funext a; apply Fin.ext
  match a with
  | ⟨0, _⟩ => show win0_1.index (pt R) (0 : Fin 2) * 1 + 1 * i.val = i.val; rw [e]; show 0 * 1 + 1 * i.val = i.val; omega
  | ⟨1, _⟩ => show win0_1.index (pt R) (1 : Fin 2) * 1024 + 1 * k.val = k.val; rw [e]; show 0 * 1024 + 1 * k.val = k.val; omega

theorem emb2 (R : Fin 32768) (i : Fin 1024) (k : Fin 2816) : ((cfg0.win 2).blk (pt R)).view.emb (ix2 i k) = ix2 i k := by
  have e := (idx_facts (pt R)).2.2.1
  funext a; apply Fin.ext
  match a with
  | ⟨0, _⟩ => show win0_2.index (pt R) (0 : Fin 2) * 1024 + 1 * i.val = i.val; rw [e]; show 0 * 1024 + 1 * i.val = i.val; omega
  | ⟨1, _⟩ => show win0_2.index (pt R) (1 : Fin 2) * 2816 + 1 * k.val = k.val; rw [e]; show 0 * 2816 + 1 * k.val = k.val; omega

theorem emb3 (R : Fin 32768) (i : Fin 1024) (k : Fin 2816) : ((cfg0.win 3).blk (pt R)).view.emb (ix2 i k) = ix2 i k := by
  have e := (idx_facts (pt R)).2.2.2.1
  funext a; apply Fin.ext
  match a with
  | ⟨0, _⟩ => show win0_3.index (pt R) (0 : Fin 2) * 1024 + 1 * i.val = i.val; rw [e]; show 0 * 1024 + 1 * i.val = i.val; omega
  | ⟨1, _⟩ => show win0_3.index (pt R) (1 : Fin 2) * 2816 + 1 * k.val = k.val; rw [e]; show 0 * 2816 + 1 * k.val = k.val; omega

theorem emb4 (R : Fin 32768) (i : Fin 2816) (k : Fin 1024) : ((cfg0.win 4).blk (pt R)).view.emb (ix2 i k) = ix2 i k := by
  have e := (idx_facts (pt R)).2.2.2.2.1
  funext a; apply Fin.ext
  match a with
  | ⟨0, _⟩ => show win0_4.index (pt R) (0 : Fin 2) * 2816 + 1 * i.val = i.val; rw [e]; show 0 * 2816 + 1 * i.val = i.val; omega
  | ⟨1, _⟩ => show win0_4.index (pt R) (1 : Fin 2) * 1024 + 1 * k.val = k.val; rw [e]; show 0 * 1024 + 1 * k.val = k.val; omega

theorem emb5 (R : Fin 32768) (k : Fin 1024) : ((cfg0.win 5).blk (pt R)).view.emb (ix2 (rowIn R) k) = ix2 R k := by
  have e := (idx_facts (pt R)).2.2.2.2.2.1
  funext a; apply Fin.ext
  match a with
  | ⟨0, _⟩ => show win0_5.index (pt R) (0 : Fin 2) * 512 + 1 * (R.val % 512) = R.val; rw [e]; show R.val / 512 * 512 + 1 * (R.val % 512) = R.val; omega
  | ⟨1, _⟩ => show win0_5.index (pt R) (1 : Fin 2) * 1024 + 1 * k.val = k.val; rw [e]; show 0 * 1024 + 1 * k.val = k.val; omega

theorem blk0 (c : Dev nD) (R : Fin 32768) (k : Fin 1024) :
    iblk m c 0 (pt R) (ix2 (rowIn R) k) = (m ((c : Thread nD τ).loc main_arg0) : S16x2048x1024.Idx → EReal) (ix3 ⟨R.val / 2048, by omega⟩ ⟨R.val % 2048, by omega⟩ k) := by
  show V m c main_v0 (((cfg0.win 0).blk (pt R)).view.emb (ix2 (rowIn R) k)) = _
  rw [emb0, V0]

theorem blk1 (c : Dev nD) (R : Fin 32768) (k : Fin 1024) :
    iblk m c 1 (pt R) (ix2 0 k) = (m ((c : Thread nD τ).loc main_arg1) : S1024.Idx → EReal) (ix1 k) := by
  show V m c main_v1 (((cfg0.win 1).blk (pt R)).view.emb (ix2 0 k)) = _
  rw [emb1, V1]

theorem blk2 (c : Dev nD) (R : Fin 32768) (i : Fin 1024) (k : Fin 2816) :
    iblk m c 2 (pt R) (ix2 i k) = (m ((c : Thread nD τ).loc main_arg2) : S1024x2816.Idx → EReal) (ix2 i k) := by
  show V m c main_v2 (((cfg0.win 2).blk (pt R)).view.emb (ix2 i k)) = _
  rw [emb2, V2]

theorem blk3 (c : Dev nD) (R : Fin 32768) (i : Fin 1024) (k : Fin 2816) :
    iblk m c 3 (pt R) (ix2 i k) = (m ((c : Thread nD τ).loc main_arg3) : S1024x2816.Idx → EReal) (ix2 i k) := by
  show V m c main_v3 (((cfg0.win 3).blk (pt R)).view.emb (ix2 i k)) = _
  rw [emb3, V3]

theorem blk4 (c : Dev nD) (R : Fin 32768) (i : Fin 2816) (k : Fin 1024) :
    iblk m c 4 (pt R) (ix2 i k) = (m ((c : Thread nD τ).loc main_arg4) : S2816x1024.Idx → EReal) (ix2 i k) := by
  show V m c main_v4 (((cfg0.win 4).blk (pt R)).view.emb (ix2 i k)) = _
  rw [emb4, V4]

/-- The two results agree, element by element. -/
theorem results_eq (c : Dev nD) (x0 : S16x2048x1024.Idx → EReal) (x1 : S1024.Idx → EReal) (x2 : S1024x2816.Idx → EReal) (x3 : S1024x2816.Idx → EReal) (x4 : S2816x1024.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) :
    (Cert.Reference2Ideal.Read.val_main_v21 (F := Ideal) x0 x1 x2 x3 x4 : S32768x1024.Idx → EReal) = (dats m 0 c).arrAt 5 cfg0.N := by
  funext i
  obtain ⟨R, j, rfl⟩ : ∃ (R : Fin 32768) (j : Fin 1024), i = ix2 R j := ⟨i 0, i 1, by
    funext a
    match a with
    | ⟨0, _⟩ => rfl
    | ⟨1, _⟩ => rfl⟩
  have hb := congrFun (Cert.Kernel2Ideal.Value.blocks5 m c (pt R) (idx_facts (pt R)).2.2.2.2.2.2) (ix2 (rowIn R) j)
  rw [Cert.Kernel2Ideal.Value.flushed5, out2_eq] at hb
  have hb' : (dats m 0 c).arrAt 5 cfg0.N (((cfg0.win 5).blk (pt R)).view.emb (ix2 (rowIn R) j)) = core (iblk m c 0 (pt R)) (iblk m c 1 (pt R)) (iblk m c 2 (pt R)) (iblk m c 3 (pt R)) (iblk m c 4 (pt R)) (ix2 (rowIn R) j) := hb
  rw [emb5, core_apply] at hb'
  rw [hb', ref_apply]
  simp only [blk0, blk1, blk2, blk3, blk4]
  subst h0 h1 h2 h3 h4
  rfl

end Cert.Proof.Ffn.First
end
-- ==== Proof.Ffn.Mix.lean ====
module

public import proofs.«01_k».proof.Proof.Ffn.Core
public import proofs.«01_k».proof.Proof.Ffn.Ref
public import proofs.«01_k».proof.Proof.Gen.Kernel3Ideal.Frame
public import proofs.«01_k».proof.Proof.Gen.Kernel4Ideal.Frame
public import proofs.«01_k».proof.Proof.Gen.Reference3Ideal.Read
public import proofs.«01_k».proof.Proof.Gen.Reference4Ideal.Read

@[expose] public section

set_option maxRecDepth 65536

noncomputable section

namespace Cert.Proof.Ffn

open Idealize.ShloMosaic Idealize.SL.Sem

section Attn

open Cert.Kernel3Ideal Cert.Kernel3Ideal.Gen

/-- What one grid point computes where the mixer's output is projected and added first. -/
def core3 (x0 : FVec Ideal S512x1024 .f32) (x1 : FVec Ideal S512x1024 .bf16) (x2 : FVec Ideal S1024x1024 .bf16) (x3 : FVec Ideal S1x1024 .f32)
    (x4 x5 : FVec Ideal S1024x2816 .bf16) (x6 : FVec Ideal S2816x1024 .bf16) : FVec Ideal S512x1024 .f32 :=
  core (k0_pay1 x0 x1 x2) x3 x4 x5 x6

theorem nrm3_eq (x0 : FVec Ideal S512x1024 .f32) (x1 : FVec Ideal S512x1024 .bf16) (x2 : FVec Ideal S1024x1024 .bf16) (x3 : FVec Ideal S1x1024 .f32) :
    k0_pay2 (F := Ideal) x0 x1 x2 x3 = Cert.Kernel2Ideal.Gen.k0_pay3 (F := Ideal) (k0_pay1 (F := Ideal) x0 x1 x2) x3 := by
  unfold k0_pay2 Cert.Kernel2Ideal.Gen.k0_pay3 Cert.Kernel2Ideal.Gen.k0_pay2
  simp only [shapeCast_self]

theorem out3_eq (x0 : Vec Ideal S512x1024 .f32) (x1 : Vec Ideal S512x1024 .bf16) (x2 : Vec Ideal S1024x1024 .bf16) (x3 : Vec Ideal S1x1024 .f32)
    (x4 x5 : Vec Ideal S1024x2816 .bf16) (x6 : Vec Ideal S2816x1024 .bf16) :
    out0_7 x0 x1 x2 x3 x4 x5 x6 = core3 x0 x1 x2 x3 x4 x5 x6 := by
  unfold out0_7 k0_pay14
  rw [View.canon_cons_unit_lit _ _ _ (by decide)]
  simp only [ld_cols, ld_rows]
  rw [View.ld_unit_lit _ x0 (by decide), View.ld_unit_lit _ x1 (by decide), View.ld_unit_lit _ x2 (by decide), View.ld_unit_lit _ x3 (by decide)]
  simp only [k0_pay3, k0_pay4, k0_pay5, k0_pay6, k0_pay7, k0_pay8, k0_pay9, k0_pay10, k0_pay11, k0_pay12, k0_pay13, shapeCast_self]
  unfold core3 core
  rw [nrm3_eq]
  generalize Cert.Kernel2Ideal.Gen.k0_pay3 (F := Ideal) (k0_pay1 (F := Ideal) x0 x1 x2) x3 = n
  generalize k0_pay1 (F := Ideal) x0 x1 x2 = y
  simp only [blocks, step]
  rfl

theorem mix3_apply (x0 : FVec Ideal S512x1024 .f32) (x1 : FVec Ideal S512x1024 .bf16) (x2 : FVec Ideal S1024x1024 .bf16) (r : Fin 512) (i : Fin 1024) :
    k0_pay1 (F := Ideal) x0 x1 x2 (ix2 r i) = x0 (ix2 r i) + ∑ k : Fin 1024, x1 (ix2 r k) * x2 (ix2 k i) := by
  pointwise [k0_pay1]

theorem core3_apply (x0 : FVec Ideal S512x1024 .f32) (x1 : FVec Ideal S512x1024 .bf16) (x2 : FVec Ideal S1024x1024 .bf16) (x3 : FVec Ideal S1x1024 .f32)
    (x4 x5 : FVec Ideal S1024x2816 .bf16) (x6 : FVec Ideal S2816x1024 .bf16) (r : Fin 512) (j : Fin 1024) :
    core3 x0 x1 x2 x3 x4 x5 x6 (ix2 r j) = ffnRow (fun i => x0 (ix2 r i) + ∑ k : Fin 1024, x1 (ix2 r k) * x2 (ix2 k i)) (fun k => x3 (ix2 0 k))
      (fun i c => x4 (ix2 i c)) (fun i c => x5 (ix2 i c)) (fun c i => x6 (ix2 c i)) j := by
  refine (core_apply _ _ _ _ _ r j).trans ?_
  simp only [mix3_apply]

end Attn

section AttnRef

open Cert.Reference3Ideal Cert.Reference3Ideal.Read

variable (x0 x1 : S16x2048x1024.Idx → EReal) (x2 : S1024x1024.Idx → EReal) (x3 : S1024.Idx → EReal) (x4 x5 : S1024x2816.Idx → EReal) (x6 : S2816x1024.Idx → EReal)

theorem ref3_apply (R : Fin 32768) (j : Fin 1024) :
    val_main_v23 (F := Ideal) x0 x1 x2 x3 x4 x5 x6 (ix2 R j)
      = ffnRow (fun i => x0 (ix3 ⟨R.val / 2048, by omega⟩ ⟨R.val % 2048, by omega⟩ i)
            + ∑ k : Fin 1024, x1 (ix3 ⟨R.val / 2048, by omega⟩ ⟨R.val % 2048, by omega⟩ k) * x2 (ix2 k i)) (fun k => x3 (ix1 k))
          (fun i c => x4 (ix2 i c)) (fun i c => x5 (ix2 i c)) (fun c i => x6 (ix2 c i)) j := by
  have e : val_main_v23 (F := Ideal) x0 x1 x2 x3 x4 x5 x6 = Cert.Reference2Ideal.Read.val_main_v21 (F := Ideal) (val_main_v1 (F := Ideal) x0 x1 x2) x3 x4 x5 x6 := rfl
  have h : ∀ (b : Fin 16) (t : Fin 2048) (i : Fin 1024), val_main_v1 (F := Ideal) x0 x1 x2 (ix3 b t i) = x0 (ix3 b t i) + ∑ k : Fin 1024, x1 (ix3 b t k) * x2 (ix2 k i) := by
    intro b t i
    pointwise [val_main_v1, val_main_v0]
  rw [e]
  refine (ref_apply _ _ _ _ _ R j).trans ?_
  simp only [h]

end AttnRef

section Ssm

open Cert.Kernel4Ideal Cert.Kernel4Ideal.Gen

theorem wide_apply (y : S16x2048x2048.Idx → EReal) (h) (R : Fin 32768) (k : Fin 2048) :
    shapeCast S32768x2048 y h (ix2 R k) = y (ix3 ⟨R.val / 2048, by omega⟩ ⟨R.val % 2048, by omega⟩ k) := by
  pointwise

/-- The same, the mixer's output twice as wide. -/
def core4 (x0 : FVec Ideal S512x1024 .f32) (x1 : FVec Ideal S512x2048 .bf16) (x2 : FVec Ideal S2048x1024 .bf16) (x3 : FVec Ideal S1x1024 .f32)
    (x4 x5 : FVec Ideal S1024x2816 .bf16) (x6 : FVec Ideal S2816x1024 .bf16) : FVec Ideal S512x1024 .f32 :=
  core (k0_pay1 x0 x1 x2) x3 x4 x5 x6

theorem nrm4_eq (x0 : FVec Ideal S512x1024 .f32) (x1 : FVec Ideal S512x2048 .bf16) (x2 : FVec Ideal S2048x1024 .bf16) (x3 : FVec Ideal S1x1024 .f32) :
    k0_pay2 (F := Ideal) x0 x1 x2 x3 = Cert.Kernel2Ideal.Gen.k0_pay3 (F := Ideal) (k0_pay1 (F := Ideal) x0 x1 x2) x3 := by
  unfold k0_pay2 Cert.Kernel2Ideal.Gen.k0_pay3 Cert.Kernel2Ideal.Gen.k0_pay2
  simp only [shapeCast_self]

theorem out4_eq (x0 : Vec Ideal S512x1024 .f32) (x1 : Vec Ideal S512x2048 .bf16) (x2 : Vec Ideal S2048x1024 .bf16) (x3 : Vec Ideal S1x1024 .f32)
    (x4 x5 : Vec Ideal S1024x2816 .bf16) (x6 : Vec Ideal S2816x1024 .bf16) :
    out0_7 x0 x1 x2 x3 x4 x5 x6 = core4 x0 x1 x2 x3 x4 x5 x6 := by
  unfold out0_7 k0_pay14
  rw [View.canon_cons_unit_lit _ _ _ (by decide)]
  simp only [ld_cols, ld_rows]
  rw [View.ld_unit_lit _ x0 (by decide), View.ld_unit_lit _ x1 (by decide), View.ld_unit_lit _ x2 (by decide), View.ld_unit_lit _ x3 (by decide)]
  simp only [k0_pay3, k0_pay4, k0_pay5, k0_pay6, k0_pay7, k0_pay8, k0_pay9, k0_pay10, k0_pay11, k0_pay12, k0_pay13, shapeCast_self]
  unfold core4 core
  rw [nrm4_eq]
  generalize Cert.Kernel2Ideal.Gen.k0_pay3 (F := Ideal) (k0_pay1 (F := Ideal) x0 x1 x2) x3 = n
  generalize k0_pay1 (F := Ideal) x0 x1 x2 = y
  simp only [blocks, step]
  rfl

theorem mix4_apply (x0 : FVec Ideal S512x1024 .f32) (x1 : FVec Ideal S512x2048 .bf16) (x2 : FVec Ideal S2048x1024 .bf16) (r : Fin 512) (i : Fin 1024) :
    k0_pay1 (F := Ideal) x0 x1 x2 (ix2 r i) = x0 (ix2 r i) + ∑ k : Fin 2048, x1 (ix2 r k) * x2 (ix2 k i) := by
  pointwise [k0_pay1]

theorem core4_apply (x0 : FVec Ideal S512x1024 .f32) (x1 : FVec Ideal S512x2048 .bf16) (x2 : FVec Ideal S2048x1024 .bf16) (x3 : FVec Ideal S1x1024 .f32)
    (x4 x5 : FVec Ideal S1024x2816 .bf16) (x6 : FVec Ideal S2816x1024 .bf16) (r : Fin 512) (j : Fin 1024) :
    core4 x0 x1 x2 x3 x4 x5 x6 (ix2 r j) = ffnRow (fun i => x0 (ix2 r i) + ∑ k : Fin 2048, x1 (ix2 r k) * x2 (ix2 k i)) (fun k => x3 (ix2 0 k))
      (fun i c => x4 (ix2 i c)) (fun i c => x5 (ix2 i c)) (fun c i => x6 (ix2 c i)) j := by
  refine (core_apply _ _ _ _ _ r j).trans ?_
  simp only [mix4_apply]

end Ssm

section SsmRef

open Cert.Reference4Ideal Cert.Reference4Ideal.Read

variable (x0 : S16x2048x1024.Idx → EReal) (x1 : S16x2048x2048.Idx → EReal) (x2 : S2048x1024.Idx → EReal) (x3 : S1024.Idx → EReal) (x4 x5 : S1024x2816.Idx → EReal) (x6 : S2816x1024.Idx → EReal)

theorem ref4_apply (R : Fin 32768) (j : Fin 1024) :
    val_main_v23 (F := Ideal) x0 x1 x2 x3 x4 x5 x6 (ix2 R j)
      = ffnRow (fun i => x0 (ix3 ⟨R.val / 2048, by omega⟩ ⟨R.val % 2048, by omega⟩ i)
            + ∑ k : Fin 2048, x1 (ix3 ⟨R.val / 2048, by omega⟩ ⟨R.val % 2048, by omega⟩ k) * x2 (ix2 k i)) (fun k => x3 (ix1 k))
          (fun i c => x4 (ix2 i c)) (fun i c => x5 (ix2 i c)) (fun c i => x6 (ix2 c i)) j := by
  have e : val_main_v23 (F := Ideal) x0 x1 x2 x3 x4 x5 x6 = Cert.Reference2Ideal.Read.val_main_v21 (F := Ideal) (val_main_v1 (F := Ideal) x0 x1 x2) x3 x4 x5 x6 := rfl
  have h : ∀ (b : Fin 16) (t : Fin 2048) (i : Fin 1024), val_main_v1 (F := Ideal) x0 x1 x2 (ix3 b t i) = x0 (ix3 b t i) + ∑ k : Fin 2048, x1 (ix3 b t k) * x2 (ix2 k i) := by
    intro b t i
    pointwise [val_main_v1, val_main_v0]
  rw [e]
  refine (ref_apply _ _ _ _ _ R j).trans ?_
  simp only [h]

end SsmRef

end Cert.Proof.Ffn
end
-- ==== Proof.Ffn.Attn.lean ====
module

public import proofs.«01_k».proof.Proof.Ffn.Ref
public import proofs.«01_k».proof.Proof.Ffn.Mix
public import proofs.«01_k».proof.Proof.Gen.Kernel3Ideal.Value
public import Idealize.ShloMosaic.Lib.Pipeline.ValueKit.Geometry

@[expose] public section

set_option maxRecDepth 65536

noncomputable section

namespace Cert.Proof.Ffn.Attn

open Idealize.ShloMosaic Idealize.SL.Sem Idealize.ShloMosaic.Pipeline Idealize.ShloMosaic.TcCoe Cert.Kernel3Ideal Cert.Kernel3Ideal.Gen

variable (m : (ℓ : Loc nD τ sig) → Buf (Elt Ideal) ℓ)

/-! ## The arrays the kernel finds -/

theorem V0 (c : Dev nD) (R : Fin 32768) (k : Fin 1024) :
    V m c main_v3 (ix2 R k) = (m ((c : Thread nD τ).loc main_arg0) : S16x2048x1024.Idx → EReal) (ix3 ⟨R.val / 2048, by omega⟩ ⟨R.val % 2048, by omega⟩ k) := by
  have e : V m c main_v3 = shapeCast S32768x1024 (m ((c : Thread nD τ).loc main_arg0) : S16x2048x1024.Idx → EReal) shapeCasts_S16x2048x1024_S32768x1024 := by
    simp only [V, hostOps0]
    after_results_simp
    rfl
  rw [e]
  exact rows_apply _ _ R k

theorem V1 (c : Dev nD) (R : Fin 32768) (k : Fin 1024) :
    V m c main_v1 (ix2 R k) = (m ((c : Thread nD τ).loc main_arg1) : S16x2048x1024.Idx → EReal) (ix3 ⟨R.val / 2048, by omega⟩ ⟨R.val % 2048, by omega⟩ k) := by
  have e : V m c main_v1 = shapeCast S32768x1024 (m ((c : Thread nD τ).loc main_arg1) : S16x2048x1024.Idx → EReal) shapeCasts_S16x2048x1024_S32768x1024 := by
    simp only [V, hostOps0]
    after_results_simp
    rfl
  rw [e]
  exact rows_apply _ _ R k

theorem V2 (c : Dev nD) : V m c main_v2 = m ((c : Thread nD τ).loc main_arg2) := by
  simp only [V, hostOps0]
  after_results_simp
  rfl

theorem V3 (c : Dev nD) (k : Fin 1024) :
    V m c main_v4 (ix2 0 k) = (m ((c : Thread nD τ).loc main_arg3) : S1024.Idx → EReal) (ix1 k) := by
  have e : V m c main_v4 = broadcastInDim S1x1024 ![1] bcast_S1024_S1x1024_1 (m ((c : Thread nD τ).loc main_arg3) : S1024.Idx → EReal) := by
    simp only [V, hostOps0]
    after_results_simp
  rw [e]
  exact gain_apply _ _ k

theorem V4 (c : Dev nD) : V m c main_v5 = m ((c : Thread nD τ).loc main_arg4) := by
  simp only [V, hostOps0]
  after_results_simp
  rfl

theorem V5 (c : Dev nD) : V m c main_v6 = m ((c : Thread nD τ).loc main_arg5) := by
  simp only [V, hostOps0]
  after_results_simp
  rfl

theorem V6 (c : Dev nD) : V m c main_v7 = m ((c : Thread nD τ).loc main_arg6) := by
  simp only [V, hostOps0]
  after_results_simp
  rfl

/-! ## The windows' blocks -/

/-- The grid point of a row. -/
def pt (R : Fin 32768) : Fin cfg0.N := ⟨R.val / 512, by have := R.isLt; show _ < 64; omega⟩

/-- The row within its block. -/
def rowIn (R : Fin 32768) : Fin 512 := ⟨R.val % 512, by omega⟩

theorem idx_facts : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ (cfg0.win 7).flush t = true :=
  (by decide +kernel : ∀ t : Fin grid0.N, _)

theorem emb0 (R : Fin 32768) (k : Fin 1024) : ((cfg0.win 0).blk (pt R)).view.emb (ix2 (rowIn R) k) = ix2 R k := by
  have e := (idx_facts (pt R)).1
  funext a; apply Fin.ext
  match a with
  | ⟨0, _⟩ => show win0_0.index (pt R) (0 : Fin 2) * 512 + 1 * (R.val % 512) = R.val; rw [e]; show R.val / 512 * 512 + 1 * (R.val % 512) = R.val; omega
  | ⟨1, _⟩ => show win0_0.index (pt R) (1 : Fin 2) * 1024 + 1 * k.val = k.val; rw [e]; show 0 * 1024 + 1 * k.val = k.val; omega

theorem emb1 (R : Fin 32768) (k : Fin 1024) : ((cfg0.win 1).blk (pt R)).view.emb (ix2 (rowIn R) k) = ix2 R k := by
  have e := (idx_facts (pt R)).2.1
  funext a; apply Fin.ext
  match a with
  | ⟨0, _⟩ => show win0_1.index (pt R) (0 : Fin 2) * 512 + 1 * (R.val % 512) = R.val; rw [e]; show R.val / 512 * 512 + 1 * (R.val % 512) = R.val; omega
  | ⟨1, _⟩ => show win0_1.index (pt R) (1 : Fin 2) * 1024 + 1 * k.val = k.val; rw [e]; show 0 * 1024 + 1 * k.val = k.val; omega

theorem emb2 (R : Fin 32768) (i : Fin 1024) (k : Fin 1024) : ((cfg0.win 2).blk (pt R)).view.emb (ix2 i k) = ix2 i k := by
  have e := (idx_facts (pt R)).2.2.1
  funext a; apply Fin.ext
  match a with
  | ⟨0, _⟩ => show win0_2.index (pt R) (0 : Fin 2) * 1024 + 1 * i.val = i.val; rw [e]; show 0 * 1024 + 1 * i.val = i.val; omega
  | ⟨1, _⟩ => show win0_2.index (pt R) (1 : Fin 2) * 1024 + 1 * k.val = k.val; rw [e]; show 0 * 1024 + 1 * k.val = k.val; omega

theorem emb3 (R : Fin 32768) (i : Fin 1) (k : Fin 1024) : ((cfg0.win 3).blk (pt R)).view.emb (ix2 i k) = ix2 i k := by
  have e := (idx_facts (pt R)).2.2.2.1
  funext a; apply Fin.ext
  match a with
  | ⟨0, _⟩ => show win0_3.index (pt R) (0 : Fin 2) * 1 + 1 * i.val = i.val; rw [e]; show 0 * 1 + 1 * i.val = i.val; omega
  | ⟨1, _⟩ => show win0_3.index (pt R) (1 : Fin 2) * 1024 + 1 * k.val = k.val; rw [e]; show 0 * 1024 + 1 * k.val = k.val; omega

theorem emb4 (R : Fin 32768) (i : Fin 1024) (k : Fin 2816) : ((cfg0.win 4).blk (pt R)).view.emb (ix2 i k) = ix2 i k := by
  have e := (idx_facts (pt R)).2.2.2.2.1
  funext a; apply Fin.ext
  match a with
  | ⟨0, _⟩ => show win0_4.index (pt R) (0 : Fin 2) * 1024 + 1 * i.val = i.val; rw [e]; show 0 * 1024 + 1 * i.val = i.val; omega
  | ⟨1, _⟩ => show win0_4.index (pt R) (1 : Fin 2) * 2816 + 1 * k.val = k.val; rw [e]; show 0 * 2816 + 1 * k.val = k.val; omega

theorem emb5 (R : Fin 32768) (i : Fin 1024) (k : Fin 2816) : ((cfg0.win 5).blk (pt R)).view.emb (ix2 i k) = ix2 i k := by
  have e := (idx_facts (pt R)).2.2.2.2.2.1
  funext a; apply Fin.ext
  match a with
  | ⟨0, _⟩ => show win0_5.index (pt R) (0 : Fin 2) * 1024 + 1 * i.val = i.val; rw [e]; show 0 * 1024 + 1 * i.val = i.val; omega
  | ⟨1, _⟩ => show win0_5.index (pt R) (1 : Fin 2) * 2816 + 1 * k.val = k.val; rw [e]; show 0 * 2816 + 1 * k.val = k.val; omega

theorem emb6 (R : Fin 32768) (i : Fin 2816) (k : Fin 1024) : ((cfg0.win 6).blk (pt R)).view.emb (ix2 i k) = ix2 i k := by
  have e := (idx_facts (pt R)).2.2.2.2.2.2.1
  funext a; apply Fin.ext
  match a with
  | ⟨0, _⟩ => show win0_6.index (pt R) (0 : Fin 2) * 2816 + 1 * i.val = i.val; rw [e]; show 0 * 2816 + 1 * i.val = i.val; omega
  | ⟨1, _⟩ => show win0_6.index (pt R) (1 : Fin 2) * 1024 + 1 * k.val = k.val; rw [e]; show 0 * 1024 + 1 * k.val = k.val; omega

theorem emb7 (R : Fin 32768) (k : Fin 1024) : ((cfg0.win 7).blk (pt R)).view.emb (ix2 (rowIn R) k) = ix2 R k := by
  have e := (idx_facts (pt R)).2.2.2.2.2.2.2.1
  funext a; apply Fin.ext
  match a with
  | ⟨0, _⟩ => show win0_7.index (pt R) (0 : Fin 2) * 512 + 1 * (R.val % 512) = R.val; rw [e]; show R.val / 512 * 512 + 1 * (R.val % 512) = R.val; omega
  | ⟨1, _⟩ => show win0_7.index (pt R) (1 : Fin 2) * 1024 + 1 * k.val = k.val; rw [e]; show 0 * 1024 + 1 * k.val = k.val; omega

theorem blk0 (c : Dev nD) (R : Fin 32768) (k : Fin 1024) :
    iblk m c 0 (pt R) (ix2 (rowIn R) k) = (m ((c : Thread nD τ).loc main_arg0) : S16x2048x1024.Idx → EReal) (ix3 ⟨R.val / 2048, by omega⟩ ⟨R.val % 2048, by omega⟩ k) := by
  show V m c main_v3 (((cfg0.win 0).blk (pt R)).view.emb (ix2 (rowIn R) k)) = _
  rw [emb0, V0]

theorem blk1 (c : Dev nD) (R : Fin 32768) (k : Fin 1024) :
    iblk m c 1 (pt R) (ix2 (rowIn R) k) = (m ((c : Thread nD τ).loc main_arg1) : S16x2048x1024.Idx → EReal) (ix3 ⟨R.val / 2048, by omega⟩ ⟨R.val % 2048, by omega⟩ k) := by
  show V m c main_v1 (((cfg0.win 1).blk (pt R)).view.emb (ix2 (rowIn R) k)) = _
  rw [emb1, V1]

theorem blk2 (c : Dev nD) (R : Fin 32768) (i : Fin 1024) (k : Fin 1024) :
    iblk m c 2 (pt R) (ix2 i k) = (m ((c : Thread nD τ).loc main_arg2) : S1024x1024.Idx → EReal) (ix2 i k) := by
  show V m c main_v2 (((cfg0.win 2).blk (pt R)).view.emb (ix2 i k)) = _
  rw [emb2, V2]

theorem blk3 (c : Dev nD) (R : Fin 32768) (k : Fin 1024) :
    iblk m c 3 (pt R) (ix2 0 k) = (m ((c : Thread nD τ).loc main_arg3) : S1024.Idx → EReal) (ix1 k) := by
  show V m c main_v4 (((cfg0.win 3).blk (pt R)).view.emb (ix2 0 k)) = _
  rw [emb3, V3]

theorem blk4 (c : Dev nD) (R : Fin 32768) (i : Fin 1024) (k : Fin 2816) :
    iblk m c 4 (pt R) (ix2 i k) = (m ((c : Thread nD τ).loc main_arg4) : S1024x2816.Idx → EReal) (ix2 i k) := by
  show V m c main_v5 (((cfg0.win 4).blk (pt R)).view.emb (ix2 i k)) = _
  rw [emb4, V4]

theorem blk5 (c : Dev nD) (R : Fin 32768) (i : Fin 1024) (k : Fin 2816) :
    iblk m c 5 (pt R) (ix2 i k) = (m ((c : Thread nD τ).loc main_arg5) : S1024x2816.Idx → EReal) (ix2 i k) := by
  show V m c main_v6 (((cfg0.win 5).blk (pt R)).view.emb (ix2 i k)) = _
  rw [emb5, V5]

theorem blk6 (c : Dev nD) (R : Fin 32768) (i : Fin 2816) (k : Fin 1024) :
    iblk m c 6 (pt R) (ix2 i k) = (m ((c : Thread nD τ).loc main_arg6) : S2816x1024.Idx → EReal) (ix2 i k) := by
  show V m c main_v7 (((cfg0.win 6).blk (pt R)).view.emb (ix2 i k)) = _
  rw [emb6, V6]

/-- The two results agree, element by element. -/
theorem results_eq (c : Dev nD) (x0 : S16x2048x1024.Idx → EReal) (x1 : S16x2048x1024.Idx → EReal) (x2 : S1024x1024.Idx → EReal) (x3 : S1024.Idx → EReal) (x4 : S1024x2816.Idx → EReal) (x5 : S1024x2816.Idx → EReal) (x6 : S2816x1024.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    (Cert.Reference3Ideal.Read.val_main_v23 (F := Ideal) x0 x1 x2 x3 x4 x5 x6 : S32768x1024.Idx → EReal) = (dats m 0 c).arrAt 7 cfg0.N := by
  funext i
  obtain ⟨R, j, rfl⟩ : ∃ (R : Fin 32768) (j : Fin 1024), i = ix2 R j := ⟨i 0, i 1, by
    funext a
    match a with
    | ⟨0, _⟩ => rfl
    | ⟨1, _⟩ => rfl⟩
  have hb := congrFun (Cert.Kernel3Ideal.Value.blocks7 m c (pt R) (idx_facts (pt R)).2.2.2.2.2.2.2.2) (ix2 (rowIn R) j)
  rw [Cert.Kernel3Ideal.Value.flushed7, out3_eq] at hb
  have hb' : (dats m 0 c).arrAt 7 cfg0.N (((cfg0.win 7).blk (pt R)).view.emb (ix2 (rowIn R) j)) = core3 (iblk m c 0 (pt R)) (iblk m c 1 (pt R)) (iblk m c 2 (pt R)) (iblk m c 3 (pt R)) (iblk m c 4 (pt R)) (iblk m c 5 (pt R)) (iblk m c 6 (pt R)) (ix2 (rowIn R) j) := hb
  rw [emb7, core3_apply] at hb'
  rw [hb', ref3_apply]
  simp only [blk0, blk1, blk2, blk3, blk4, blk5, blk6]
  subst h0 h1 h2 h3 h4 h5 h6
  rfl

end Cert.Proof.Ffn.Attn
end
-- ==== Proof.Ffn.Ssm.lean ====
module

public import proofs.«01_k».proof.Proof.Ffn.Ref
public import proofs.«01_k».proof.Proof.Ffn.Mix
public import proofs.«01_k».proof.Proof.Gen.Kernel4Ideal.Value
public import Idealize.ShloMosaic.Lib.Pipeline.ValueKit.Geometry

@[expose] public section

set_option maxRecDepth 65536

noncomputable section

namespace Cert.Proof.Ffn.Ssm

open Idealize.ShloMosaic Idealize.SL.Sem Idealize.ShloMosaic.Pipeline Idealize.ShloMosaic.TcCoe Cert.Kernel4Ideal Cert.Kernel4Ideal.Gen

variable (m : (ℓ : Loc nD τ sig) → Buf (Elt Ideal) ℓ)

/-! ## The arrays the kernel finds -/

theorem V0 (c : Dev nD) (R : Fin 32768) (k : Fin 1024) :
    V m c main_v3 (ix2 R k) = (m ((c : Thread nD τ).loc main_arg0) : S16x2048x1024.Idx → EReal) (ix3 ⟨R.val / 2048, by omega⟩ ⟨R.val % 2048, by omega⟩ k) := by
  have e : V m c main_v3 = shapeCast S32768x1024 (m ((c : Thread nD τ).loc main_arg0) : S16x2048x1024.Idx → EReal) shapeCasts_S16x2048x1024_S32768x1024 := by
    simp only [V, hostOps0]
    after_results_simp
    rfl
  rw [e]
  exact rows_apply _ _ R k

theorem V1 (c : Dev nD) (R : Fin 32768) (k : Fin 2048) :
    V m c main_v1 (ix2 R k) = (m ((c : Thread nD τ).loc main_arg1) : S16x2048x2048.Idx → EReal) (ix3 ⟨R.val / 2048, by omega⟩ ⟨R.val % 2048, by omega⟩ k) := by
  have e : V m c main_v1 = shapeCast S32768x2048 (m ((c : Thread nD τ).loc main_arg1) : S16x2048x2048.Idx → EReal) shapeCasts_S16x2048x2048_S32768x2048 := by
    simp only [V, hostOps0]
    after_results_simp
    rfl
  rw [e]
  exact wide_apply _ _ R k

theorem V2 (c : Dev nD) : V m c main_v2 = m ((c : Thread nD τ).loc main_arg2) := by
  simp only [V, hostOps0]
  after_results_simp
  rfl

theorem V3 (c : Dev nD) (k : Fin 1024) :
    V m c main_v4 (ix2 0 k) = (m ((c : Thread nD τ).loc main_arg3) : S1024.Idx → EReal) (ix1 k) := by
  have e : V m c main_v4 = broadcastInDim S1x1024 ![1] bcast_S1024_S1x1024_1 (m ((c : Thread nD τ).loc main_arg3) : S1024.Idx → EReal) := by
    simp only [V, hostOps0]
    after_results_simp
  rw [e]
  exact gain_apply _ _ k

theorem V4 (c : Dev nD) : V m c main_v5 = m ((c : Thread nD τ).loc main_arg4) := by
  simp only [V, hostOps0]
  after_results_simp
  rfl

theorem V5 (c : Dev nD) : V m c main_v6 = m ((c : Thread nD τ).loc main_arg5) := by
  simp only [V, hostOps0]
  after_results_simp
  rfl

theorem V6 (c : Dev nD) : V m c main_v7 = m ((c : Thread nD τ).loc main_arg6) := by
  simp only [V, hostOps0]
  after_results_simp
  rfl

/-! ## The windows' blocks -/

/-- The grid point of a row. -/
def pt (R : Fin 32768) : Fin cfg0.N := ⟨R.val / 512, by have := R.isLt; show _ < 64; omega⟩

/-- The row within its block. -/
def rowIn (R : Fin 32768) : Fin 512 := ⟨R.val % 512, by omega⟩

theorem idx_facts : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![0, 0]
    ∧ win0_7.index t = ![t.val, 0]
    ∧ (cfg0.win 7).flush t = true :=
  (by decide +kernel : ∀ t : Fin grid0.N, _)

theorem emb0 (R : Fin 32768) (k : Fin 1024) : ((cfg0.win 0).blk (pt R)).view.emb (ix2 (rowIn R) k) = ix2 R k := by
  have e := (idx_facts (pt R)).1
  funext a; apply Fin.ext
  match a with
  | ⟨0, _⟩ => show win0_0.index (pt R) (0 : Fin 2) * 512 + 1 * (R.val % 512) = R.val; rw [e]; show R.val / 512 * 512 + 1 * (R.val % 512) = R.val; omega
  | ⟨1, _⟩ => show win0_0.index (pt R) (1 : Fin 2) * 1024 + 1 * k.val = k.val; rw [e]; show 0 * 1024 + 1 * k.val = k.val; omega

theorem emb1 (R : Fin 32768) (k : Fin 2048) : ((cfg0.win 1).blk (pt R)).view.emb (ix2 (rowIn R) k) = ix2 R k := by
  have e := (idx_facts (pt R)).2.1
  funext a; apply Fin.ext
  match a with
  | ⟨0, _⟩ => show win0_1.index (pt R) (0 : Fin 2) * 512 + 1 * (R.val % 512) = R.val; rw [e]; show R.val / 512 * 512 + 1 * (R.val % 512) = R.val; omega
  | ⟨1, _⟩ => show win0_1.index (pt R) (1 : Fin 2) * 2048 + 1 * k.val = k.val; rw [e]; show 0 * 2048 + 1 * k.val = k.val; omega

theorem emb2 (R : Fin 32768) (i : Fin 2048) (k : Fin 1024) : ((cfg0.win 2).blk (pt R)).view.emb (ix2 i k) = ix2 i k := by
  have e := (idx_facts (pt R)).2.2.1
  funext a; apply Fin.ext
  match a with
  | ⟨0, _⟩ => show win0_2.index (pt R) (0 : Fin 2) * 2048 + 1 * i.val = i.val; rw [e]; show 0 * 2048 + 1 * i.val = i.val; omega
  | ⟨1, _⟩ => show win0_2.index (pt R) (1 : Fin 2) * 1024 + 1 * k.val = k.val; rw [e]; show 0 * 1024 + 1 * k.val = k.val; omega

theorem emb3 (R : Fin 32768) (i : Fin 1) (k : Fin 1024) : ((cfg0.win 3).blk (pt R)).view.emb (ix2 i k) = ix2 i k := by
  have e := (idx_facts (pt R)).2.2.2.1
  funext a; apply Fin.ext
  match a with
  | ⟨0, _⟩ => show win0_3.index (pt R) (0 : Fin 2) * 1 + 1 * i.val = i.val; rw [e]; show 0 * 1 + 1 * i.val = i.val; omega
  | ⟨1, _⟩ => show win0_3.index (pt R) (1 : Fin 2) * 1024 + 1 * k.val = k.val; rw [e]; show 0 * 1024 + 1 * k.val = k.val; omega

theorem emb4 (R : Fin 32768) (i : Fin 1024) (k : Fin 2816) : ((cfg0.win 4).blk (pt R)).view.emb (ix2 i k) = ix2 i k := by
  have e := (idx_facts (pt R)).2.2.2.2.1
  funext a; apply Fin.ext
  match a with
  | ⟨0, _⟩ => show win0_4.index (pt R) (0 : Fin 2) * 1024 + 1 * i.val = i.val; rw [e]; show 0 * 1024 + 1 * i.val = i.val; omega
  | ⟨1, _⟩ => show win0_4.index (pt R) (1 : Fin 2) * 2816 + 1 * k.val = k.val; rw [e]; show 0 * 2816 + 1 * k.val = k.val; omega

theorem emb5 (R : Fin 32768) (i : Fin 1024) (k : Fin 2816) : ((cfg0.win 5).blk (pt R)).view.emb (ix2 i k) = ix2 i k := by
  have e := (idx_facts (pt R)).2.2.2.2.2.1
  funext a; apply Fin.ext
  match a with
  | ⟨0, _⟩ => show win0_5.index (pt R) (0 : Fin 2) * 1024 + 1 * i.val = i.val; rw [e]; show 0 * 1024 + 1 * i.val = i.val; omega
  | ⟨1, _⟩ => show win0_5.index (pt R) (1 : Fin 2) * 2816 + 1 * k.val = k.val; rw [e]; show 0 * 2816 + 1 * k.val = k.val; omega

theorem emb6 (R : Fin 32768) (i : Fin 2816) (k : Fin 1024) : ((cfg0.win 6).blk (pt R)).view.emb (ix2 i k) = ix2 i k := by
  have e := (idx_facts (pt R)).2.2.2.2.2.2.1
  funext a; apply Fin.ext
  match a with
  | ⟨0, _⟩ => show win0_6.index (pt R) (0 : Fin 2) * 2816 + 1 * i.val = i.val; rw [e]; show 0 * 2816 + 1 * i.val = i.val; omega
  | ⟨1, _⟩ => show win0_6.index (pt R) (1 : Fin 2) * 1024 + 1 * k.val = k.val; rw [e]; show 0 * 1024 + 1 * k.val = k.val; omega

theorem emb7 (R : Fin 32768) (k : Fin 1024) : ((cfg0.win 7).blk (pt R)).view.emb (ix2 (rowIn R) k) = ix2 R k := by
  have e := (idx_facts (pt R)).2.2.2.2.2.2.2.1
  funext a; apply Fin.ext
  match a with
  | ⟨0, _⟩ => show win0_7.index (pt R) (0 : Fin 2) * 512 + 1 * (R.val % 512) = R.val; rw [e]; show R.val / 512 * 512 + 1 * (R.val % 512) = R.val; omega
  | ⟨1, _⟩ => show win0_7.index (pt R) (1 : Fin 2) * 1024 + 1 * k.val = k.val; rw [e]; show 0 * 1024 + 1 * k.val = k.val; omega

theorem blk0 (c : Dev nD) (R : Fin 32768) (k : Fin 1024) :
    iblk m c 0 (pt R) (ix2 (rowIn R) k) = (m ((c : Thread nD τ).loc main_arg0) : S16x2048x1024.Idx → EReal) (ix3 ⟨R.val / 2048, by omega⟩ ⟨R.val % 2048, by omega⟩ k) := by
  show V m c main_v3 (((cfg0.win 0).blk (pt R)).view.emb (ix2 (rowIn R) k)) = _
  rw [emb0, V0]

theorem blk1 (c : Dev nD) (R : Fin 32768) (k : Fin 2048) :
    iblk m c 1 (pt R) (ix2 (rowIn R) k) = (m ((c : Thread nD τ).loc main_arg1) : S16x2048x2048.Idx → EReal) (ix3 ⟨R.val / 2048, by omega⟩ ⟨R.val % 2048, by omega⟩ k) := by
  show V m c main_v1 (((cfg0.win 1).blk (pt R)).view.emb (ix2 (rowIn R) k)) = _
  rw [emb1, V1]

theorem blk2 (c : Dev nD) (R : Fin 32768) (i : Fin 2048) (k : Fin 1024) :
    iblk m c 2 (pt R) (ix2 i k) = (m ((c : Thread nD τ).loc main_arg2) : S2048x1024.Idx → EReal) (ix2 i k) := by
  show V m c main_v2 (((cfg0.win 2).blk (pt R)).view.emb (ix2 i k)) = _
  rw [emb2, V2]

theorem blk3 (c : Dev nD) (R : Fin 32768) (k : Fin 1024) :
    iblk m c 3 (pt R) (ix2 0 k) = (m ((c : Thread nD τ).loc main_arg3) : S1024.Idx → EReal) (ix1 k) := by
  show V m c main_v4 (((cfg0.win 3).blk (pt R)).view.emb (ix2 0 k)) = _
  rw [emb3, V3]

theorem blk4 (c : Dev nD) (R : Fin 32768) (i : Fin 1024) (k : Fin 2816) :
    iblk m c 4 (pt R) (ix2 i k) = (m ((c : Thread nD τ).loc main_arg4) : S1024x2816.Idx → EReal) (ix2 i k) := by
  show V m c main_v5 (((cfg0.win 4).blk (pt R)).view.emb (ix2 i k)) = _
  rw [emb4, V4]

theorem blk5 (c : Dev nD) (R : Fin 32768) (i : Fin 1024) (k : Fin 2816) :
    iblk m c 5 (pt R) (ix2 i k) = (m ((c : Thread nD τ).loc main_arg5) : S1024x2816.Idx → EReal) (ix2 i k) := by
  show V m c main_v6 (((cfg0.win 5).blk (pt R)).view.emb (ix2 i k)) = _
  rw [emb5, V5]

theorem blk6 (c : Dev nD) (R : Fin 32768) (i : Fin 2816) (k : Fin 1024) :
    iblk m c 6 (pt R) (ix2 i k) = (m ((c : Thread nD τ).loc main_arg6) : S2816x1024.Idx → EReal) (ix2 i k) := by
  show V m c main_v7 (((cfg0.win 6).blk (pt R)).view.emb (ix2 i k)) = _
  rw [emb6, V6]

/-- The two results agree, element by element. -/
theorem results_eq (c : Dev nD) (x0 : S16x2048x1024.Idx → EReal) (x1 : S16x2048x2048.Idx → EReal) (x2 : S2048x1024.Idx → EReal) (x3 : S1024.Idx → EReal) (x4 : S1024x2816.Idx → EReal) (x5 : S1024x2816.Idx → EReal) (x6 : S2816x1024.Idx → EReal)
    (h0 : x0 = m ((c : Thread nD τ).loc main_arg0)) (h1 : x1 = m ((c : Thread nD τ).loc main_arg1)) (h2 : x2 = m ((c : Thread nD τ).loc main_arg2)) (h3 : x3 = m ((c : Thread nD τ).loc main_arg3)) (h4 : x4 = m ((c : Thread nD τ).loc main_arg4)) (h5 : x5 = m ((c : Thread nD τ).loc main_arg5)) (h6 : x6 = m ((c : Thread nD τ).loc main_arg6)) :
    (Cert.Reference4Ideal.Read.val_main_v23 (F := Ideal) x0 x1 x2 x3 x4 x5 x6 : S32768x1024.Idx → EReal) = (dats m 0 c).arrAt 7 cfg0.N := by
  funext i
  obtain ⟨R, j, rfl⟩ : ∃ (R : Fin 32768) (j : Fin 1024), i = ix2 R j := ⟨i 0, i 1, by
    funext a
    match a with
    | ⟨0, _⟩ => rfl
    | ⟨1, _⟩ => rfl⟩
  have hb := congrFun (Cert.Kernel4Ideal.Value.blocks7 m c (pt R) (idx_facts (pt R)).2.2.2.2.2.2.2.2) (ix2 (rowIn R) j)
  rw [Cert.Kernel4Ideal.Value.flushed7, out4_eq] at hb
  have hb' : (dats m 0 c).arrAt 7 cfg0.N (((cfg0.win 7).blk (pt R)).view.emb (ix2 (rowIn R) j)) = core4 (iblk m c 0 (pt R)) (iblk m c 1 (pt R)) (iblk m c 2 (pt R)) (iblk m c 3 (pt R)) (iblk m c 4 (pt R)) (iblk m c 5 (pt R)) (iblk m c 6 (pt R)) (ix2 (rowIn R) j) := hb
  rw [emb7, core4_apply] at hb'
  rw [hb', ref4_apply]
  simp only [blk0, blk1, blk2, blk3, blk4, blk5, blk6]
  subst h0 h1 h2 h3 h4 h5 h6
  rfl

end Cert.Proof.Ffn.Ssm
end
-- ==== Proof.Qkv.Frames.lean ====
module

public import proofs.«01_k».proof.Defs
public import proofs.«01_k».proof.Proof.Gen.Kernel5
public import proofs.«01_k».proof.Proof.Gen.Kernel5Ideal.Frame
public import proofs.«01_k».proof.Proof.Gen.Reference5Ideal.Run

@[expose] public section

set_option maxRecDepth 100000
set_option maxHeartbeats 4000000

noncomputable section

namespace Cert.Proof.Qkv

open Idealize.ShloMosaic Idealize.SL.Sem

/-! The kernel's body and the ideal kernel's are the same text, so the run that holds over any float values gives both
frames. -/

theorem body_eq : @Cert.Kernel5.cc0_qkv_rope Bits _ _ = @Cert.Kernel5Ideal.cc0_qkv_rope Bits _ _ := rfl

theorem bodies_eq : Cert.Kernel5.defs₀ (F := Bits) = Cert.Kernel5Ideal.defs₀ (F := Bits) := by
  unfold Cert.Kernel5.defs₀ Cert.Kernel5Ideal.defs₀
  refine congrArg Defs.onTc ?_
  funext l a
  match l, a with
  | 0, (t, s) =>
    exact congrFun (congrFun (congrFun (congrFun (congrFun (congrFun (congrFun (congrFun (congrFun (congrFun (congrFun (congrFun (congrFun (congrFun (congrFun (congrFun (congrFun (congrFun (congrFun (congrFun (congrFun (congrFun (congrFun body_eq _) _) _) _) _) _) _) _) _) _) _) _) _) _) _) _) _) _) _) _) _) _) _

theorem defs_eq : Cert.Kernel5.defs (F := Bits) = Cert.Kernel5Ideal.defs (F := Bits) :=
  congrArg (Pipeline.defs Cert.Kernel5Ideal.pcfgs) bodies_eq

theorem frame_kernel : Cert.quiescent_Kernel5 := by
  intro m ρ _
  rw [show Cert.Kernel5.defs (F := Bits) = Cert.Kernel5Ideal.defs (F := Bits) from defs_eq]
  exact Cert.Kernel5Ideal.Gen.frame (F := Bits) m ρ

theorem frame_ideal : Cert.quiescent_Kernel5Ideal :=
  fun m ρ _ => Cert.Kernel5Ideal.Gen.frame (F := Ideal) m ρ

theorem frame_reference : Cert.quiescent_Reference5Ideal :=
  fun m ρ _ => (θ_run Cert.Reference5Ideal.defs _ _).mono (fun r h => ⟨fun c => (h c).2.2.2, sem_eq_zero_of_no_sems (by decide) r.2⟩)
    (Cert.Reference5Ideal.Value.run (F := Ideal) m ρ)

end Cert.Proof.Qkv
end
-- ==== Proof.Qkv.Spec.lean ====
module

public import proofs.«01_k».proof.Proof.Ffn.Spec

@[expose] public section

noncomputable section

namespace Cert.Proof.Qkv

open Idealize.ShloMosaic

/-- A head's 128 values, each over the root of the mean of their squares. -/
def headNrm (t : Fin 128 → EReal) (d : Fin 128) : EReal :=
  t d * Ideal.rsqrt (Ideal.div (∑ c : Fin 128, t c * t c) (Ideal.ofBits .f32 0x43000000#32) + Ideal.ofBits .f32 0x358637BD#32)

/-- The lane a rotary turn pairs with a given one: half a head further, round the end. -/
def other (d : Fin 128) : Fin 128 := ⟨(d.val + 64) % 128, Nat.mod_lt _ (by decide)⟩

/-- The lower half of a head takes the sine with the opposite sign. -/
def signed (d : Fin 128) (s : EReal) : EReal := if d.val < 64 then -s else s

/-- The rotary turn of one head at one position. -/
def turned (u g : Fin 128 → EReal) (co si : Fin 128 → EReal) (d : Fin 128) : EReal :=
  u d * g d * co d + u (other d) * g (other d) * signed d (si d)

/-- The angle of a lane at a position, from the 64 frequencies. -/
def angle (p : EReal) (f : Fin 64 → EReal) (d : Fin 128) : EReal := p * f ⟨d.val % 64, Nat.mod_lt _ (by decide)⟩

/-- One head of the projection of a normed row. -/
def headRow (y g : Fin 1024 → EReal) (w : Fin 1024 → Fin 128 → EReal) (c : Fin 128) : EReal :=
  ∑ k : Fin 1024, Ffn.nrmRow y g k * w k c

/-- One head at one position: projected, normed over its lanes, turned. -/
def keyRow (y g : Fin 1024 → EReal) (w : Fin 1024 → Fin 128 → EReal) (hg : Fin 128 → EReal) (p : EReal) (f : Fin 64 → EReal) (d : Fin 128) : EReal :=
  turned (headNrm (headRow y g w)) hg (fun d => Ideal.cos (angle p f d)) (fun d => Ideal.sin (angle p f d)) d

end Cert.Proof.Qkv
end
-- ==== Proof.Qkv.Cell.lean ====
module

public import proofs.«01_k».proof.Proof.Qkv.Spec
public import proofs.«01_k».proof.Proof.Moba.Spec
public import proofs.«01_k».proof.Proof.Gen.Kernel5Ideal.Skeleton
public import Idealize.ShloMosaic.Lib.Pipeline.Value

@[expose] public section

set_option maxRecDepth 65536

noncomputable section

namespace Cert.Proof.Qkv

open Idealize.ShloMosaic Idealize.SL.Sem Cert.Kernel5Ideal Cert.Kernel5Ideal.Gen

/-- The mean of a pair of heads' squares that one lane of the pair is divided by: the squares and what a rounding leaves
of them, against the table of means. -/
def mean (t : Fin 256 → EReal) (hm : FVec Ideal S512x256 .bf16) (d : Fin 256) : EReal :=
  (∑ k : Fin 256, t k * t k * hm (ix2 ⟨k.val, by omega⟩ d)) + ∑ k : Fin 256, (t k * t k - t k * t k) * hm (ix2 ⟨256 + k.val, by omega⟩ d)

theorem nrm_apply (y : FVec Ideal S1x512x1024 .f32) (g : FVec Ideal S1x1024 .f32) (r : Fin 512) (i : Fin 1024) :
    k0_pay3 (F := Ideal) y g (ix2 r i) = Ffn.nrmRow (fun k => y (ix3 0 r k)) (fun k => g (ix2 0 k)) i := by
  unfold Ffn.nrmRow
  pointwise [k0_pay3]

theorem proj_apply (n : FVec Ideal S512x1024 .bf16) (w : FVec Ideal S1024x256 .bf16) (r : Fin 512) (c : Fin 256) :
    k0_pay17 (F := Ideal) n w (ix2 r c) = ∑ k : Fin 1024, n (ix2 r k) * w (ix2 k c) := by
  pointwise [k0_pay17]

theorem pair_apply (t : FVec Ideal S512x256 .f32) (hm : FVec Ideal S512x256 .bf16) (r : Fin 512) (d : Fin 256) :
    k0_pay24 (F := Ideal) t hm (ix2 r d) = t (ix2 r d) * Ideal.rsqrt (mean (fun k => t (ix2 r k)) hm d + Ideal.ofBits .f32 0x358637BD#32) := by
  unfold mean
  pointwise [k0_pay24]

/-- The even head of a pair, turned by two tables. -/
def lowHead (A B : FVec Ideal S512x128 .f32) (N : FVec Ideal S512x256 .f32) : FVec Ideal S1x1x512x128 .bf16 :=
  let u : FVec Ideal S512x128 .f32 := extractStridedSlice S512x128 ![0, 0] N slices_S512x256_o0_0_S512x128
  shapeCast S1x1x512x128 (truncf .bf16 (addf (mulf u A) (mulf (dynamicRotate 1 64#32 none u rotates_S512x128_d1) B)) bitsLt_bf16_f32)
    shapeCasts_S512x128_S1x1x512x128

/-- The odd head of a pair, turned by two tables. -/
def highHead (A B : FVec Ideal S512x128 .f32) (N : FVec Ideal S512x256 .f32) : FVec Ideal S1x1x512x128 .bf16 :=
  let u : FVec Ideal S512x128 .f32 := extractStridedSlice S512x128 ![0, 128] N slices_S512x256_o0_128_S512x128
  shapeCast S1x1x512x128 (truncf .bf16 (addf (mulf u A) (mulf (dynamicRotate 1 64#32 none u rotates_S512x128_d1) B)) bitsLt_bf16_f32)
    shapeCasts_S512x128_S1x1x512x128

/-- A rotation by half the lanes. -/
theorem rot_apply (u : FVec Ideal S512x128 .f32) (h) (r : Fin 512) (d : Fin 128) :
    dynamicRotate (s := S512x128) 1 64#32 none u h (ix2 r d) = u (ix2 r (other d)) := by
  unfold other
  pointwise
  refine congrArg u (congrArg (ix2 r) (Fin.ext ?_))
  show (d.val + 128 - 64) % 128 = (d.val + 64) % 128
  omega

theorem low_apply (A B : FVec Ideal S512x128 .f32) (N : FVec Ideal S512x256 .f32) (r : Fin 512) (d : Fin 128) :
    lowHead A B N (ix4 0 0 r d)
      = N (ix2 r ⟨d.val, by omega⟩) * A (ix2 r d) + N (ix2 r ⟨(other d).val, by omega⟩) * B (ix2 r d) := by
  have e := rot_apply (extractStridedSlice S512x128 ![0, 0] N slices_S512x256_o0_0_S512x128) rotates_S512x128_d1 r d
  generalize hz : dynamicRotate (s := S512x128) 1 64#32 none (extractStridedSlice S512x128 ![0, 0] N slices_S512x256_o0_0_S512x128) rotates_S512x128_d1 = z at e
  have e' : z (ix2 r d) = N (ix2 r ⟨(other d).val, by omega⟩) := by
    rw [e]
    pointwise
  rw [← e']
  unfold lowHead
  simp only [hz]
  pointwise

theorem high_apply (A B : FVec Ideal S512x128 .f32) (N : FVec Ideal S512x256 .f32) (r : Fin 512) (d : Fin 128) :
    highHead A B N (ix4 0 0 r d)
      = N (ix2 r ⟨128 + d.val, by omega⟩) * A (ix2 r d) + N (ix2 r ⟨128 + (other d).val, by omega⟩) * B (ix2 r d) := by
  have e := rot_apply (extractStridedSlice S512x128 ![0, 128] N slices_S512x256_o0_128_S512x128) rotates_S512x128_d1 r d
  generalize hz : dynamicRotate (s := S512x128) 1 64#32 none (extractStridedSlice S512x128 ![0, 128] N slices_S512x256_o0_128_S512x128) rotates_S512x128_d1 = z at e
  have e' : z (ix2 r d) = N (ix2 r ⟨128 + (other d).val, by omega⟩) := by
    rw [e]
    pointwise
  rw [← e']
  unfold highHead
  simp only [hz]
  pointwise

/-! ## The tables of cosines and sines -/

variable (p : IVec S1x512x1 32) (f : FVec Ideal S1x128 .f32)

/-- The position of a row of the block. -/
def place1 (r : Fin 512) : EReal := (sitofp (F := Ideal) .f32 p : S1x512x1.Idx → EReal) (ix3 0 r 0)

theorem lane_lt (d : Fin 128) : IntOp.cmpi .slt (BitVec.ofNat 32 d.val) 64#32 = if d.val < 64 then 1#1 else 0#1 :=
  (by decide +kernel : ∀ d : Fin 128, IntOp.cmpi .slt (BitVec.ofNat 32 d.val) 64#32 = if d.val < 64 then 1#1 else 0#1) d

theorem ang_apply (r : Fin 256) (d : Fin 128) :
    k0_pay5 (F := Ideal) p f (ix2 r d)
      = (if d.val < 64 then place1 p ⟨r.val, by omega⟩ else place1 p ⟨256 + r.val, by omega⟩) * f (ix2 0 d) := by
  unfold place1
  pointwise [k0_pay5, k0_pay4]
  rw [lane_lt]
  by_cases h : d.val < 64
  · rw [if_pos h, if_pos h]; rfl
  · rw [if_neg h, if_neg h]; rfl

/-- The table of all 512 rows, from the values at 256 of which each row holds two positions. -/
def spread (v : FVec Ideal S256x128 .f32) : FVec Ideal S512x128 .f32 :=
  let w : FVec Ideal S256x128 .f32 := dynamicRotate 1 64#32 none v rotates_S256x128_d1
  concatenate S512x128 0 [⟨S256x128, select k0_pay4 v w⟩, ⟨S256x128, select k0_pay4 w v⟩] concatenates_S256x128_S256x128_S512x128_d0

theorem rot2_apply (u : FVec Ideal S256x128 .f32) (h) (r : Fin 256) (d : Fin 128) :
    dynamicRotate (s := S256x128) 1 64#32 none u h (ix2 r d) = u (ix2 r (other d)) := by
  unfold other
  pointwise
  refine congrArg u (congrArg (ix2 r) (Fin.ext ?_))
  show (d.val + 128 - 64) % 128 = (d.val + 64) % 128
  omega

theorem rot1_apply (u : FVec Ideal S1x128 .f32) (h) (d : Fin 128) :
    dynamicRotate (s := S1x128) 1 64#32 none u h (ix2 0 d) = u (ix2 0 (other d)) := by
  unfold other
  pointwise
  refine congrArg u (congrArg (ix2 0) (Fin.ext ?_))
  show (d.val + 128 - 64) % 128 = (d.val + 64) % 128
  omega

theorem spread_low (v : FVec Ideal S256x128 .f32) (r : Fin 256) (d : Fin 128) :
    spread v (ix2 ⟨r.val, by omega⟩ d) = if d.val < 64 then v (ix2 r d) else v (ix2 r (other d)) := by
  rw [← rot2_apply v rotates_S256x128_d1]
  unfold spread
  generalize dynamicRotate (s := S256x128) 1 64#32 none v rotates_S256x128_d1 = w
  pointwise [k0_pay4]
  rw [lane_lt]
  by_cases h : d.val < 64
  · rw [if_pos h, if_pos h]; rfl
  · rw [if_neg h, if_neg h]; rfl

theorem spread_high (v : FVec Ideal S256x128 .f32) (r : Fin 256) (d : Fin 128) :
    spread v (ix2 ⟨256 + r.val, by omega⟩ d) = if d.val < 64 then v (ix2 r (other d)) else v (ix2 r d) := by
  rw [← rot2_apply v rotates_S256x128_d1]
  unfold spread
  generalize dynamicRotate (s := S256x128) 1 64#32 none v rotates_S256x128_d1 = w
  pointwise [k0_pay4]
  rw [lane_lt]
  by_cases h : d.val < 64
  · rw [if_pos h, if_pos h]; rfl
  · rw [if_neg h, if_neg h]; rfl

theorem other_lt (d : Fin 128) : (other d).val < 64 ↔ ¬ d.val < 64 := by
  have := d.isLt
  show (d.val + 64) % 128 < 64 ↔ _
  omega

theorem other_mod (d : Fin 128) : (other d).val % 64 = d.val % 64 := by
  have := d.isLt
  show (d.val + 64) % 128 % 64 = _
  omega

variable (F : Fin 64 → EReal) (hf : ∀ d : Fin 128, f (ix2 0 d) = F ⟨d.val % 64, Nat.mod_lt _ (by decide)⟩)

include hf in
/-- A table of a function of the angles. -/
theorem table_apply (φ : EReal → EReal) (r : Fin 512) (d : Fin 128) :
    spread (fun i => φ (k0_pay5 (F := Ideal) p f i)) (ix2 r d) = φ (angle (place1 p r) F d) := by
  have e : (⟨(other d).val % 64, Nat.mod_lt _ (by decide)⟩ : Fin 64) = ⟨d.val % 64, Nat.mod_lt _ (by decide)⟩ := Fin.ext (other_mod d)
  unfold angle
  by_cases hr : r.val < 256
  · refine (spread_low (fun i => φ (k0_pay5 (F := Ideal) p f i)) ⟨r.val, hr⟩ d).trans ?_
    simp only [ang_apply, hf, other_lt, e]
    by_cases hd : d.val < 64
    · simp only [hd, if_true]
    · simp only [hd, if_false, not_false_eq_true, if_true]
  · have er : r = ⟨256 + (r.val - 256), by omega⟩ := Fin.ext (by show r.val = 256 + (r.val - 256); omega)
    rw [er]
    refine (spread_high (fun i => φ (k0_pay5 (F := Ideal) p f i)) ⟨r.val - 256, by omega⟩ d).trans ?_
    simp only [ang_apply, hf, other_lt, e]
    by_cases hd : d.val < 64
    · simp only [hd, if_true, not_true_eq_false, if_false]
    · simp only [hd, if_false]

/-- The table of sines with the lower half's sign turned. -/
def signTab (S : FVec Ideal S512x128 .f32) : FVec Ideal S512x128 .f32 :=
  select (cmpi .slt (iota .tc S512x128 32 [1] iota_S512x128_d1_w32) (broadcast S512x128 64#32))
    (subf (broadcast S512x128 (Scalar.ofBits (F := Ideal) .f32 0x00000000#32)) S) S

theorem sign_apply (S : FVec Ideal S512x128 .f32) (r : Fin 512) (d : Fin 128) : signTab S (ix2 r d) = signed d (S (ix2 r d)) := by
  unfold signed
  pointwise [signTab]
  rw [lane_lt]
  by_cases h : d.val < 64
  · rw [if_pos h, if_pos h]
    show (0 : EReal) - S (ix2 r d) = _
    rw [sub_eq_add_neg, zero_add]
  · rw [if_neg h, if_neg h]; rfl

theorem cos_tab : k0_pay6 (F := Ideal) p f = spread (fun i => Ideal.cos (k0_pay5 (F := Ideal) p f i)) := rfl

theorem sin_tab : k0_pay10 (F := Ideal) k0_pay4 (k0_pay7 p f) (k0_pay8 p f) (k0_pay9 p f)
    = signTab (spread (fun i => Ideal.sin (k0_pay5 (F := Ideal) p f i))) := rfl

variable (g : FVec Ideal S1x128 .f32)

include hf in
theorem keyA (r : Fin 512) (d : Fin 128) :
    k0_pay15 (F := Ideal) (k0_pay6 p f) g (ix2 r d) = g (ix2 0 d) * Ideal.cos (angle (place1 p r) F d) := by
  rw [← table_apply p f F hf Ideal.cos, cos_tab]
  pointwise [k0_pay15, k0_pay14]

include hf in
theorem keyB (r : Fin 512) (d : Fin 128) :
    k0_pay16 (F := Ideal) k0_pay4 (k0_pay7 p f) (k0_pay8 p f) (k0_pay9 p f) g (ix2 r d)
      = g (ix2 0 (other d)) * signed d (Ideal.sin (angle (place1 p r) F d)) := by
  have hg : k0_pay14 (F := Ideal) g = g := by
    unfold k0_pay14
    exact shapeCast_self _ _
  unfold k0_pay16
  rw [sin_tab, hg, ← table_apply p f F hf Ideal.sin, ← sign_apply, ← rot1_apply g rotates_S1x128_d1]
  generalize dynamicRotate (s := S1x128) 1 64#32 none g rotates_S1x128_d1 = w
  generalize signTab _ = z
  pointwise

theorem scaled_apply (d : Fin 128) : k0_pay11 (F := Ideal) g (ix2 0 d) = g (ix2 0 d) * Ideal.ofBits .f32 0x3E0293EE#32 := by
  pointwise [k0_pay11]

include hf in
theorem queryA (r : Fin 512) (d : Fin 128) :
    k0_pay12 (F := Ideal) (k0_pay6 p f) g (ix2 r d)
      = g (ix2 0 d) * Ideal.ofBits .f32 0x3E0293EE#32 * Ideal.cos (angle (place1 p r) F d) := by
  rw [← table_apply p f F hf Ideal.cos, cos_tab, ← scaled_apply]
  pointwise [k0_pay12]

include hf in
theorem queryB (r : Fin 512) (d : Fin 128) :
    k0_pay13 (F := Ideal) k0_pay4 (k0_pay7 p f) (k0_pay8 p f) (k0_pay9 p f) g (ix2 r d)
      = g (ix2 0 (other d)) * Ideal.ofBits .f32 0x3E0293EE#32 * signed d (Ideal.sin (angle (place1 p r) F d)) := by
  unfold k0_pay13
  rw [sin_tab, ← table_apply p f F hf Ideal.sin, ← sign_apply, ← scaled_apply, ← rot1_apply (k0_pay11 (F := Ideal) g) rotates_S1x128_d1]
  generalize dynamicRotate (s := S1x128) 1 64#32 none (k0_pay11 (F := Ideal) g) rotates_S1x128_d1 = w
  generalize signTab _ = z
  pointwise

/-! ## The mean of a head's squares -/

theorem b128 : Ideal.ofBits .f32 0x43000000#32 = ((128 : ℝ) : EReal) := by
  simp [Ideal.ofBits, Ideal.ieee, -EReal.coe_mul]
  norm_num

theorem means (T : Fin 128 → EReal) :
    ∑ c : Fin 128, T c * T c * ((1 / 128 : ℝ) : EReal) = Ideal.div (∑ c : Fin 128, T c * T c) (Ideal.ofBits .f32 0x43000000#32) := by
  rw [b128, Ideal.div_coe (by norm_num), Moba.sum_mul_coe _ _ _ (by norm_num)]

variable (hm : FVec Ideal S512x256 .bf16)
  (hh : ∀ (k : Fin 512) (d : Fin 256), hm (ix2 k d) = if k.val % 256 / 128 = d.val / 128 then ((1 / 128 : ℝ) : EReal) else 0)
  (t : Fin 256 → EReal) (ht : ∀ k, ∃ τ : ℝ, t k = (τ : EReal))

include ht in
theorem rest_zero (d : Fin 256) : ∑ k : Fin 256, (t k * t k - t k * t k) * hm (ix2 ⟨256 + k.val, by omega⟩ d) = 0 := by
  refine Finset.sum_eq_zero fun k _ => ?_
  obtain ⟨τ, e⟩ := ht k
  rw [e, ← EReal.coe_mul, ← EReal.coe_sub, sub_self, EReal.coe_zero, zero_mul]

include hh ht in
theorem mean_low (d : Fin 128) : mean t hm ⟨d.val, by omega⟩
    = Ideal.div (∑ c : Fin 128, t ⟨c.val, by omega⟩ * t ⟨c.val, by omega⟩) (Ideal.ofBits .f32 0x43000000#32) := by
  unfold mean
  rw [rest_zero hm t ht, add_zero, ← means fun c => t ⟨c.val, by omega⟩]
  refine (Fin.sum_univ_add (a := 128) (b := 128) _).trans ?_
  refine Eq.trans (congrArg₂ (· + ·) (Finset.sum_congr rfl fun c _ => ?_) (Finset.sum_eq_zero fun c _ => ?_)) (add_zero _)
  · refine congrArg (t ⟨c.val, _⟩ * t ⟨c.val, _⟩ * ·) ((hh _ _).trans (if_pos ?_))
    show c.val % 256 / 128 = d.val / 128
    omega
  · refine (congrArg (t ⟨128 + c.val, _⟩ * t ⟨128 + c.val, _⟩ * ·) ((hh _ _).trans (if_neg ?_))).trans (mul_zero _)
    show ¬ (128 + c.val) % 256 / 128 = d.val / 128
    omega

include hh ht in
theorem mean_high (d : Fin 128) : mean t hm ⟨128 + d.val, by omega⟩
    = Ideal.div (∑ c : Fin 128, t ⟨128 + c.val, by omega⟩ * t ⟨128 + c.val, by omega⟩) (Ideal.ofBits .f32 0x43000000#32) := by
  unfold mean
  rw [rest_zero hm t ht, add_zero, ← means fun c => t ⟨128 + c.val, by omega⟩]
  refine (Fin.sum_univ_add (a := 128) (b := 128) _).trans ?_
  refine Eq.trans (congrArg₂ (· + ·) (Finset.sum_eq_zero fun c _ => ?_) (Finset.sum_congr rfl fun c _ => ?_)) (zero_add _)
  · refine (congrArg (t ⟨c.val, _⟩ * t ⟨c.val, _⟩ * ·) ((hh _ _).trans (if_neg ?_))).trans (mul_zero _)
    show ¬ c.val % 256 / 128 = (128 + d.val) / 128
    omega
  · refine congrArg (t ⟨128 + c.val, _⟩ * t ⟨128 + c.val, _⟩ * ·) ((hh _ _).trans (if_pos ?_))
    show (128 + c.val) % 256 / 128 = (128 + d.val) / 128
    omega

end Cert.Proof.Qkv
end
-- ==== Proof.Qkv.Out.lean ====
module

public import proofs.«01_k».proof.Proof.Qkv.Cell
public import proofs.«01_k».proof.Proof.Gen.Kernel5Ideal.Frame
public import Idealize.ShloMosaic.Lib.Pipeline.ValueKit.Basic
public import Idealize.ShloMosaic.Lib.Pipeline.ReadBack

@[expose] public section

set_option maxRecDepth 65536

noncomputable section

namespace Cert.Proof.Qkv

open Idealize.ShloMosaic Idealize.SL.Sem Cert.Kernel5Ideal Cert.Kernel5Ideal.Gen

/-- 256 columns of the weight, from a given one. -/
def colsOf (w : S1024x3072.Idx → EReal) (off : ℕ) : S1024x256.Idx → EReal :=
  fun i => w (ix2 (i 0) (Fin.ofNat 3072 (off + (i 1).val)))

theorem ld_cols (w : Vec Ideal S1024x3072 .bf16) (off : ℕ) (inb) :
    View.ld w (Rect.unit (s := S1024x3072) ![0, off] S1024x256.size inb) = colsOf w off := by
  funext i
  have h : off + 256 ≤ 3072 := inb 1
  have h1 : (i 1).val < 256 := (i 1).isLt
  refine congrArg w (funext fun a => Fin.ext ?_)
  match a with
  | ⟨0, _⟩ => show 0 + 1 * (i 0).val = (i 0).val; omega
  | ⟨1, _⟩ => show off + 1 * (i 1).val = (off + (i 1).val) % 3072; omega

/-- A row of the normed block against the 128 columns of the weight that begin at a given one. -/
def proj (n : S512x1024.Idx → EReal) (w : S1024x3072.Idx → EReal) (o : ℕ) (r : Fin 512) (c : Fin 128) : EReal :=
  ∑ k : Fin 1024, n (ix2 r k) * w (ix2 k (Fin.ofNat 3072 (o + c.val)))

/-- The normed pair of heads whose columns begin at a given one. -/
def pairN (n : FVec Ideal S512x1024 .bf16) (w : FVec Ideal S1024x3072 .bf16) (hm : FVec Ideal S512x256 .bf16) (o : ℕ) : FVec Ideal S512x256 .f32 :=
  k0_pay24 (k0_pay17 n (colsOf w o)) hm

section

variable (n : FVec Ideal S512x1024 .bf16) (w : FVec Ideal S1024x3072 .bf16) (hm : FVec Ideal S512x256 .bf16)
  (hh : ∀ (k : Fin 512) (d : Fin 256), hm (ix2 k d) = if k.val % 256 / 128 = d.val / 128 then ((1 / 128 : ℝ) : EReal) else 0)
  (hn : ∀ r k, ∃ x : ℝ, n (ix2 r k) = (x : EReal)) (hw : ∀ k c, ∃ x : ℝ, w (ix2 k c) = (x : EReal))

include hn hw in
theorem cols_real (o : ℕ) (r : Fin 512) (c : Fin 256) : ∃ x : ℝ, k0_pay17 (F := Ideal) n (colsOf w o) (ix2 r c) = (x : EReal) := by
  choose nr hn using hn
  choose wr hw using hw
  rw [proj_apply]
  refine ⟨∑ k : Fin 1024, nr r k * wr k (Fin.ofNat 3072 (o + c.val)), ?_⟩
  rw [Moba.coe_sum]
  refine Finset.sum_congr rfl fun k _ => ?_
  rw [EReal.coe_mul, ← hn, ← hw]
  rfl

theorem cols_low (o : ℕ) (r : Fin 512) (c : Fin 128) : k0_pay17 (F := Ideal) n (colsOf w o) (ix2 r ⟨c.val, by omega⟩) = proj n w o r c :=
  proj_apply _ _ _ _

theorem cols_high (o : ℕ) (r : Fin 512) (c : Fin 128) : k0_pay17 (F := Ideal) n (colsOf w o) (ix2 r ⟨128 + c.val, by omega⟩) = proj n w (o + 128) r c := by
  refine (proj_apply _ _ _ _).trans (Finset.sum_congr rfl fun k _ => ?_)
  refine congrArg (fun a => n (ix2 r k) * w (ix2 k (Fin.ofNat 3072 a))) ?_
  show o + (128 + c.val) = o + 128 + c.val
  omega

include hh hn hw in
theorem pair_low (o : ℕ) (r : Fin 512) (d : Fin 128) : pairN n w hm o (ix2 r ⟨d.val, by omega⟩) = headNrm (proj n w o r) d := by
  unfold pairN headNrm
  rw [pair_apply, mean_low hm hh _ (fun k => cols_real n w hn hw o r k) d]
  simp only [cols_low]

include hh hn hw in
theorem pair_high (o : ℕ) (r : Fin 512) (d : Fin 128) : pairN n w hm o (ix2 r ⟨128 + d.val, by omega⟩) = headNrm (proj n w (o + 128) r) d := by
  unfold pairN headNrm
  rw [pair_apply, mean_high hm hh _ (fun k => cols_real n w hn hw o r k) d]
  simp only [cols_high]

/-- A block of turned heads, from its two tables. -/
def turnG (A B : FVec Ideal S512x128 .f32) (o : ℕ) : S1x8x512x128.Idx → Elt Ideal .bf16 :=
  fun y => headNrm (proj n w (o + 128 * (y 1).val) (y 2)) (y 3) * A (ix2 (y 2) (y 3))
    + headNrm (proj n w (o + 128 * (y 1).val) (y 2)) (other (y 3)) * B (ix2 (y 2) (y 3))

/-- A block of heads as projected. -/
def plainG (o : ℕ) : S1x8x512x128.Idx → Elt Ideal .bf16 :=
  fun y => proj n w (o + 128 * (y 1).val) (y 2) (y 3)

end

theorem head_piece (G : S1x8x512x128.Idx → Elt Ideal .bf16) (h : Fin 8) (u : S1x1x512x128.Idx → Elt Ideal .bf16)
    (inb : ∀ a, (![0, h.val, 0, 0] : Fin 4 → ℕ) a + S1x1x512x128.size a ≤ S1x8x512x128.size a)
    (hu : ∀ r d, u (ix4 0 0 r d) = G (ix4 0 h r d))
    (x : (Rect.unit (s := S1x8x512x128) ![0, h.val, 0, 0] S1x1x512x128.size inb).shape.Idx) :
    u x = G ((Rect.unit (s := S1x8x512x128) ![0, h.val, 0, 0] S1x1x512x128.size inb).emb x) := by
  have h0 : (x 0).val < 1 := (x 0).isLt
  have h1 : (x 1).val < 1 := (x 1).isLt
  have ex : x = ix4 0 0 (x 2) (x 3) := by
    funext a
    apply Fin.ext
    match a with
    | 0 => show (x 0).val = 0; omega
    | 1 => show (x 1).val = 0; omega
    | 2 => rfl
    | 3 => rfl
  have ey : (Rect.unit (s := S1x8x512x128) ![0, h.val, 0, 0] S1x1x512x128.size inb).emb x = ix4 0 h (x 2) (x 3) := by
    funext a
    apply Fin.ext
    match a with
    | 0 => show 0 + 1 * (x 0).val = 0; omega
    | 1 => show h.val + 1 * (x 1).val = h.val; omega
    | 2 => show 0 + 1 * (x 2).val = (x 2).val; omega
    | 3 => show 0 + 1 * (x 3).val = (x 3).val; omega
  rw [ey]
  exact (congrArg u ex).trans (hu (x 2) (x 3))

section

variable (n : FVec Ideal S512x1024 .bf16) (w : FVec Ideal S1024x3072 .bf16) (hm : FVec Ideal S512x256 .bf16)
  (hh : ∀ (k : Fin 512) (d : Fin 256), hm (ix2 k d) = if k.val % 256 / 128 = d.val / 128 then ((1 / 128 : ℝ) : EReal) else 0)
  (hn : ∀ r k, ∃ x : ℝ, n (ix2 r k) = (x : EReal)) (hw : ∀ k c, ∃ x : ℝ, w (ix2 k c) = (x : EReal))
  (A B : FVec Ideal S512x128 .f32)

include hh hn hw in
theorem low_cell (o j : ℕ) (h : Fin 8) (e : j = o + 128 * h.val) (r : Fin 512) (d : Fin 128) :
    lowHead A B (pairN n w hm j) (ix4 0 0 r d) = turnG n w A B o (ix4 0 h r d) := by
  subst e
  rw [low_apply, pair_low n w hm hh hn hw, pair_low n w hm hh hn hw]
  rfl

include hh hn hw in
theorem high_cell (o j : ℕ) (h : Fin 8) (e : j + 128 = o + 128 * h.val) (r : Fin 512) (d : Fin 128) :
    highHead A B (pairN n w hm j) (ix4 0 0 r d) = turnG n w A B o (ix4 0 h r d) := by
  rw [high_apply, pair_high n w hm hh hn hw, pair_high n w hm hh hn hw, e]
  rfl

theorem slice_low (t : FVec Ideal S512x256 .f32) (r : Fin 512) (d : Fin 128) : k0_pay29 (F := Ideal) t (ix4 0 0 r d) = t (ix2 r ⟨d.val, by omega⟩) := by
  pointwise [k0_pay29]

theorem slice_high (t : FVec Ideal S512x256 .f32) (r : Fin 512) (d : Fin 128) : k0_pay30 (F := Ideal) t (ix4 0 0 r d) = t (ix2 r ⟨128 + d.val, by omega⟩) := by
  pointwise [k0_pay30]

theorem low_plain (o j : ℕ) (h : Fin 8) (e : j = o + 128 * h.val) (r : Fin 512) (d : Fin 128) :
    k0_pay29 (F := Ideal) (k0_pay17 n (colsOf w j)) (ix4 0 0 r d) = plainG n w o (ix4 0 h r d) := by
  subst e
  exact (slice_low _ r d).trans (cols_low n w _ r d)

theorem high_plain (o j : ℕ) (h : Fin 8) (e : j + 128 = o + 128 * h.val) (r : Fin 512) (d : Fin 128) :
    k0_pay30 (F := Ideal) (k0_pay17 n (colsOf w j)) (ix4 0 0 r d) = plainG n w o (ix4 0 h r d) := by
  exact (slice_high _ r d).trans ((cols_high n w j r d).trans (congrArg (fun a => proj n w a r d) e))

end

section

variable (x0 : Vec Ideal S1x512x1024 .f32) (x1 : Vec Ideal S1x1024 .f32) (x2 : Vec Ideal S1024x3072 .bf16) (x3 x4 : Vec Ideal S1x128 .f32)
  (x5 : Vec Ideal S1x512x1 .i32) (x6 : Vec Ideal S1x128 .f32) (x7 : Vec Ideal S512x256 .bf16)
  (hh : ∀ (k : Fin 512) (d : Fin 256), x7 (ix2 k d) = if k.val % 256 / 128 = d.val / 128 then ((1 / 128 : ℝ) : EReal) else 0)
  (hn : ∀ r k, ∃ x : ℝ, k0_pay3 (F := Ideal) x0 x1 (ix2 r k) = (x : EReal)) (hw : ∀ k c, ∃ x : ℝ, x2 (ix2 k c) = (x : EReal))

theorem v_eq : out0_10 x0 x1 x2 x3 x4 x5 x6 x7 = plainG (k0_pay3 x0 x1) x2 2048 := by
  unfold_out out0_10
  simp only [ld_cols]
  rw [View.ld_unit_lit _ x0 (by decide), View.ld_unit_lit _ x1 (by decide)]
  funext y
  refine View.canon_apply_of_pieces (plainG (k0_pay3 x0 x1) x2 2048) _ (View.PiecesOf.mem ?_) y (cover0_10 _ _ _ _ _ _ _ _ y)
  refine ⟨head_piece _ 7 _ (by decide) ?_, head_piece _ 6 _ (by decide) ?_, head_piece _ 5 _ (by decide) ?_, head_piece _ 4 _ (by decide) ?_,
    head_piece _ 3 _ (by decide) ?_, head_piece _ 2 _ (by decide) ?_, head_piece _ 1 _ (by decide) ?_, head_piece _ 0 _ (by decide) ?_, trivial⟩ <;>
    intro r d
  · exact high_plain _ _ 2048 2816 7 rfl r d
  · exact low_plain _ _ 2048 2816 6 rfl r d
  · exact high_plain _ _ 2048 2560 5 rfl r d
  · exact low_plain _ _ 2048 2560 4 rfl r d
  · exact high_plain _ _ 2048 2304 3 rfl r d
  · exact low_plain _ _ 2048 2304 2 rfl r d
  · exact high_plain _ _ 2048 2048 1 rfl r d
  · exact low_plain _ _ 2048 2048 0 rfl r d

include hh hn hw in
theorem q_eq : out0_8 x0 x1 x2 x3 x4 x5 x6 x7
    = turnG (k0_pay3 x0 x1) x2 (k0_pay12 (k0_pay6 x5 x6) x3) (k0_pay13 k0_pay4 (k0_pay7 x5 x6) (k0_pay8 x5 x6) (k0_pay9 x5 x6) x3) 0 := by
  unfold_out out0_8
  simp only [ld_cols]
  rw [View.ld_unit_lit _ x0 (by decide), View.ld_unit_lit _ x1 (by decide), View.ld_unit_lit _ x3 (by decide), View.ld_unit_lit _ x5 (by decide),
    View.ld_unit_lit _ x6 (by decide), View.ld_unit_lit _ x7 (by decide)]
  funext y
  refine View.canon_apply_of_pieces (turnG (k0_pay3 x0 x1) x2 (k0_pay12 (k0_pay6 x5 x6) x3) (k0_pay13 k0_pay4 (k0_pay7 x5 x6) (k0_pay8 x5 x6) (k0_pay9 x5 x6) x3) 0) _
    (View.PiecesOf.mem ?_) y (cover0_8 _ _ _ _ _ _ _ _ y)
  refine ⟨head_piece _ 7 _ (by decide) ?_, head_piece _ 6 _ (by decide) ?_, head_piece _ 5 _ (by decide) ?_, head_piece _ 4 _ (by decide) ?_,
    head_piece _ 3 _ (by decide) ?_, head_piece _ 2 _ (by decide) ?_, head_piece _ 1 _ (by decide) ?_, head_piece _ 0 _ (by decide) ?_, trivial⟩ <;>
    intro r d
  · exact high_cell _ _ _ hh hn hw _ _ 0 768 7 rfl r d
  · exact low_cell _ _ _ hh hn hw _ _ 0 768 6 rfl r d
  · exact high_cell _ _ _ hh hn hw _ _ 0 512 5 rfl r d
  · exact low_cell _ _ _ hh hn hw _ _ 0 512 4 rfl r d
  · exact high_cell _ _ _ hh hn hw _ _ 0 256 3 rfl r d
  · exact low_cell _ _ _ hh hn hw _ _ 0 256 2 rfl r d
  · exact high_cell _ _ _ hh hn hw _ _ 0 0 1 rfl r d
  · exact low_cell _ _ _ hh hn hw _ _ 0 0 0 rfl r d

include hh hn hw in
theorem k_eq : out0_9 x0 x1 x2 x3 x4 x5 x6 x7
    = turnG (k0_pay3 x0 x1) x2 (k0_pay15 (k0_pay6 x5 x6) x4) (k0_pay16 k0_pay4 (k0_pay7 x5 x6) (k0_pay8 x5 x6) (k0_pay9 x5 x6) x4) 1024 := by
  unfold_out out0_9
  simp only [ld_cols]
  rw [View.ld_unit_lit _ x0 (by decide), View.ld_unit_lit _ x1 (by decide), View.ld_unit_lit _ x4 (by decide), View.ld_unit_lit _ x5 (by decide),
    View.ld_unit_lit _ x6 (by decide), View.ld_unit_lit _ x7 (by decide)]
  funext y
  refine View.canon_apply_of_pieces (turnG (k0_pay3 x0 x1) x2 (k0_pay15 (k0_pay6 x5 x6) x4) (k0_pay16 k0_pay4 (k0_pay7 x5 x6) (k0_pay8 x5 x6) (k0_pay9 x5 x6) x4) 1024) _
    (View.PiecesOf.mem ?_) y (cover0_9 _ _ _ _ _ _ _ _ y)
  refine ⟨head_piece _ 7 _ (by decide) ?_, head_piece _ 6 _ (by decide) ?_, head_piece _ 5 _ (by decide) ?_, head_piece _ 4 _ (by decide) ?_,
    head_piece _ 3 _ (by decide) ?_, head_piece _ 2 _ (by decide) ?_, head_piece _ 1 _ (by decide) ?_, head_piece _ 0 _ (by decide) ?_, trivial⟩ <;>
    intro r d
  · exact high_cell _ _ _ hh hn hw _ _ 1024 1792 7 rfl r d
  · exact low_cell _ _ _ hh hn hw _ _ 1024 1792 6 rfl r d
  · exact high_cell _ _ _ hh hn hw _ _ 1024 1536 5 rfl r d
  · exact low_cell _ _ _ hh hn hw _ _ 1024 1536 4 rfl r d
  · exact high_cell _ _ _ hh hn hw _ _ 1024 1280 3 rfl r d
  · exact low_cell _ _ _ hh hn hw _ _ 1024 1280 2 rfl r d
  · exact high_cell _ _ _ hh hn hw _ _ 1024 1024 1 rfl r d
  · exact low_cell _ _ _ hh hn hw _ _ 1024 1024 0 rfl r d

end

end Cert.Proof.Qkv
end
-- ==== Proof.Qkv.Ref.lean ====
module

public import proofs.«01_k».proof.Proof.Qkv.Spec
public import proofs.«01_k».proof.Proof.Gen.Reference5Ideal.Read

@[expose] public section

set_option maxRecDepth 65536

noncomputable section

namespace Cert.Proof.Qkv

open Idealize.ShloMosaic Idealize.SL.Sem Cert.Reference5Ideal Cert.Reference5Ideal.Read

variable (x0 : S16x2048x1024.Idx → EReal) (x1 : IVec S16x2048 32) (x2 : S1024.Idx → EReal) (x3 : S1024x3072.Idx → EReal) (x4 x5 : S128.Idx → EReal)

/-- The columns of one head of one of the three projections. -/
def headCols (s : Fin 3) (h : Fin 8) (k : Fin 1024) (c : Fin 128) : EReal :=
  x3 (ix2 k (Fin.ofNat 3072 (1024 * s.val + 128 * h.val + c.val)))

theorem ref_nrm (b : Fin 16) (t : Fin 2048) (i : Fin 1024) :
    val_main_v12 (F := Ideal) x0 x2 (ix3 b t i) = Ffn.nrmRow (fun k => x0 (ix3 b t k)) (fun k => x2 (ix1 k)) i := by
  unfold Ffn.nrmRow
  pointwise [val_main_v12, val_main_v11, val_main_v10, val_main_v9, val_main_v8, val_main_v7, val_main_v6, val_main_v5, val_main_cst_1, val_main_v4, val_main_v3,
    val_main_cst_0, val_main_v2, val_main_v1, val_main_cst, val_main_v0]

theorem ref_proj (b : Fin 16) (t : Fin 2048) (c : Fin 3072) :
    val_main_v13 (F := Ideal) x0 x2 x3 (ix3 b t c) = ∑ k : Fin 1024, Ffn.nrmRow (fun k => x0 (ix3 b t k)) (fun k => x2 (ix1 k)) k * x3 (ix2 k c) := by
  simp only [← ref_nrm]
  generalize hy : (val_main_v12 (F := Ideal) x0 x2 : S16x2048x1024.Idx → EReal) = y
  pointwise [val_main_v13]
  simp only [hy]

/-- The projection's row, cut in three projections of eight heads of 128 columns. -/
theorem cut_apply (y : S16x2048x3072.Idx → EReal) (hc) (b : Fin 16) (t : Fin 2048) (s : Fin 3) (h : Fin 8) (c : Fin 128) :
    shapeCast S16x2048x3x8x128 y hc (ix5 b t s h c) = y (ix3 b t (Fin.ofNat 3072 (1024 * s.val + 128 * h.val + c.val))) := by
  pointwise
  refine congrArg y (congrArg (ix3 b t) (Fin.ext ?_))
  have := s.isLt
  have := h.isLt
  have := c.isLt
  show s.val * 1024 + h.val * 128 + c.val = (1024 * s.val + 128 * h.val + c.val) % 3072
  omega

theorem ref_q (b : Fin 16) (t : Fin 2048) (h : Fin 8) (c : Fin 128) :
    val_main_v16 (F := Ideal) x0 x2 x3 (ix4 b t h c) = headRow (fun k => x0 (ix3 b t k)) (fun k => x2 (ix1 k)) (headCols x3 0 h) c := by
  refine Eq.trans ?_ ((cut_apply _ (by decide) b t 0 h c).trans (ref_proj x0 x2 x3 b t _))
  pointwise [val_main_v16, val_main_v15, val_main_v14]

theorem ref_k (b : Fin 16) (t : Fin 2048) (h : Fin 8) (c : Fin 128) :
    val_main_v60 (F := Ideal) x0 x2 x3 (ix4 b t h c) = headRow (fun k => x0 (ix3 b t k)) (fun k => x2 (ix1 k)) (headCols x3 1 h) c := by
  refine Eq.trans ?_ ((cut_apply _ (by decide) b t 1 h c).trans (ref_proj x0 x2 x3 b t _))
  pointwise [val_main_v60, val_main_v59, val_main_v14]

theorem ref_v (b : Fin 16) (t : Fin 2048) (h : Fin 8) (c : Fin 128) :
    val_main_v104 (F := Ideal) x0 x2 x3 (ix4 b t h c) = headRow (fun k => x0 (ix3 b t k)) (fun k => x2 (ix1 k)) (headCols x3 2 h) c := by
  refine Eq.trans ?_ ((cut_apply _ (by decide) b t 2 h c).trans (ref_proj x0 x2 x3 b t _))
  pointwise [val_main_v104, val_main_v103, val_main_v14]

theorem ref_qn (b : Fin 16) (t : Fin 2048) (h : Fin 8) (d : Fin 128) :
    val_main_v29 (F := Ideal) x0 x2 x3 x4 (ix4 b t h d)
      = headNrm (headRow (fun k => x0 (ix3 b t k)) (fun k => x2 (ix1 k)) (headCols x3 0 h)) d * x4 (ix1 d) := by
  unfold headNrm
  simp only [← ref_q]
  generalize hy : (val_main_v16 (F := Ideal) x0 x2 x3 : S16x2048x8x128.Idx → EReal) = y
  pointwise [val_main_v29, val_main_v28, val_main_v27, val_main_v26, val_main_v25, val_main_v24, val_main_v23, val_main_v22, val_main_cst_4, val_main_v21, val_main_v20,
    val_main_cst_3, val_main_v19, val_main_v18, val_main_cst_2, val_main_v17]
  simp only [hy]

theorem ref_kn (b : Fin 16) (t : Fin 2048) (h : Fin 8) (d : Fin 128) :
    val_main_v73 (F := Ideal) x0 x2 x3 x5 (ix4 b t h d)
      = headNrm (headRow (fun k => x0 (ix3 b t k)) (fun k => x2 (ix1 k)) (headCols x3 1 h)) d * x5 (ix1 d) := by
  unfold headNrm
  simp only [← ref_k]
  generalize hy : (val_main_v60 (F := Ideal) x0 x2 x3 : S16x2048x8x128.Idx → EReal) = y
  pointwise [val_main_v73, val_main_v72, val_main_v71, val_main_v70, val_main_v69, val_main_v68, val_main_v67, val_main_v66, val_main_cst_9, val_main_v65, val_main_v64,
    val_main_cst_8, val_main_v63, val_main_v62, val_main_cst_7, val_main_v61]
  simp only [hy]

/-- The position a row stands at, and the 64 frequencies. -/
def freq (j : Fin 64) : EReal := val_main_v35 (F := Ideal) (ix1 j)

def place (b : Fin 16) (t : Fin 2048) : EReal := (sitofp (F := Ideal) .f32 x1 : S16x2048.Idx → EReal) (ix2 b t)

theorem ref_ang (b : Fin 16) (t : Fin 2048) (j : Fin 64) :
    val_main_v41 (F := Ideal) x1 (ix3 b t j) = place x1 b t * freq j := by
  unfold place freq
  generalize hy : (val_main_v35 (F := Ideal) : S64.Idx → EReal) = y
  pointwise [val_main_v41, val_main_v40, val_main_v39, val_main_v38, val_main_v37, val_main_v36]
  simp only [hy]

/-- The two halves of a turned head, written as one. -/
theorem halves (y : S16x2048x8x128.Idx → EReal) (co si : Fin 64 → EReal) (i : Fin 128 → S16x2048x8x128.Idx) (d : Fin 128) :
    (if h : d.val < 64 then y (i d) * co ⟨d.val, h⟩ - y (i ⟨64 + d.val, by omega⟩) * si ⟨d.val, h⟩
      else y (i ⟨64 + (d.val - 64), by omega⟩) * co ⟨d.val - 64, by omega⟩ + y (i ⟨d.val - 64, by omega⟩) * si ⟨d.val - 64, by omega⟩)
    = y (i d) * co ⟨d.val % 64, Nat.mod_lt _ (by decide)⟩ + y (i (other d)) * signed d (si ⟨d.val % 64, Nat.mod_lt _ (by decide)⟩) := by
  have hd := d.isLt
  unfold signed
  by_cases h : d.val < 64
  · rw [dif_pos h, if_pos h]
    have e1 : (⟨d.val % 64, Nat.mod_lt _ (by decide)⟩ : Fin 64) = ⟨d.val, h⟩ := Fin.ext (Nat.mod_eq_of_lt h)
    have e2 : other d = ⟨64 + d.val, by omega⟩ := Fin.ext (by show (d.val + 64) % 128 = 64 + d.val; omega)
    rw [e1, e2, sub_eq_add_neg, mul_neg]
  · rw [dif_neg h, if_neg h]
    have e1 : (⟨d.val % 64, Nat.mod_lt _ (by decide)⟩ : Fin 64) = ⟨d.val - 64, by omega⟩ := Fin.ext (by show d.val % 64 = d.val - 64; omega)
    have e2 : other d = ⟨d.val - 64, by omega⟩ := Fin.ext (by show (d.val + 64) % 128 = d.val - 64; omega)
    have e3 : (⟨64 + (d.val - 64), by omega⟩ : Fin 128) = d := Fin.ext (by show 64 + (d.val - 64) = d.val; omega)
    rw [e1, e2, e3]

theorem ref_turn (b : Fin 16) (t : Fin 2048) (h : Fin 8) (d : Fin 128) :
    val_main_v58 (F := Ideal) x0 x1 x2 x3 x4 (ix4 b t h d)
      = keyRow (fun k => x0 (ix3 b t k)) (fun k => x2 (ix1 k)) (headCols x3 0 h) (fun k => x4 (ix1 k)) (place x1 b t) freq d := by
  unfold keyRow turned angle
  simp only [← ref_qn, ← ref_ang]
  generalize hy : (val_main_v29 (F := Ideal) x0 x2 x3 x4 : S16x2048x8x128.Idx → EReal) = y
  generalize hz : (val_main_v41 (F := Ideal) x1 : S16x2048x64.Idx → EReal) = z
  pointwise [val_main_v58, val_main_v57, val_main_v56, val_main_v55, val_main_v54, val_main_v53, val_main_v52, val_main_v51, val_main_v50, val_main_v49, val_main_v48,
    val_main_v47, val_main_v46, val_main_v45, val_main_v44, val_main_v43, val_main_v42]
  simp only [hy, hz]
  exact halves y (fun j => Ideal.cos (z (ix3 b t j))) (fun j => Ideal.sin (z (ix3 b t j))) (fun d => ix4 b t h d) d

theorem ref_ang' (b : Fin 16) (t : Fin 2048) (j : Fin 64) :
    val_main_v85 (F := Ideal) x1 (ix3 b t j) = place x1 b t * freq j :=
  ref_ang x1 b t j

theorem ref_turn' (b : Fin 16) (t : Fin 2048) (h : Fin 8) (d : Fin 128) :
    val_main_v102 (F := Ideal) x0 x1 x2 x3 x5 (ix4 b t h d)
      = keyRow (fun k => x0 (ix3 b t k)) (fun k => x2 (ix1 k)) (headCols x3 1 h) (fun k => x5 (ix1 k)) (place x1 b t) freq d := by
  unfold keyRow turned angle
  simp only [← ref_kn, ← ref_ang']
  generalize hy : (val_main_v73 (F := Ideal) x0 x2 x3 x5 : S16x2048x8x128.Idx → EReal) = y
  generalize hz : (val_main_v85 (F := Ideal) x1 : S16x2048x64.Idx → EReal) = z
  pointwise [val_main_v102, val_main_v101, val_main_v100, val_main_v99, val_main_v98, val_main_v97, val_main_v96, val_main_v95, val_main_v94, val_main_v93, val_main_v92,
    val_main_v91, val_main_v90, val_main_v89, val_main_v88, val_main_v87, val_main_v86]
  simp only [hy, hz]
  exact halves y (fun j => Ideal.cos (z (ix3 b t j))) (fun j => Ideal.sin (z (ix3 b t j))) (fun d => ix4 b t h d) d

/-! ## The three results -/

theorem ref0 (b : Fin 16) (h : Fin 8) (t : Fin 2048) (d : Fin 128) :
    val_main_v110 (F := Ideal) x0 x1 x2 x3 x4 (ix4 b h t d)
      = keyRow (fun k => x0 (ix3 b t k)) (fun k => x2 (ix1 k)) (headCols x3 0 h) (fun k => x4 (ix1 k)) (place x1 b t) freq d
        * Ideal.ofBits .f32 0x3E0293EE#32 := by
  rw [← ref_turn]
  pointwise [val_main_v110, val_main_v107, val_main_v106, val_main_v105, val_main_cst_12]

theorem ref1 (b : Fin 16) (h : Fin 8) (t : Fin 2048) (d : Fin 128) :
    val_main_v111 (F := Ideal) x0 x1 x2 x3 x5 (ix4 b h t d)
      = keyRow (fun k => x0 (ix3 b t k)) (fun k => x2 (ix1 k)) (headCols x3 1 h) (fun k => x5 (ix1 k)) (place x1 b t) freq d := by
  rw [← ref_turn']
  pointwise [val_main_v111, val_main_v108]

theorem ref2 (b : Fin 16) (h : Fin 8) (t : Fin 2048) (d : Fin 128) :
    val_main_v112 (F := Ideal) x0 x2 x3 (ix4 b h t d) = headRow (fun k => x0 (ix3 b t k)) (fun k => x2 (ix1 k)) (headCols x3 2 h) d := by
  rw [← ref_v]
  pointwise [val_main_v112, val_main_v109]

end Cert.Proof.Qkv
end
-- ==== Proof.Qkv.Table.lean ====
module

public import proofs.«01_k».proof.Kernel5Ideal
public import Mathlib.Tactic.IntervalCases

@[expose] public section

set_option maxRecDepth 65536

noncomputable section

namespace Cert.Proof.Qkv

open Idealize.ShloMosaic Cert.Kernel5Ideal

/-! ## The table of means, entry by entry

The table has 512 rows of 256 entries: 1/128 where the row's lane and the column are in the same head of the pair, 0
elsewhere. Each run of 128 entries is constant, and each run of 128 such runs, 64 rows, is one of two. -/

theorem run_one (i : ℕ) : lit0t0_0 i = 0x3C00#16 := by
  have h : i % 128 < 128 := Nat.mod_lt _ (by decide)
  unfold lit0t0_0
  generalize i % 128 = c at h ⊢
  interval_cases c <;> rfl

theorem run_zero (i : ℕ) : lit0t0_1 i = 0#16 := by
  have h : i % 128 < 128 := Nat.mod_lt _ (by decide)
  unfold lit0t0_1
  generalize i % 128 = c at h ⊢
  interval_cases c <;> rfl

theorem even_rows (i : ℕ) : lit0t1_0 i = if i / 128 % 2 = 0 then 0x3C00#16 else 0#16 := by
  have h : i / 128 % 128 < 128 := Nat.mod_lt _ (by decide)
  have e : i / 128 % 2 = i / 128 % 128 % 2 := (Nat.mod_mod_of_dvd _ (by decide)).symm
  rw [e, ← run_one i, ← run_zero i]
  unfold lit0t1_0
  generalize i / 128 % 128 = c at h ⊢
  interval_cases c <;> rfl

theorem odd_rows (i : ℕ) : lit0t1_2 i = if i / 128 % 2 = 1 then 0x3C00#16 else 0#16 := by
  have h : i / 128 % 128 < 128 := Nat.mod_lt _ (by decide)
  have e : i / 128 % 2 = i / 128 % 128 % 2 := (Nat.mod_mod_of_dvd _ (by decide)).symm
  rw [e, ← run_one i, ← run_zero i]
  unfold lit0t1_2
  generalize i / 128 % 128 = c at h ⊢
  interval_cases c <;> rfl

theorem rows_eq (i : ℕ) : lit0t1_1 i = lit0t1_0 i ∧ lit0t1_4 i = lit0t1_0 i ∧ lit0t1_5 i = lit0t1_0 i
    ∧ lit0t1_3 i = lit0t1_2 i ∧ lit0t1_6 i = lit0t1_2 i ∧ lit0t1_7 i = lit0t1_2 i :=
  ⟨rfl, rfl, rfl, rfl, rfl, rfl⟩

theorem table_rows (i : ℕ) (h : i / 16384 < 8) : lit0t i = if i / 16384 % 4 / 2 = i / 128 % 2 then 0x3C00#16 else 0#16 := by
  obtain ⟨e1, e4, e5, e3, e6, e7⟩ := rows_eq i
  unfold lit0t
  generalize i / 16384 = j at h ⊢
  have one : (if 0 = i / 128 % 2 then 0x3C00#16 else 0#16) = lit0t1_0 i := by
    rw [even_rows]
    exact if_congr eq_comm rfl rfl
  have two : (if 1 = i / 128 % 2 then 0x3C00#16 else 0#16) = lit0t1_2 i := by
    rw [odd_rows]
    exact if_congr eq_comm rfl rfl
  interval_cases j
  · exact one.symm
  · exact e1.trans one.symm
  · exact two.symm
  · exact e3.trans two.symm
  · exact e4.trans one.symm
  · exact e5.trans one.symm
  · exact e6.trans two.symm
  · exact e7.trans two.symm

theorem entry_apply (k : Fin 512) (d : Fin 256) :
    lit0t (256 * k.val + d.val) = if k.val % 256 / 128 = d.val / 128 then 0x3C00#16 else 0#16 := by
  have hk := k.isLt
  have hd := d.isLt
  have e1 : (256 * k.val + d.val) / 16384 % 4 / 2 = k.val % 256 / 128 := by omega
  have e2 : (256 * k.val + d.val) / 128 % 2 = d.val / 128 := by omega
  rw [table_rows _ (by omega), e1, e2]

end Cert.Proof.Qkv
end
-- ==== Proof.Qkv.Host.lean ====
module

public import proofs.«01_k».proof.Proof.Qkv.Cell
public import proofs.«01_k».proof.Proof.Qkv.Ref
public import proofs.«01_k».proof.Proof.Qkv.Table
public import proofs.«01_k».proof.Proof.Gen.Kernel5Ideal.Value
public import Idealize.ShloMosaic.Lib.Pipeline.ValueKit.Geometry

@[expose] public section

set_option maxRecDepth 65536

noncomputable section

namespace Cert.Proof.Qkv

open Idealize.ShloMosaic Idealize.SL.Sem Idealize.ShloMosaic.Pipeline Idealize.ShloMosaic.TcCoe Cert.Kernel5Ideal Cert.Kernel5Ideal.Gen

variable (m : (ℓ : Loc nD τ sig) → Buf (Elt Ideal) ℓ)

/-! ## The arrays the kernel finds -/

/-- The 64 frequencies laid twice along the lanes. -/
def freqs : FVec Ideal S1x128 .f32 :=
  let y : FVec Ideal S64 .f32 := Cert.Reference5Ideal.Read.val_main_v35 (F := Ideal)
  broadcastInDim S1x128 ![1] bcast_S128_S1x128_1 (concatenate S128 0 [⟨S64, y⟩, ⟨S64, y⟩] concatenates_S64_S64_S128_d0)

theorem freqs_apply (d : Fin 128) : freqs (ix2 0 d) = freq ⟨d.val % 64, Nat.mod_lt _ (by decide)⟩ := by
  unfold freqs freq
  generalize Cert.Reference5Ideal.Read.val_main_v35 (F := Ideal) = y
  pointwise
  have := d.isLt
  split
  · rename_i h
    exact congrArg y (congrArg ix1 (Fin.ext (Nat.mod_eq_of_lt h).symm))
  · refine congrArg y (congrArg ix1 (Fin.ext ?_))
    show d.val - 64 = d.val % 64
    omega

theorem V7 (c : Dev nD) : V m c main_v7 = freqs := by
  simp only [V, hostOps0]
  after_results_simp
  rfl

theorem V8 (c : Dev nD) (b : Fin 16) (t : Fin 2048) :
    V m c main_v8 (ix3 b t 0) = (m ((c : Thread nD τ).loc main_arg1) : S16x2048.Idx → BitVec 32) (ix2 b t) := by
  have e : V m c main_v8 = broadcastInDim S16x2048x1 ![0, 1] bcast_S16x2048_S16x2048x1_0_1 (m ((c : Thread nD τ).loc main_arg1) : S16x2048.Idx → BitVec 32) := by
    simp only [V, hostOps0]
    after_results_simp
  rw [e]
  pointwise

theorem row_apply (y : S128.Idx → EReal) (h) (k : Fin 128) : broadcastInDim S1x128 ![1] h y (ix2 0 k) = y (ix1 k) := by
  pointwise

theorem long_apply (y : S1024.Idx → EReal) (h) (k : Fin 1024) : broadcastInDim S1x1024 ![1] h y (ix2 0 k) = y (ix1 k) := by
  pointwise

theorem V9 (c : Dev nD) (k : Fin 1024) :
    V m c main_v9 (ix2 0 k) = (m ((c : Thread nD τ).loc main_arg2) : S1024.Idx → EReal) (ix1 k) := by
  have e : V m c main_v9 = broadcastInDim S1x1024 ![1] bcast_S1024_S1x1024_1 (m ((c : Thread nD τ).loc main_arg2) : S1024.Idx → EReal) := by
    simp only [V, hostOps0]
    after_results_simp
  rw [e]
  exact long_apply _ _ k

theorem V10 (c : Dev nD) : V m c main_v10 = m ((c : Thread nD τ).loc main_arg3) := by
  simp only [V, hostOps0]
  after_results_simp
  rfl

theorem V11 (c : Dev nD) (k : Fin 128) :
    V m c main_v11 (ix2 0 k) = (m ((c : Thread nD τ).loc main_arg4) : S128.Idx → EReal) (ix1 k) := by
  have e : V m c main_v11 = broadcastInDim S1x128 ![1] bcast_S128_S1x128_1 (m ((c : Thread nD τ).loc main_arg4) : S128.Idx → EReal) := by
    simp only [V, hostOps0]
    after_results_simp
  rw [e]
  exact row_apply _ _ k

theorem V12 (c : Dev nD) (k : Fin 128) :
    V m c main_v12 (ix2 0 k) = (m ((c : Thread nD τ).loc main_arg5) : S128.Idx → EReal) (ix1 k) := by
  have e : V m c main_v12 = broadcastInDim S1x128 ![1] bcast_S128_S1x128_1 (m ((c : Thread nD τ).loc main_arg5) : S128.Idx → EReal) := by
    simp only [V, hostOps0]
    after_results_simp
  rw [e]
  exact row_apply _ _ k

/-- The table of means: one over the head's width where the row's lane is in the column's head. -/
def meanTab : FVec Ideal S512x256 .bf16 := fun i => Ideal.ofBits .bf16 (lit0 (S512x256.rowMajor i))

theorem Vcst (c : Dev nD) : V m c main_cst = meanTab := by
  simp only [V, hostOps0]
  after_results_simp
  rfl

theorem one_128 : Ideal.ofBits .bf16 0x3C00#16 = ((1 / 128 : ℝ) : EReal) := by
  simp [Ideal.ofBits, Ideal.ieee, -EReal.coe_mul]
  norm_num

theorem zero_bf16 : Ideal.ofBits .bf16 0#16 = (0 : EReal) := by
  simp [Ideal.ofBits, Ideal.ieee, -EReal.coe_mul]

theorem meanTab_apply (k : Fin 512) (d : Fin 256) :
    meanTab (ix2 k d) = if k.val % 256 / 128 = d.val / 128 then ((1 / 128 : ℝ) : EReal) else 0 := by
  have e : (S512x256.rowMajor (ix2 k d)).val = 256 * k.val + d.val := by
    refine (Shape.rowMajor_val_two (ix2 k d)).trans ?_
    show k.val * 256 + d.val = 256 * k.val + d.val
    omega
  have h : meanTab (ix2 k d) = Ideal.ofBits .bf16 (lit0t (256 * k.val + d.val)) := by
    rw [← e]
    rfl
  rw [h, entry_apply]
  by_cases h : k.val % 256 / 128 = d.val / 128
  · rw [if_pos h, if_pos h, one_128]
  · rw [if_neg h, if_neg h, zero_bf16]

/-! ## The windows' blocks -/

/-- The grid point of a row. -/
def pt (b : Fin 16) (t : Fin 2048) : Fin cfg0.N := ⟨4 * b.val + t.val / 512, by have := b.isLt; have := t.isLt; show _ < 64; omega⟩

/-- The row within its block. -/
def rowIn (t : Fin 2048) : Fin 512 := ⟨t.val % 512, by omega⟩

theorem idx_facts : ∀ t : Fin cfg0.N, win0_0.index t = ![t.val / 4, t.val % 4, 0]
    ∧ win0_1.index t = ![0, 0]
    ∧ win0_2.index t = ![0, 0]
    ∧ win0_3.index t = ![0, 0]
    ∧ win0_4.index t = ![0, 0]
    ∧ win0_5.index t = ![t.val / 4, t.val % 4, 0]
    ∧ win0_6.index t = ![0, 0]
    ∧ win0_7.index t = ![0, 0]
    ∧ win0_8.index t = ![t.val / 4, 0, t.val % 4, 0]
    ∧ win0_9.index t = ![t.val / 4, 0, t.val % 4, 0]
    ∧ win0_10.index t = ![t.val / 4, 0, t.val % 4, 0]
    ∧ (cfg0.win 8).flush t = true ∧ (cfg0.win 9).flush t = true ∧ (cfg0.win 10).flush t = true :=
  (by decide +kernel : ∀ t : Fin grid0.N, _)

theorem emb0 (b : Fin 16) (t : Fin 2048) (k : Fin 1024) : ((cfg0.win 0).blk (pt b t)).view.emb (ix3 0 (rowIn t) k) = ix3 b t k := by
  have e := (idx_facts (pt b t)).1
  have := t.isLt
  funext a; apply Fin.ext
  match a with
  | ⟨0, _⟩ => show win0_0.index (pt b t) (0 : Fin 3) * 1 + 1 * 0 = b.val; rw [e]; show (4 * b.val + t.val / 512) / 4 * 1 + 1 * 0 = b.val; omega
  | ⟨1, _⟩ => show win0_0.index (pt b t) (1 : Fin 3) * 512 + 1 * (t.val % 512) = t.val; rw [e]; show (4 * b.val + t.val / 512) % 4 * 512 + 1 * (t.val % 512) = t.val; omega
  | ⟨2, _⟩ => show win0_0.index (pt b t) (2 : Fin 3) * 1024 + 1 * k.val = k.val; rw [e]; show 0 * 1024 + 1 * k.val = k.val; omega

theorem emb5 (b : Fin 16) (t : Fin 2048) : ((cfg0.win 5).blk (pt b t)).view.emb (ix3 0 (rowIn t) 0) = ix3 b t 0 := by
  have e := (idx_facts (pt b t)).2.2.2.2.2.1
  have := t.isLt
  funext a; apply Fin.ext
  match a with
  | ⟨0, _⟩ => show win0_5.index (pt b t) (0 : Fin 3) * 1 + 1 * 0 = b.val; rw [e]; show (4 * b.val + t.val / 512) / 4 * 1 + 1 * 0 = b.val; omega
  | ⟨1, _⟩ => show win0_5.index (pt b t) (1 : Fin 3) * 512 + 1 * (t.val % 512) = t.val; rw [e]; show (4 * b.val + t.val / 512) % 4 * 512 + 1 * (t.val % 512) = t.val; omega
  | ⟨2, _⟩ => show win0_5.index (pt b t) (2 : Fin 3) * 1 + 1 * 0 = 0; rw [e]; rfl

theorem emb1 (b : Fin 16) (t : Fin 2048) (i : Fin 1) (k : Fin 1024) : ((cfg0.win 1).blk (pt b t)).view.emb (ix2 i k) = ix2 i k := by
  have e := (idx_facts (pt b t)).2.1
  funext a; apply Fin.ext
  match a with
  | ⟨0, _⟩ => show win0_1.index (pt b t) (0 : Fin 2) * 1 + 1 * i.val = i.val; rw [e]; show 0 * 1 + 1 * i.val = i.val; omega
  | ⟨1, _⟩ => show win0_1.index (pt b t) (1 : Fin 2) * 1024 + 1 * k.val = k.val; rw [e]; show 0 * 1024 + 1 * k.val = k.val; omega

theorem emb2 (b : Fin 16) (t : Fin 2048) (i : Fin 1024) (k : Fin 3072) : ((cfg0.win 2).blk (pt b t)).view.emb (ix2 i k) = ix2 i k := by
  have e := (idx_facts (pt b t)).2.2.1
  funext a; apply Fin.ext
  match a with
  | ⟨0, _⟩ => show win0_2.index (pt b t) (0 : Fin 2) * 1024 + 1 * i.val = i.val; rw [e]; show 0 * 1024 + 1 * i.val = i.val; omega
  | ⟨1, _⟩ => show win0_2.index (pt b t) (1 : Fin 2) * 3072 + 1 * k.val = k.val; rw [e]; show 0 * 3072 + 1 * k.val = k.val; omega

theorem emb3 (b : Fin 16) (t : Fin 2048) (i : Fin 1) (k : Fin 128) : ((cfg0.win 3).blk (pt b t)).view.emb (ix2 i k) = ix2 i k := by
  have e := (idx_facts (pt b t)).2.2.2.1
  funext a; apply Fin.ext
  match a with
  | ⟨0, _⟩ => show win0_3.index (pt b t) (0 : Fin 2) * 1 + 1 * i.val = i.val; rw [e]; show 0 * 1 + 1 * i.val = i.val; omega
  | ⟨1, _⟩ => show win0_3.index (pt b t) (1 : Fin 2) * 128 + 1 * k.val = k.val; rw [e]; show 0 * 128 + 1 * k.val = k.val; omega

theorem emb4 (b : Fin 16) (t : Fin 2048) (i : Fin 1) (k : Fin 128) : ((cfg0.win 4).blk (pt b t)).view.emb (ix2 i k) = ix2 i k := by
  have e := (idx_facts (pt b t)).2.2.2.2.1
  funext a; apply Fin.ext
  match a with
  | ⟨0, _⟩ => show win0_4.index (pt b t) (0 : Fin 2) * 1 + 1 * i.val = i.val; rw [e]; show 0 * 1 + 1 * i.val = i.val; omega
  | ⟨1, _⟩ => show win0_4.index (pt b t) (1 : Fin 2) * 128 + 1 * k.val = k.val; rw [e]; show 0 * 128 + 1 * k.val = k.val; omega

theorem emb6 (b : Fin 16) (t : Fin 2048) (i : Fin 1) (k : Fin 128) : ((cfg0.win 6).blk (pt b t)).view.emb (ix2 i k) = ix2 i k := by
  have e := (idx_facts (pt b t)).2.2.2.2.2.2.1
  funext a; apply Fin.ext
  match a with
  | ⟨0, _⟩ => show win0_6.index (pt b t) (0 : Fin 2) * 1 + 1 * i.val = i.val; rw [e]; show 0 * 1 + 1 * i.val = i.val; omega
  | ⟨1, _⟩ => show win0_6.index (pt b t) (1 : Fin 2) * 128 + 1 * k.val = k.val; rw [e]; show 0 * 128 + 1 * k.val = k.val; omega

theorem emb7 (b : Fin 16) (t : Fin 2048) (i : Fin 512) (k : Fin 256) : ((cfg0.win 7).blk (pt b t)).view.emb (ix2 i k) = ix2 i k := by
  have e := (idx_facts (pt b t)).2.2.2.2.2.2.2.1
  funext a; apply Fin.ext
  match a with
  | ⟨0, _⟩ => show win0_7.index (pt b t) (0 : Fin 2) * 512 + 1 * i.val = i.val; rw [e]; show 0 * 512 + 1 * i.val = i.val; omega
  | ⟨1, _⟩ => show win0_7.index (pt b t) (1 : Fin 2) * 256 + 1 * k.val = k.val; rw [e]; show 0 * 256 + 1 * k.val = k.val; omega

theorem emb8 (b : Fin 16) (h : Fin 8) (t : Fin 2048) (d : Fin 128) : ((cfg0.win 8).blk (pt b t)).view.emb (ix4 0 h (rowIn t) d) = ix4 b h t d := by
  have e := (idx_facts (pt b t)).2.2.2.2.2.2.2.2.1
  have := t.isLt
  funext a; apply Fin.ext
  match a with
  | ⟨0, _⟩ => show win0_8.index (pt b t) (0 : Fin 4) * 1 + 1 * 0 = b.val; rw [e]; show (4 * b.val + t.val / 512) / 4 * 1 + 1 * 0 = b.val; omega
  | ⟨1, _⟩ => show win0_8.index (pt b t) (1 : Fin 4) * 8 + 1 * h.val = h.val; rw [e]; show 0 * 8 + 1 * h.val = h.val; omega
  | ⟨2, _⟩ => show win0_8.index (pt b t) (2 : Fin 4) * 512 + 1 * (t.val % 512) = t.val; rw [e]; show (4 * b.val + t.val / 512) % 4 * 512 + 1 * (t.val % 512) = t.val; omega
  | ⟨3, _⟩ => show win0_8.index (pt b t) (3 : Fin 4) * 128 + 1 * d.val = d.val; rw [e]; show 0 * 128 + 1 * d.val = d.val; omega

theorem emb9 (b : Fin 16) (h : Fin 8) (t : Fin 2048) (d : Fin 128) : ((cfg0.win 9).blk (pt b t)).view.emb (ix4 0 h (rowIn t) d) = ix4 b h t d := by
  have e := (idx_facts (pt b t)).2.2.2.2.2.2.2.2.2.1
  have := t.isLt
  funext a; apply Fin.ext
  match a with
  | ⟨0, _⟩ => show win0_9.index (pt b t) (0 : Fin 4) * 1 + 1 * 0 = b.val; rw [e]; show (4 * b.val + t.val / 512) / 4 * 1 + 1 * 0 = b.val; omega
  | ⟨1, _⟩ => show win0_9.index (pt b t) (1 : Fin 4) * 8 + 1 * h.val = h.val; rw [e]; show 0 * 8 + 1 * h.val = h.val; omega
  | ⟨2, _⟩ => show win0_9.index (pt b t) (2 : Fin 4) * 512 + 1 * (t.val % 512) = t.val; rw [e]; show (4 * b.val + t.val / 512) % 4 * 512 + 1 * (t.val % 512) = t.val; omega
  | ⟨3, _⟩ => show win0_9.index (pt b t) (3 : Fin 4) * 128 + 1 * d.val = d.val; rw [e]; show 0 * 128 + 1 * d.val = d.val; omega

theorem emb10 (b : Fin 16) (h : Fin 8) (t : Fin 2048) (d : Fin 128) : ((cfg0.win 10).blk (pt b t)).view.emb (ix4 0 h (rowIn t) d) = ix4 b h t d := by
  have e := (idx_facts (pt b t)).2.2.2.2.2.2.2.2.2.2.1
  have := t.isLt
  funext a; apply Fin.ext
  match a with
  | ⟨0, _⟩ => show win0_10.index (pt b t) (0 : Fin 4) * 1 + 1 * 0 = b.val; rw [e]; show (4 * b.val + t.val / 512) / 4 * 1 + 1 * 0 = b.val; omega
  | ⟨1, _⟩ => show win0_10.index (pt b t) (1 : Fin 4) * 8 + 1 * h.val = h.val; rw [e]; show 0 * 8 + 1 * h.val = h.val; omega
  | ⟨2, _⟩ => show win0_10.index (pt b t) (2 : Fin 4) * 512 + 1 * (t.val % 512) = t.val; rw [e]; show (4 * b.val + t.val / 512) % 4 * 512 + 1 * (t.val % 512) = t.val; omega
  | ⟨3, _⟩ => show win0_10.index (pt b t) (3 : Fin 4) * 128 + 1 * d.val = d.val; rw [e]; show 0 * 128 + 1 * d.val = d.val; omega

theorem blk0 (c : Dev nD) (b : Fin 16) (t : Fin 2048) (k : Fin 1024) :
    iblk m c 0 (pt b t) (ix3 0 (rowIn t) k) = (m ((c : Thread nD τ).loc main_arg0) : S16x2048x1024.Idx → EReal) (ix3 b t k) := by
  show V m c main_arg0 (((cfg0.win 0).blk (pt b t)).view.emb (ix3 0 (rowIn t) k)) = _
  rw [emb0, V_main_arg0]

theorem blk1 (c : Dev nD) (b : Fin 16) (t : Fin 2048) (k : Fin 1024) :
    iblk m c 1 (pt b t) (ix2 0 k) = (m ((c : Thread nD τ).loc main_arg2) : S1024.Idx → EReal) (ix1 k) := by
  show V m c main_v9 (((cfg0.win 1).blk (pt b t)).view.emb (ix2 0 k)) = _
  rw [emb1, V9]

theorem blk2 (c : Dev nD) (b : Fin 16) (t : Fin 2048) (i : Fin 1024) (k : Fin 3072) :
    iblk m c 2 (pt b t) (ix2 i k) = (m ((c : Thread nD τ).loc main_arg3) : S1024x3072.Idx → EReal) (ix2 i k) := by
  show V m c main_v10 (((cfg0.win 2).blk (pt b t)).view.emb (ix2 i k)) = _
  rw [emb2, V10]

theorem blk3 (c : Dev nD) (b : Fin 16) (t : Fin 2048) (k : Fin 128) :
    iblk m c 3 (pt b t) (ix2 0 k) = (m ((c : Thread nD τ).loc main_arg4) : S128.Idx → EReal) (ix1 k) := by
  show V m c main_v11 (((cfg0.win 3).blk (pt b t)).view.emb (ix2 0 k)) = _
  rw [emb3, V11]

theorem blk4 (c : Dev nD) (b : Fin 16) (t : Fin 2048) (k : Fin 128) :
    iblk m c 4 (pt b t) (ix2 0 k) = (m ((c : Thread nD τ).loc main_arg5) : S128.Idx → EReal) (ix1 k) := by
  show V m c main_v12 (((cfg0.win 4).blk (pt b t)).view.emb (ix2 0 k)) = _
  rw [emb4, V12]

theorem blk5 (c : Dev nD) (b : Fin 16) (t : Fin 2048) :
    iblk m c 5 (pt b t) (ix3 0 (rowIn t) 0) = (m ((c : Thread nD τ).loc main_arg1) : S16x2048.Idx → BitVec 32) (ix2 b t) := by
  show V m c main_v8 (((cfg0.win 5).blk (pt b t)).view.emb (ix3 0 (rowIn t) 0)) = _
  rw [emb5, V8]

theorem blk6 (c : Dev nD) (b : Fin 16) (t : Fin 2048) (d : Fin 128) :
    iblk m c 6 (pt b t) (ix2 0 d) = freq ⟨d.val % 64, Nat.mod_lt _ (by decide)⟩ := by
  show V m c main_v7 (((cfg0.win 6).blk (pt b t)).view.emb (ix2 0 d)) = _
  rw [emb6, V7, freqs_apply]

theorem blk7 (c : Dev nD) (b : Fin 16) (t : Fin 2048) (k : Fin 512) (d : Fin 256) :
    iblk m c 7 (pt b t) (ix2 k d) = if k.val % 256 / 128 = d.val / 128 then ((1 / 128 : ℝ) : EReal) else 0 := by
  show V m c main_cst (((cfg0.win 7).blk (pt b t)).view.emb (ix2 k d)) = _
  rw [emb7, Vcst, meanTab_apply]

end Cert.Proof.Qkv
end
-- ==== Proof.Qkv.Value.lean ====
module

public import proofs.«01_k».proof.Proof.Qkv.Out
public import proofs.«01_k».proof.Proof.Qkv.Host
public import proofs.«01_k».proof.Proof.Moba.Value
public import proofs.«01_k».proof.Defs
public import Idealize.ShloMosaic.Lib.ReduceAll

@[expose] public section

set_option maxRecDepth 65536

noncomputable section

namespace Cert.Proof.Qkv

open Idealize.ShloMosaic Idealize.SL.Sem Idealize.ShloMosaic.Pipeline Idealize.ShloMosaic.TcCoe Cert.Kernel5Ideal Cert.Kernel5Ideal.Gen

/-! ## What the turn of a head comes to -/

theorem scale_bits : ∃ s : ℝ, 0 ≤ s ∧ Ideal.ofBits .f32 0x3E0293EE#32 = (s : EReal) := by
  refine ⟨_, ?_, by simp [Ideal.ofBits, Ideal.ieee, -EReal.coe_mul]; rfl⟩
  positivity

theorem turn_plain (u g co si : Fin 128 → EReal) (d : Fin 128) :
    u d * (g d * co d) + u (other d) * (g (other d) * signed d (si d)) = turned u g co si d := by
  unfold turned
  rw [mul_assoc, mul_assoc]

theorem turn_scaled (u g co si : Fin 128 → EReal) (d : Fin 128) (s : EReal) (h0 : 0 ≤ s) (h1 : s ≠ ⊤) :
    u d * (g d * s * co d) + u (other d) * (g (other d) * s * signed d (si d)) = turned u g co si d * s := by
  unfold turned
  rw [EReal.right_distrib_of_nonneg_of_ne_top h0 h1]
  refine congrArg₂ (· + ·) ?_ ?_
  · rw [mul_right_comm (g d) s, mul_assoc (u d * g d), mul_assoc (u d), mul_assoc (g d)]
  · rw [mul_right_comm (g (other d)) s, mul_assoc (u (other d) * g (other d)), mul_assoc (u (other d)), mul_assoc (g (other d))]

/-! ## The inputs are numbers -/

instance : Cert.Pre_finite_rows.Facts where
  bcast_S_S16x2048x1024 := by decide
  reducesTo_S16x2048x1024_S_d0_1_2 := by decide
  h_S_ := by decide
  bcast_S_S1024 := by decide
  reducesTo_S1024_S_d0 := by decide
  bcast_S_S1024x3072 := by decide
  reducesTo_S1024x3072_S_d0_1 := by decide

variable (m : (ℓ : Loc nD τ sig) → Buf (Elt Ideal) ℓ)

abbrev xs (c : Dev nD) : S16x2048x1024.Idx → EReal := m ((c : Thread nD τ).loc main_arg0)
abbrev ps (c : Dev nD) : S16x2048.Idx → BitVec 32 := m ((c : Thread nD τ).loc main_arg1)
abbrev gs (c : Dev nD) : S1024.Idx → EReal := m ((c : Thread nD τ).loc main_arg2)
abbrev ws (c : Dev nD) : S1024x3072.Idx → EReal := m ((c : Thread nD τ).loc main_arg3)
abbrev qgs (c : Dev nD) : S128.Idx → EReal := m ((c : Thread nD τ).loc main_arg4)
abbrev kgs (c : Dev nD) : S128.Idx → EReal := m ((c : Thread nD τ).loc main_arg5)

theorem reals (hm : Cert.Pre_Kernel5Ideal_finite_rows m) (c : Dev nD) :
    (∀ i, ∃ y : ℝ, xs m c i = (y : EReal)) ∧ (∀ i, ∃ y : ℝ, gs m c i = (y : EReal)) ∧ ∀ i, ∃ y : ℝ, ws m c i = (y : EReal) := by
  have ha : ∀ x y : BitVec 1, IntOp.andi x y = 1#1 → x = 1#1 ∧ y = 1#1 := by decide
  have h := congrFun (hm c) (fun a : Fin 0 => a.elim0)
  obtain ⟨h12, h3⟩ := ha _ _ h
  obtain ⟨h1, h2⟩ := ha _ _ h12
  refine ⟨fun i => Moba.finite_real _ ?_, fun i => Moba.finite_real _ ?_, fun i => Moba.finite_real _ ?_⟩
  · exact Host.reduce_andi_all _ _ _ _ _ h1 i
  · exact Host.reduce_andi_all _ _ _ _ _ h2 i
  · exact Host.reduce_andi_all _ _ _ _ _ h3 i

/-- The norm of a row of numbers, scaled by numbers, is numbers. -/
theorem nrm_real (y g : Fin 1024 → ℝ) (i : Fin 1024) :
    ∃ x : ℝ, Ffn.nrmRow (fun k => (y k : EReal)) (fun k => (g k : EReal)) i = (x : EReal) := by
  obtain ⟨n, hn, en⟩ : ∃ n : ℝ, 0 < n ∧ Ideal.ofBits .f32 0x44800000#32 = (n : EReal) :=
    ⟨1024, by norm_num, by simp [Ideal.ofBits, Ideal.ieee, -EReal.coe_mul]; norm_num⟩
  obtain ⟨e, he, ee⟩ : ∃ e : ℝ, 0 < e ∧ Ideal.ofBits .f32 0x358637BD#32 = (e : EReal) := by
    refine ⟨_, ?_, by simp [Ideal.ofBits, Ideal.ieee, -EReal.coe_mul]; rfl⟩
    positivity
  have hs : 0 ≤ ∑ k : Fin 1024, y k * y k := Finset.sum_nonneg fun k _ => mul_self_nonneg _
  have hp : 0 < (∑ k : Fin 1024, y k * y k) * (1 / n) + e := by positivity
  have er : Ideal.rsqrt (((∑ k : Fin 1024, y k * y k) * (1 / n) + e : ℝ) : EReal) = (((Real.sqrt ((∑ k : Fin 1024, y k * y k) * (1 / n) + e))⁻¹ : ℝ) : EReal) := by
    show (if _ < (0 : ℝ) then _ else if _ = (0 : ℝ) then _ else _) = _
    rw [if_neg (not_lt.mpr hp.le), if_neg hp.ne']
  refine ⟨y i * (Real.sqrt ((∑ k : Fin 1024, y k * y k) * (1 / n) + e))⁻¹ * g i, ?_⟩
  unfold Ffn.nrmRow
  rw [en, ee, Ideal.div_coe hn.ne']
  simp only [← EReal.coe_mul, ← Moba.coe_sum, ← EReal.coe_add]
  rw [er]
  simp only [← EReal.coe_mul]

/-! ## One grid point's three results -/

section

variable (c : Dev nD) (b : Fin 16) (t : Fin 2048)

theorem weight_real (hm : Cert.Pre_Kernel5Ideal_finite_rows m) (k : Fin 1024) (d : Fin 3072) : ∃ x : ℝ, iblk m c 2 (pt b t) (ix2 k d) = (x : EReal) := by
  rw [blk2]
  exact (reals m hm c).2.2 _

theorem row_back (b : Fin 16) (t : Fin 2048) (r : Fin 512) : ∃ t' : Fin 2048, pt b t' = pt b t ∧ rowIn t' = r := by
  have := t.isLt
  have := r.isLt
  refine ⟨⟨t.val / 512 * 512 + r.val, by omega⟩, Fin.ext ?_, Fin.ext ?_⟩
  · show 4 * b.val + (t.val / 512 * 512 + r.val) / 512 = 4 * b.val + t.val / 512
    omega
  · show (t.val / 512 * 512 + r.val) % 512 = r.val
    omega

theorem nrm_blk (k : Fin 1024) : k0_pay3 (F := Ideal) (iblk m c 0 (pt b t)) (iblk m c 1 (pt b t)) (ix2 (rowIn t) k)
    = Ffn.nrmRow (fun k => xs m c (ix3 b t k)) (fun k => gs m c (ix1 k)) k := by
  rw [nrm_apply]
  simp only [blk0, blk1]

theorem nrm_blk_real (hm : Cert.Pre_Kernel5Ideal_finite_rows m) (r : Fin 512) (k : Fin 1024) :
    ∃ x : ℝ, k0_pay3 (F := Ideal) (iblk m c 0 (pt b t)) (iblk m c 1 (pt b t)) (ix2 r k) = (x : EReal) := by
  obtain ⟨t', e, rfl⟩ := row_back b t r
  obtain ⟨h0, h1, -⟩ := reals m hm c
  choose xr hx using h0
  choose gr hg using h1
  rw [← e, nrm_blk]
  simp only [hx, hg]
  exact nrm_real (fun k => xr (ix3 b t' k)) (fun k => gr (ix1 k)) k

theorem proj_blk (s : Fin 3) (h : Fin 8) :
    proj (k0_pay3 (F := Ideal) (iblk m c 0 (pt b t)) (iblk m c 1 (pt b t))) (iblk m c 2 (pt b t)) (1024 * s.val + 128 * h.val) (rowIn t)
      = headRow (fun k => xs m c (ix3 b t k)) (fun k => gs m c (ix1 k)) (headCols (ws m c) s h) := by
  funext d
  unfold proj headRow headCols
  simp only [nrm_blk, blk2]

theorem place_blk : place1 (iblk m c 5 (pt b t)) (rowIn t) = place (ps m c) b t := by
  show (FloatOps.sitofp (F := Ideal) .f32 (iblk m c 5 (pt b t) (ix3 0 (rowIn t) 0)) : EReal) = FloatOps.sitofp (F := Ideal) .f32 (ps m c (ix2 b t))
  rw [blk5]

variable (hm : Cert.Pre_Kernel5Ideal_finite_rows m) (h : Fin 8) (d : Fin 128)

theorem v_blk : (dats m 0 c).arrAt 10 cfg0.N (ix4 b h t d)
    = headRow (fun k => xs m c (ix3 b t k)) (fun k => gs m c (ix1 k)) (headCols (ws m c) 2 h) d := by
  have hb := congrFun (Cert.Kernel5Ideal.Value.blocks10 m c (pt b t) (idx_facts (pt b t)).2.2.2.2.2.2.2.2.2.2.2.2.2) (ix4 0 h (rowIn t) d)
  rw [Cert.Kernel5Ideal.Value.flushed10, v_eq] at hb
  have hb' : (dats m 0 c).arrAt 10 cfg0.N (((cfg0.win 10).blk (pt b t)).view.emb (ix4 0 h (rowIn t) d))
    = proj (k0_pay3 (F := Ideal) (iblk m c 0 (pt b t)) (iblk m c 1 (pt b t))) (iblk m c 2 (pt b t)) (1024 * (2 : Fin 3).val + 128 * h.val) (rowIn t) d := hb
  rw [emb10, proj_blk] at hb'
  exact hb'

include hm in
theorem k_blk : (dats m 0 c).arrAt 9 cfg0.N (ix4 b h t d)
    = keyRow (fun k => xs m c (ix3 b t k)) (fun k => gs m c (ix1 k)) (headCols (ws m c) 1 h) (fun k => kgs m c (ix1 k)) (place (ps m c) b t) freq d := by
  have hb := congrFun (Cert.Kernel5Ideal.Value.blocks9 m c (pt b t) (idx_facts (pt b t)).2.2.2.2.2.2.2.2.2.2.2.2.1) (ix4 0 h (rowIn t) d)
  rw [Cert.Kernel5Ideal.Value.flushed9, k_eq _ _ _ _ _ _ _ _ (blk7 m c b t) (nrm_blk_real m c b t hm) (weight_real m c b t hm)] at hb
  have hb' : (dats m 0 c).arrAt 9 cfg0.N (((cfg0.win 9).blk (pt b t)).view.emb (ix4 0 h (rowIn t) d))
    = headNrm (proj (k0_pay3 (F := Ideal) (iblk m c 0 (pt b t)) (iblk m c 1 (pt b t))) (iblk m c 2 (pt b t)) (1024 * (1 : Fin 3).val + 128 * h.val) (rowIn t)) d
        * k0_pay15 (F := Ideal) (k0_pay6 (iblk m c 5 (pt b t)) (iblk m c 6 (pt b t))) (iblk m c 4 (pt b t)) (ix2 (rowIn t) d)
      + headNrm (proj (k0_pay3 (F := Ideal) (iblk m c 0 (pt b t)) (iblk m c 1 (pt b t))) (iblk m c 2 (pt b t)) (1024 * (1 : Fin 3).val + 128 * h.val) (rowIn t)) (other d)
        * k0_pay16 (F := Ideal) k0_pay4 (k0_pay7 (iblk m c 5 (pt b t)) (iblk m c 6 (pt b t))) (k0_pay8 (iblk m c 5 (pt b t)) (iblk m c 6 (pt b t)))
            (k0_pay9 (iblk m c 5 (pt b t)) (iblk m c 6 (pt b t))) (iblk m c 4 (pt b t)) (ix2 (rowIn t) d) := hb
  rw [emb9, proj_blk, keyA _ _ freq (blk6 m c b t), keyB _ _ freq (blk6 m c b t), blk4, blk4, place_blk] at hb'
  rw [hb']
  exact turn_plain _ (fun k => kgs m c (ix1 k)) (fun d => Ideal.cos (angle (place (ps m c) b t) freq d)) (fun d => Ideal.sin (angle (place (ps m c) b t) freq d)) d

include hm in
theorem q_blk : (dats m 0 c).arrAt 8 cfg0.N (ix4 b h t d)
    = keyRow (fun k => xs m c (ix3 b t k)) (fun k => gs m c (ix1 k)) (headCols (ws m c) 0 h) (fun k => qgs m c (ix1 k)) (place (ps m c) b t) freq d
      * Ideal.ofBits .f32 0x3E0293EE#32 := by
  have hb := congrFun (Cert.Kernel5Ideal.Value.blocks8 m c (pt b t) (idx_facts (pt b t)).2.2.2.2.2.2.2.2.2.2.2.1) (ix4 0 h (rowIn t) d)
  rw [Cert.Kernel5Ideal.Value.flushed8, q_eq _ _ _ _ _ _ _ _ (blk7 m c b t) (nrm_blk_real m c b t hm) (weight_real m c b t hm)] at hb
  have hb' : (dats m 0 c).arrAt 8 cfg0.N (((cfg0.win 8).blk (pt b t)).view.emb (ix4 0 h (rowIn t) d))
    = headNrm (proj (k0_pay3 (F := Ideal) (iblk m c 0 (pt b t)) (iblk m c 1 (pt b t))) (iblk m c 2 (pt b t)) (1024 * (0 : Fin 3).val + 128 * h.val) (rowIn t)) d
        * k0_pay12 (F := Ideal) (k0_pay6 (iblk m c 5 (pt b t)) (iblk m c 6 (pt b t))) (iblk m c 3 (pt b t)) (ix2 (rowIn t) d)
      + headNrm (proj (k0_pay3 (F := Ideal) (iblk m c 0 (pt b t)) (iblk m c 1 (pt b t))) (iblk m c 2 (pt b t)) (1024 * (0 : Fin 3).val + 128 * h.val) (rowIn t)) (other d)
        * k0_pay13 (F := Ideal) k0_pay4 (k0_pay7 (iblk m c 5 (pt b t)) (iblk m c 6 (pt b t))) (k0_pay8 (iblk m c 5 (pt b t)) (iblk m c 6 (pt b t)))
            (k0_pay9 (iblk m c 5 (pt b t)) (iblk m c 6 (pt b t))) (iblk m c 3 (pt b t)) (ix2 (rowIn t) d) := hb
  rw [emb8, proj_blk, queryA _ _ freq (blk6 m c b t), queryB _ _ freq (blk6 m c b t), blk3, blk3, place_blk] at hb'
  rw [hb']
  obtain ⟨s, h0, es⟩ := scale_bits
  exact turn_scaled _ (fun k => qgs m c (ix1 k)) (fun d => Ideal.cos (angle (place (ps m c) b t) freq d)) (fun d => Ideal.sin (angle (place (ps m c) b t) freq d)) d _
    (es ▸ EReal.coe_nonneg.mpr h0) (es ▸ EReal.coe_ne_top s)

end

/-! ## The three results agree, element by element -/

theorem idx4 (i : S16x8x2048x128.Idx) : i = ix4 (i 0) (i 1) (i 2) (i 3) := by
  funext a
  match a with
  | ⟨0, _⟩ => rfl
  | ⟨1, _⟩ => rfl
  | ⟨2, _⟩ => rfl
  | ⟨3, _⟩ => rfl

theorem q_result (hm : Cert.Pre_Kernel5Ideal_finite_rows m) (c : Dev nD) :
    (Cert.Reference5Ideal.Read.val_main_v110 (F := Ideal) (xs m c) (ps m c) (gs m c) (ws m c) (qgs m c) : S16x8x2048x128.Idx → EReal) = (dats m 0 c).arrAt 8 cfg0.N := by
  funext i
  rw [idx4 i]
  exact (ref0 _ _ _ _ _ _ _ _ _).trans (q_blk m c _ _ hm _ _).symm

theorem k_result (hm : Cert.Pre_Kernel5Ideal_finite_rows m) (c : Dev nD) :
    (Cert.Reference5Ideal.Read.val_main_v111 (F := Ideal) (xs m c) (ps m c) (gs m c) (ws m c) (kgs m c) : S16x8x2048x128.Idx → EReal) = (dats m 0 c).arrAt 9 cfg0.N := by
  funext i
  rw [idx4 i]
  exact (ref1 _ _ _ _ _ _ _ _ _).trans (k_blk m c _ _ hm _ _).symm

theorem v_result (c : Dev nD) :
    (Cert.Reference5Ideal.Read.val_main_v112 (F := Ideal) (xs m c) (gs m c) (ws m c) : S16x8x2048x128.Idx → EReal) = (dats m 0 c).arrAt 10 cfg0.N := by
  funext i
  rw [idx4 i]
  exact (ref2 _ _ _ _ _ _ _).trans (v_blk m c _ _ _ _).symm

/-! ## The same for equal arguments -/

theorem q_results_eq (hm : Cert.Pre_Kernel5Ideal_finite_rows m) (c : Dev nD) (x0 : S16x2048x1024.Idx → EReal) (x1 : S16x2048.Idx → BitVec 32)
    (x2 : S1024.Idx → EReal) (x3 : S1024x3072.Idx → EReal) (x4 : S128.Idx → EReal)
    (h0 : x0 = xs m c) (h1 : x1 = ps m c) (h2 : x2 = gs m c) (h3 : x3 = ws m c) (h4 : x4 = qgs m c) :
    (Cert.Reference5Ideal.Read.val_main_v110 (F := Ideal) x0 x1 x2 x3 x4 : S16x8x2048x128.Idx → EReal) = (dats m 0 c).arrAt 8 cfg0.N := by
  subst h0 h1 h2 h3 h4
  exact q_result m hm c

theorem k_results_eq (hm : Cert.Pre_Kernel5Ideal_finite_rows m) (c : Dev nD) (x0 : S16x2048x1024.Idx → EReal) (x1 : S16x2048.Idx → BitVec 32)
    (x2 : S1024.Idx → EReal) (x3 : S1024x3072.Idx → EReal) (x5 : S128.Idx → EReal)
    (h0 : x0 = xs m c) (h1 : x1 = ps m c) (h2 : x2 = gs m c) (h3 : x3 = ws m c) (h5 : x5 = kgs m c) :
    (Cert.Reference5Ideal.Read.val_main_v111 (F := Ideal) x0 x1 x2 x3 x5 : S16x8x2048x128.Idx → EReal) = (dats m 0 c).arrAt 9 cfg0.N := by
  subst h0 h1 h2 h3 h5
  exact k_result m hm c

theorem v_results_eq (c : Dev nD) (x0 : S16x2048x1024.Idx → EReal) (x2 : S1024.Idx → EReal) (x3 : S1024x3072.Idx → EReal)
    (h0 : x0 = xs m c) (h2 : x2 = gs m c) (h3 : x3 = ws m c) :
    (Cert.Reference5Ideal.Read.val_main_v112 (F := Ideal) x0 x2 x3 : S16x8x2048x128.Idx → EReal) = (dats m 0 c).arrAt 10 cfg0.N := by
  subst h0 h2 h3
  exact v_result m c

end Cert.Proof.Qkv
end
-- ==== Proof.lean ====
module

public import proofs.«01_k».proof.Proof.Gen.Kernel5
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Reference2Ideal
public import proofs.«01_k».proof.Proof.Gen.Kernel2
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Reference3Ideal
public import proofs.«01_k».proof.Proof.Gen.Kernel3
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Reference4Ideal
public import proofs.«01_k».proof.Proof.Gen.Kernel4
public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Moba.Frames
public import proofs.«01_k».proof.Proof.Moba.Value
public import proofs.«01_k».proof.Proof.Ffn.Frames
public import proofs.«01_k».proof.Proof.Ffn.First
public import proofs.«01_k».proof.Proof.Ffn.Attn
public import proofs.«01_k».proof.Proof.Ffn.Ssm
public import proofs.«01_k».proof.Proof.Qkv.Frames
public import proofs.«01_k».proof.Proof.Qkv.Value
public import Idealize.ShloMosaic.Adequacy
public import Idealize.ShloMosaic.Init

@[expose] public section

noncomputable section

namespace Cert.Proof

open Idealize.ShloMosaic Idealize.SL.Sem Cert.Proof.Moba

/-- Over the extended reals the kernel and the reference compute the same attention. -/
theorem algebraic : Cert.algebraic_KernelIdeal_ReferenceIdeal_pre_finite := by
  intro m ρ m' ρ' hm hagree
  refine ⟨fun c => (Cert.KernelIdeal.Gen.dats m 0 c).arrAt 3 Cert.KernelIdeal.cfg0.N, Cert.KernelIdeal.Value.run_blocks (F := Ideal) m ρ, ?_⟩
  refine (θ_run Cert.ReferenceIdeal.defs _ _).mono (fun r h c => ?_) (Cert.ReferenceIdeal.Value.run (F := Ideal) m' ρ')
  obtain ⟨hv, hargs⟩ := h c
  obtain ⟨e0, e1, e2⟩ := hagree c
  exact ⟨(hv.trans (Cert.ReferenceIdeal.Read.val_main_v107_eq m' c)).trans (results_eq m hm c _ _ _ e0 e1 e2), hargs⟩

/-- Over the extended reals the feed-forward part of the kernel is the reference's. -/
theorem algebraic2 : Cert.algebraic_Kernel2Ideal_Reference2Ideal := by
  intro m ρ m' ρ' hm hagree
  refine ⟨fun c => (Cert.Kernel2Ideal.Gen.dats m 0 c).arrAt 5 Cert.Kernel2Ideal.cfg0.N, Cert.Kernel2Ideal.Value.run_blocks (F := Ideal) m ρ, ?_⟩
  refine (θ_run Cert.Reference2Ideal.defs _ _).mono (fun r h c => ?_) (Cert.Reference2Ideal.Value.run (F := Ideal) m' ρ')
  obtain ⟨hv, hargs⟩ := h c
  obtain ⟨e0, e1, e2, e3, e4⟩ := hagree c
  exact ⟨(hv.trans (Cert.Reference2Ideal.Read.val_main_v21_eq _ _ _ _ _)).trans (Ffn.First.results_eq m c _ _ _ _ _ e0 e1 e2 e3 e4), hargs⟩

/-- The same, after the projection of the attention's output. -/
theorem algebraic3 : Cert.algebraic_Kernel3Ideal_Reference3Ideal := by
  intro m ρ m' ρ' hm hagree
  refine ⟨fun c => (Cert.Kernel3Ideal.Gen.dats m 0 c).arrAt 7 Cert.Kernel3Ideal.cfg0.N, Cert.Kernel3Ideal.Value.run_blocks (F := Ideal) m ρ, ?_⟩
  refine (θ_run Cert.Reference3Ideal.defs _ _).mono (fun r h c => ?_) (Cert.Reference3Ideal.Value.run (F := Ideal) m' ρ')
  obtain ⟨hv, hargs⟩ := h c
  obtain ⟨e0, e1, e2, e3, e4, e5, e6⟩ := hagree c
  exact ⟨(hv.trans (Cert.Reference3Ideal.Read.val_main_v23_eq m' c)).trans (Ffn.Attn.results_eq m c _ _ _ _ _ _ _ e0 e1 e2 e3 e4 e5 e6), hargs⟩

/-- The same, after the projection of the state-space mixer's output. -/
theorem algebraic4 : Cert.algebraic_Kernel4Ideal_Reference4Ideal := by
  intro m ρ m' ρ' hm hagree
  refine ⟨fun c => (Cert.Kernel4Ideal.Gen.dats m 0 c).arrAt 7 Cert.Kernel4Ideal.cfg0.N, Cert.Kernel4Ideal.Value.run_blocks (F := Ideal) m ρ, ?_⟩
  refine (θ_run Cert.Reference4Ideal.defs _ _).mono (fun r h c => ?_) (Cert.Reference4Ideal.Value.run (F := Ideal) m' ρ')
  obtain ⟨hv, hargs⟩ := h c
  obtain ⟨e0, e1, e2, e3, e4, e5, e6⟩ := hagree c
  exact ⟨(hv.trans (Cert.Reference4Ideal.Read.val_main_v23_eq m' c)).trans (Ffn.Ssm.results_eq m c _ _ _ _ _ _ _ e0 e1 e2 e3 e4 e5 e6), hargs⟩

/-- The queries, keys and values that the projection gives are the reference's. -/
theorem algebraic5 : Cert.algebraic_Kernel5Ideal_Reference5Ideal_pre_finite_rows := by
  intro m ρ m' ρ' hm hagree
  refine ⟨fun c => (Cert.Kernel5Ideal.Gen.dats m 0 c).arrAt 8 Cert.Kernel5Ideal.cfg0.N,
    fun c => (Cert.Kernel5Ideal.Gen.dats m 0 c).arrAt 9 Cert.Kernel5Ideal.cfg0.N,
    fun c => (Cert.Kernel5Ideal.Gen.dats m 0 c).arrAt 10 Cert.Kernel5Ideal.cfg0.N,
    Cert.Kernel5Ideal.Value.run_blocks (F := Ideal) m ρ, ?_⟩
  refine (θ_run Cert.Reference5Ideal.defs _ _).mono (fun r h c => ?_) (Cert.Reference5Ideal.Value.run (F := Ideal) m' ρ')
  obtain ⟨hq, hk, hv, hargs⟩ := h c
  obtain ⟨e0, e1, e2, e3, e4, e5⟩ := hagree c
  exact ⟨(hq.trans (Cert.Reference5Ideal.Read.val_main_v110_eq m' c)).trans (Qkv.q_results_eq m hm c _ _ _ _ _ e0 e1 e2 e3 e4),
    (hk.trans (Cert.Reference5Ideal.Read.val_main_v111_eq m' c)).trans (Qkv.k_results_eq m hm c _ _ _ _ _ e0 e1 e2 e3 e5),
    (hv.trans (Cert.Reference5Ideal.Read.val_main_v112_eq _ _ _)).trans (Qkv.v_results_eq m c _ _ _ e0 e2 e3), hargs⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, inferInstance, inferInstance,
    frame_kernel, frame_ideal, fun m ρ _ => frame_ideal m ρ trivial, frame_reference, fun m ρ _ => frame_reference m ρ trivial,
    Ffn.First.frame_kernel, Ffn.First.frame_ideal, Ffn.First.frame_reference,
    Ffn.Attn.frame_kernel, Ffn.Attn.frame_ideal, Ffn.Attn.frame_reference,
    Ffn.Ssm.frame_kernel, Ffn.Ssm.frame_ideal, Ffn.Ssm.frame_reference,
    Qkv.frame_kernel, Qkv.frame_ideal, fun m ρ _ => Qkv.frame_ideal m ρ trivial,
    Qkv.frame_reference, fun m ρ _ => Qkv.frame_reference m ρ trivial,
    trivial, algebraic, trivial, algebraic2, trivial, algebraic3, trivial, algebraic4, trivial, algebraic5⟩

end Cert.Proof

end
